-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def preserves_Kernel_KernelIdeal : Prop :=
  IdealRules.bf16_pair.BufferStatement Cert.KernelIdeal.S6152x2x128 Cert.KernelIdeal.S6152x1x128
  ∧ IdealRules.bf16_pair.Statement Cert.KernelIdeal.S128x128 Cert.KernelIdeal.S64x128
  ∧ IdealRules.bf16_pair.Statement Cert.KernelIdeal.S64x2x128 Cert.KernelIdeal.S64x1x128
  ∧ IdealRules.bf16_pair.Statement Cert.KernelIdeal.S8x2x128 Cert.KernelIdeal.S8x1x128
  ∧ IdealRules.bf16_pair.SelectZeroStatement Cert.KernelIdeal.S8x128
  ∧ IdealRules.bf16_pair.Statement Cert.KernelIdeal.S384x2x128 Cert.KernelIdeal.S384x1x128
  ∧ IdealRules.bf16_pair.Statement Cert.KernelIdeal.S768x128 Cert.KernelIdeal.S384x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Attend_AttendIdeal : Prop :=
  True

def Claim : Prop :=
  ∃ (hKernel : Cert.Kernel.Facts) (hKernelIdeal : Cert.KernelIdeal.Facts) (hReferenceIdeal : Cert.ReferenceIdeal.Facts) (hAttend : Cert.Attend.Facts) (hAttendIdeal : Cert.AttendIdeal.Facts),
    quiescent_Kernel (hKernel := hKernel)
    ∧ quiescent_KernelIdeal (hKernelIdeal := hKernelIdeal)
    ∧ quiescent_ReferenceIdeal (hReferenceIdeal := hReferenceIdeal)
    ∧ quiescent_Attend (hAttend := hAttend)
    ∧ quiescent_AttendIdeal (hAttendIdeal := hAttendIdeal)
    ∧ preserves_Kernel_KernelIdeal
    ∧ algebraic_KernelIdeal_ReferenceIdeal (hKernelIdeal := hKernelIdeal) (hReferenceIdeal := hReferenceIdeal)
    ∧ preserves_Attend_AttendIdeal
-- ==== Kernel.lean ====
abbrev S1x12288x6x128 : Shape := ⟨4, ![1, 12288, 6, 128]⟩
abbrev S1x12288x6 : Shape := ⟨3, ![1, 12288, 6]⟩
abbrev S32x128 : Shape := ⟨2, ![32, 128]⟩
abbrev S4096x3072 : Shape := ⟨2, ![4096, 3072]⟩
abbrev S3072 : Shape := ⟨1, ![3072]⟩
abbrev S3072x128 : Shape := ⟨2, ![3072, 128]⟩
abbrev S128 : Shape := ⟨1, ![128]⟩
abbrev S12288x6x128 : Shape := ⟨3, ![12288, 6, 128]⟩
abbrev S6x12288x128 : Shape := ⟨3, ![6, 12288, 128]⟩
abbrev S6x1x12288 : Shape := ⟨3, ![6, 1, 12288]⟩
abbrev S1x3072 : Shape := ⟨2, ![1, 3072]⟩
abbrev S1x128 : Shape := ⟨2, ![1, 128]⟩
abbrev S6x768x3072 : Shape := ⟨3, ![6, 768, 3072]⟩
abbrev S6x1x768 : Shape := ⟨3, ![6, 1, 768]⟩
abbrev S6x768x128 : Shape := ⟨3, ![6, 768, 128]⟩
abbrev S1x12288x128 : Shape := ⟨3, ![1, 12288, 128]⟩
abbrev S1x1x12288 : Shape := ⟨3, ![1, 1, 12288]⟩
abbrev S1x384x3072 : Shape := ⟨3, ![1, 384, 3072]⟩
abbrev S1x1x384 : Shape := ⟨3, ![1, 1, 384]⟩
abbrev S1x384x128 : Shape := ⟨3, ![1, 384, 128]⟩
abbrev S6152x128 : Shape := ⟨2, ![6152, 128]⟩
abbrev S384x4096 : Shape := ⟨2, ![384, 4096]⟩
abbrev S384x3072 : Shape := ⟨2, ![384, 3072]⟩
abbrev S1x1x128 : Shape := ⟨3, ![1, 1, 128]⟩
abbrev S128x128 : Shape := ⟨2, ![128, 128]⟩
abbrev S1x128x128 : Shape := ⟨3, ![1, 128, 128]⟩
abbrev S64x128 : Shape := ⟨2, ![64, 128]⟩
abbrev S8x128 : Shape := ⟨2, ![8, 128]⟩
abbrev S384x128 : Shape := ⟨2, ![384, 128]⟩
abbrev S384x2048 : Shape := ⟨2, ![384, 2048]⟩
abbrev S2048x256 : Shape := ⟨2, ![2048, 256]⟩
abbrev S384x256 : Shape := ⟨2, ![384, 256]⟩
abbrev S1x256 : Shape := ⟨2, ![1, 256]⟩
abbrev S384 : Shape := ⟨1, ![384]⟩
abbrev S384x1 : Shape := ⟨2, ![384, 1]⟩
abbrev S128x384 : Shape := ⟨2, ![128, 384]⟩
abbrev S1x384 : Shape := ⟨2, ![1, 384]⟩

abbrev nBuf : Space → Nat
  | .hbm => 20
  | .vmem => 22
  | .smem => 0
  | _ => 0

abbrev bufTy : (tb : Table) → Fin (tcTables nBuf tb) → BufTy
  | .hbm, ⟨0, _⟩ => ⟨S1x12288x6x128, .fp8e4m3⟩
  | .hbm, ⟨1, _⟩ => ⟨S1x12288x6, .f32⟩
  | .hbm, ⟨2, _⟩ => ⟨S32x128, .f32⟩
  | .hbm, ⟨3, _⟩ => ⟨S4096x3072, .fp8e4m3⟩
  | .hbm, ⟨4, _⟩ => ⟨S3072, .f32⟩
  | .hbm, ⟨5, _⟩ => ⟨S3072, .f32⟩
  | .hbm, ⟨6, _⟩ => ⟨S3072x128, .fp8e4m3⟩
  | .hbm, ⟨7, _⟩ => ⟨S128, .f32⟩
  | .hbm, ⟨8, _⟩ => ⟨S128, .f32⟩
  | .hbm, ⟨9, _⟩ => ⟨S12288x6x128, .fp8e4m3⟩
  | .hbm, ⟨10, _⟩ => ⟨S6x12288x128, .fp8e4m3⟩
  | .hbm, ⟨11, _⟩ => ⟨S6x1x12288, .f32⟩
  | .hbm, ⟨12, _⟩ => ⟨S1x3072, .f32⟩
  | .hbm, ⟨13, _⟩ => ⟨S1x3072, .f32⟩
  | .hbm, ⟨14, _⟩ => ⟨S1x128, .f32⟩
  | .hbm, ⟨15, _⟩ => ⟨S1x128, .f32⟩
  | .hbm, ⟨16, _⟩ => ⟨S6x768x3072, .fp8e4m3⟩
  | .hbm, ⟨17, _⟩ => ⟨S6x1x768, .f32⟩
  | .hbm, ⟨18, _⟩ => ⟨S6x768x128, .fp8e4m3⟩
  | .hbm, ⟨19, _⟩ => ⟨S6x1x768, .f32⟩
  | .local _ .vmem, ⟨0, _⟩ => ⟨S1x12288x128, .fp8e4m3⟩
  | .local _ .vmem, ⟨1, _⟩ => ⟨S1x12288x128, .fp8e4m3⟩
  | .local _ .vmem, ⟨2, _⟩ => ⟨S1x1x12288, .f32⟩
  | .local _ .vmem, ⟨3, _⟩ => ⟨S1x1x12288, .f32⟩
  | .local _ .vmem, ⟨4, _⟩ => ⟨S32x128, .f32⟩
  | .local _ .vmem, ⟨5, _⟩ => ⟨S4096x3072, .fp8e4m3⟩
  | .local _ .vmem, ⟨6, _⟩ => ⟨S1x3072, .f32⟩
  | .local _ .vmem, ⟨7, _⟩ => ⟨S1x3072, .f32⟩
  | .local _ .vmem, ⟨8, _⟩ => ⟨S3072x128, .fp8e4m3⟩
  | .local _ .vmem, ⟨9, _⟩ => ⟨S1x128, .f32⟩
  | .local _ .vmem, ⟨10, _⟩ => ⟨S1x128, .f32⟩
  | .local _ .vmem, ⟨11, _⟩ => ⟨S1x384x3072, .fp8e4m3⟩
  | .local _ .vmem, ⟨12, _⟩ => ⟨S1x384x3072, .fp8e4m3⟩
  | .local _ .vmem, ⟨13, _⟩ => ⟨S1x1x384, .f32⟩
  | .local _ .vmem, ⟨14, _⟩ => ⟨S1x1x384, .f32⟩
  | .local _ .vmem, ⟨15, _⟩ => ⟨S1x384x128, .fp8e4m3⟩
  | .local _ .vmem, ⟨16, _⟩ => ⟨S1x384x128, .fp8e4m3⟩
  | .local _ .vmem, ⟨17, _⟩ => ⟨S1x1x384, .f32⟩
  | .local _ .vmem, ⟨18, _⟩ => ⟨S1x1x384, .f32⟩
  | .local _ .vmem, ⟨19, _⟩ => ⟨S6152x128, .i32⟩
  | .local _ .vmem, ⟨20, _⟩ => ⟨S384x4096, .bf16⟩
  | .local _ .vmem, ⟨21, _⟩ => ⟨S384x3072, .f32⟩
  | _, _ => ⟨S1x12288x6x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [BitOps F]

abbrev grid0 : Pipeline.Grid := ⟨2, ![6, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_379 : BitVec 32 := 0#32
  let c96_i32 : BitVec 32 := 96#32
  let v957 : BitVec 32 := Scalar.addi c0_i32_379 c96_i32
  let c1_i32_380 : BitVec 32 := 1#32
  ⟨c0_i32_379, v957, c1_i32_380⟩
def k0_mult1 (k0_t1 : Fin k0_t1_loop.trips) : BitVec 32 :=
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c128_i32 : BitVec 32 := 128#32
  let v964 : BitVec 32 := Scalar.muli v963 c128_i32
  v964
def k0_off1 (k0_t1 : Fin k0_t1_loop.trips) : Fin 3 → Nat :=
  let c0_386 : Index := 0#32
  let c0_387 : Index := 0#32
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c128_i32 : BitVec 32 := 128#32
  let v964 : BitVec 32 := Scalar.muli v963 c128_i32
  let v965 : BitVec 32 := v964
  let v966 : Index := Scalar.indexCast v965
  ![0, 0, v966.toNat]
def k0_mult2 (k0_t1 : Fin k0_t1_loop.trips) : BitVec 32 :=
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c128_i32_388 : BitVec 32 := 128#32
  let v972 : BitVec 32 := Scalar.muli v963 c128_i32_388
  v972
def k0_off2 (k0_t1 : Fin k0_t1_loop.trips) : Fin 3 → Nat :=
  let c0_389 : Index := 0#32
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c128_i32_388 : BitVec 32 := 128#32
  let v972 : BitVec 32 := Scalar.muli v963 c128_i32_388
  let v973 : BitVec 32 := v972
  let v974 : Index := Scalar.indexCast v973
  let c0_390 : Index := 0#32
  ![0, v974.toNat, 0]
def k0_mult3 (k0_t1 : Fin k0_t1_loop.trips) : BitVec 32 :=
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c64_i32 : BitVec 32 := 64#32
  let v980 : BitVec 32 := Scalar.muli v963 c64_i32
  v980
def k0_off3 (k0_t1 : Fin k0_t1_loop.trips) : Fin 2 → Nat :=
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c64_i32 : BitVec 32 := 64#32
  let v980 : BitVec 32 := Scalar.muli v963 c64_i32
  let v981 : BitVec 32 := v980
  let v983 : Index := Scalar.indexCast v981
  let c0_391 : Index := 0#32
  ![v983.toNat, 0]
def k0_off4 (i : grid0.Coords) (c0_i32_2 : BitVec 32) : Fin 2 → Nat :=
  let arg1 : BitVec 32 := BitVec.ofNat 32 (i 1).val
  let c3072_i32 : BitVec 32 := 3072#32
  let v3 : BitVec 32 := Scalar.muli arg1 c3072_i32
  let v6 : BitVec 32 := Scalar.addi v3 c0_i32_2
  let v7 : Index := Scalar.indexCast v6
  let c0_3 : Index := 0#32
  ![v7.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x12288x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3072x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x384x3072 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x384x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
abbrev S1x12288x6x128 : Shape := ⟨4, ![1, 12288, 6, 128]⟩
abbrev S1x12288x6 : Shape := ⟨3, ![1, 12288, 6]⟩
abbrev S32x128 : Shape := ⟨2, ![32, 128]⟩
abbrev S4096x3072 : Shape := ⟨2, ![4096, 3072]⟩
abbrev S3072 : Shape := ⟨1, ![3072]⟩
abbrev S3072x128 : Shape := ⟨2, ![3072, 128]⟩
abbrev S128 : Shape := ⟨1, ![128]⟩
abbrev S12288x6x128 : Shape := ⟨3, ![12288, 6, 128]⟩
abbrev S6x12288x128 : Shape := ⟨3, ![6, 12288, 128]⟩
abbrev S6x1x12288 : Shape := ⟨3, ![6, 1, 12288]⟩
abbrev S1x3072 : Shape := ⟨2, ![1, 3072]⟩
abbrev S1x128 : Shape := ⟨2, ![1, 128]⟩
abbrev S6x768x3072 : Shape := ⟨3, ![6, 768, 3072]⟩
abbrev S6x1x768 : Shape := ⟨3, ![6, 1, 768]⟩
abbrev S6x768x128 : Shape := ⟨3, ![6, 768, 128]⟩
abbrev S1x12288x128 : Shape := ⟨3, ![1, 12288, 128]⟩
abbrev S1x1x12288 : Shape := ⟨3, ![1, 1, 12288]⟩
abbrev S1x384x3072 : Shape := ⟨3, ![1, 384, 3072]⟩
abbrev S1x1x384 : Shape := ⟨3, ![1, 1, 384]⟩
abbrev S1x384x128 : Shape := ⟨3, ![1, 384, 128]⟩
abbrev S6152x128 : Shape := ⟨2, ![6152, 128]⟩
abbrev S6152x2x128 : Shape := ⟨3, ![6152, 2, 128]⟩
abbrev S6152x1x128 : Shape := ⟨3, ![6152, 1, 128]⟩
abbrev S384x4096 : Shape := ⟨2, ![384, 4096]⟩
abbrev S384x3072 : Shape := ⟨2, ![384, 3072]⟩
abbrev S1x1x128 : Shape := ⟨3, ![1, 1, 128]⟩
abbrev S128x128 : Shape := ⟨2, ![128, 128]⟩
abbrev S1x128x128 : Shape := ⟨3, ![1, 128, 128]⟩
abbrev S64x128 : Shape := ⟨2, ![64, 128]⟩
abbrev S64x2x128 : Shape := ⟨3, ![64, 2, 128]⟩
abbrev S64x1x128 : Shape := ⟨3, ![64, 1, 128]⟩
abbrev S8x128 : Shape := ⟨2, ![8, 128]⟩
abbrev S8x2x128 : Shape := ⟨3, ![8, 2, 128]⟩
abbrev S8x1x128 : Shape := ⟨3, ![8, 1, 128]⟩
abbrev S384x128 : Shape := ⟨2, ![384, 128]⟩
abbrev S384x2x128 : Shape := ⟨3, ![384, 2, 128]⟩
abbrev S384x1x128 : Shape := ⟨3, ![384, 1, 128]⟩
abbrev S768x128 : Shape := ⟨2, ![768, 128]⟩
abbrev S384x2048 : Shape := ⟨2, ![384, 2048]⟩
abbrev S2048x256 : Shape := ⟨2, ![2048, 256]⟩
abbrev S384x256 : Shape := ⟨2, ![384, 256]⟩
abbrev S1x256 : Shape := ⟨2, ![1, 256]⟩
abbrev S384 : Shape := ⟨1, ![384]⟩
abbrev S384x1 : Shape := ⟨2, ![384, 1]⟩
abbrev S128x384 : Shape := ⟨2, ![128, 384]⟩
abbrev S1x384 : Shape := ⟨2, ![1, 384]⟩

abbrev nBuf : Space → Nat
  | .hbm => 20
  | .vmem => 22
  | .smem => 0
  | _ => 0

abbrev bufTy : (tb : Table) → Fin (tcTables nBuf tb) → BufTy
  | .hbm, ⟨0, _⟩ => ⟨S1x12288x6x128, .fp8e4m3⟩
  | .hbm, ⟨1, _⟩ => ⟨S1x12288x6, .f32⟩
  | .hbm, ⟨2, _⟩ => ⟨S32x128, .f32⟩
  | .hbm, ⟨3, _⟩ => ⟨S4096x3072, .fp8e4m3⟩
  | .hbm, ⟨4, _⟩ => ⟨S3072, .f32⟩
  | .hbm, ⟨5, _⟩ => ⟨S3072, .f32⟩
  | .hbm, ⟨6, _⟩ => ⟨S3072x128, .fp8e4m3⟩
  | .hbm, ⟨7, _⟩ => ⟨S128, .f32⟩
  | .hbm, ⟨8, _⟩ => ⟨S128, .f32⟩
  | .hbm, ⟨9, _⟩ => ⟨S12288x6x128, .fp8e4m3⟩
  | .hbm, ⟨10, _⟩ => ⟨S6x12288x128, .fp8e4m3⟩
  | .hbm, ⟨11, _⟩ => ⟨S6x1x12288, .f32⟩
  | .hbm, ⟨12, _⟩ => ⟨S1x3072, .f32⟩
  | .hbm, ⟨13, _⟩ => ⟨S1x3072, .f32⟩
  | .hbm, ⟨14, _⟩ => ⟨S1x128, .f32⟩
  | .hbm, ⟨15, _⟩ => ⟨S1x128, .f32⟩
  | .hbm, ⟨16, _⟩ => ⟨S6x768x3072, .fp8e4m3⟩
  | .hbm, ⟨17, _⟩ => ⟨S6x1x768, .f32⟩
  | .hbm, ⟨18, _⟩ => ⟨S6x768x128, .fp8e4m3⟩
  | .hbm, ⟨19, _⟩ => ⟨S6x1x768, .f32⟩
  | .local _ .vmem, ⟨0, _⟩ => ⟨S1x12288x128, .fp8e4m3⟩
  | .local _ .vmem, ⟨1, _⟩ => ⟨S1x12288x128, .fp8e4m3⟩
  | .local _ .vmem, ⟨2, _⟩ => ⟨S1x1x12288, .f32⟩
  | .local _ .vmem, ⟨3, _⟩ => ⟨S1x1x12288, .f32⟩
  | .local _ .vmem, ⟨4, _⟩ => ⟨S32x128, .f32⟩
  | .local _ .vmem, ⟨5, _⟩ => ⟨S4096x3072, .fp8e4m3⟩
  | .local _ .vmem, ⟨6, _⟩ => ⟨S1x3072, .f32⟩
  | .local _ .vmem, ⟨7, _⟩ => ⟨S1x3072, .f32⟩
  | .local _ .vmem, ⟨8, _⟩ => ⟨S3072x128, .fp8e4m3⟩
  | .local _ .vmem, ⟨9, _⟩ => ⟨S1x128, .f32⟩
  | .local _ .vmem, ⟨10, _⟩ => ⟨S1x128, .f32⟩
  | .local _ .vmem, ⟨11, _⟩ => ⟨S1x384x3072, .fp8e4m3⟩
  | .local _ .vmem, ⟨12, _⟩ => ⟨S1x384x3072, .fp8e4m3⟩
  | .local _ .vmem, ⟨13, _⟩ => ⟨S1x1x384, .f32⟩
  | .local _ .vmem, ⟨14, _⟩ => ⟨S1x1x384, .f32⟩
  | .local _ .vmem, ⟨15, _⟩ => ⟨S1x384x128, .fp8e4m3⟩
  | .local _ .vmem, ⟨16, _⟩ => ⟨S1x384x128, .fp8e4m3⟩
  | .local _ .vmem, ⟨17, _⟩ => ⟨S1x1x384, .f32⟩
  | .local _ .vmem, ⟨18, _⟩ => ⟨S1x1x384, .f32⟩
  | .local _ .vmem, ⟨19, _⟩ => ⟨S6152x2x128, .bf16⟩
  | .local _ .vmem, ⟨20, _⟩ => ⟨S384x4096, .bf16⟩
  | .local _ .vmem, ⟨21, _⟩ => ⟨S384x3072, .f32⟩
  | _, _ => ⟨S1x12288x6x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![6, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_379 : BitVec 32 := 0#32
  let c96_i32 : BitVec 32 := 96#32
  let v957 : BitVec 32 := Scalar.addi c0_i32_379 c96_i32
  let c1_i32_380 : BitVec 32 := 1#32
  ⟨c0_i32_379, v957, c1_i32_380⟩
def k0_mult1 (k0_t1 : Fin k0_t1_loop.trips) : BitVec 32 :=
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c128_i32 : BitVec 32 := 128#32
  let v964 : BitVec 32 := Scalar.muli v963 c128_i32
  v964
def k0_off1 (k0_t1 : Fin k0_t1_loop.trips) : Fin 3 → Nat :=
  let c0_386 : Index := 0#32
  let c0_387 : Index := 0#32
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c128_i32 : BitVec 32 := 128#32
  let v964 : BitVec 32 := Scalar.muli v963 c128_i32
  let v965 : BitVec 32 := v964
  let v966 : Index := Scalar.indexCast v965
  ![0, 0, v966.toNat]
def k0_mult2 (k0_t1 : Fin k0_t1_loop.trips) : BitVec 32 :=
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c128_i32_388 : BitVec 32 := 128#32
  let v972 : BitVec 32 := Scalar.muli v963 c128_i32_388
  v972
def k0_off2 (k0_t1 : Fin k0_t1_loop.trips) : Fin 3 → Nat :=
  let c0_389 : Index := 0#32
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c128_i32_388 : BitVec 32 := 128#32
  let v972 : BitVec 32 := Scalar.muli v963 c128_i32_388
  let v973 : BitVec 32 := v972
  let v974 : Index := Scalar.indexCast v973
  let c0_390 : Index := 0#32
  ![0, v974.toNat, 0]
def k0_mult3 (k0_t1 : Fin k0_t1_loop.trips) : BitVec 32 :=
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c64_i32 : BitVec 32 := 64#32
  let v980 : BitVec 32 := Scalar.muli v963 c64_i32
  v980
def k0_off3 (k0_t1 : Fin k0_t1_loop.trips) : Fin 3 → Nat :=
  let c0_i32_385 : BitVec 32 := 0#32
  let c0_i32_379 : BitVec 32 := 0#32
  let c1_i32_380 : BitVec 32 := 1#32
  let arg18 : BitVec 32 := Scf.iv c0_i32_379 c1_i32_380 k0_t1
  let c1_i32_384 : BitVec 32 := 1#32
  let v962 : BitVec 32 := Scalar.muli arg18 c1_i32_384
  let v963 : BitVec 32 := Scalar.addi c0_i32_385 v962
  let c64_i32 : BitVec 32 := 64#32
  let v980 : BitVec 32 := Scalar.muli v963 c64_i32
  let v981 : BitVec 32 := v980
  let v983 : Index := Scalar.indexCast v981
  let c0_391 : Index := 0#32
  ![v983.toNat, 0, 0]
def k0_off4 (i : grid0.Coords) (c0_i32_2 : BitVec 32) : Fin 3 → Nat :=
  let arg1 : BitVec 32 := BitVec.ofNat 32 (i 1).val
  let c3072_i32 : BitVec 32 := 3072#32
  let v3 : BitVec 32 := Scalar.muli arg1 c3072_i32
  let v6 : BitVec 32 := Scalar.addi v3 c0_i32_2
  let v7 : Index := Scalar.indexCast v6
  let c0_3 : Index := 0#32
  ![v7.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x12288x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3072x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x384x3072 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x384x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S1x12288x6x128 : Shape := ⟨4, ![1, 12288, 6, 128]⟩
abbrev S1x12288x6 : Shape := ⟨3, ![1, 12288, 6]⟩
abbrev S32x128 : Shape := ⟨2, ![32, 128]⟩
abbrev S4096x3072 : Shape := ⟨2, ![4096, 3072]⟩
abbrev S3072 : Shape := ⟨1, ![3072]⟩
abbrev S3072x128 : Shape := ⟨2, ![3072, 128]⟩
abbrev S128 : Shape := ⟨1, ![128]⟩
abbrev S12288x6x128 : Shape := ⟨3, ![12288, 6, 128]⟩
abbrev S6x12288x128 : Shape := ⟨3, ![6, 12288, 128]⟩
abbrev S12288x6 : Shape := ⟨2, ![12288, 6]⟩
abbrev S6x12288 : Shape := ⟨2, ![6, 12288]⟩
abbrev S1x3072 : Shape := ⟨2, ![1, 3072]⟩
abbrev S1x128 : Shape := ⟨2, ![1, 128]⟩
abbrev S6x768x3072 : Shape := ⟨3, ![6, 768, 3072]⟩
abbrev S6x1x768 : Shape := ⟨3, ![6, 1, 768]⟩
abbrev S6x768x128 : Shape := ⟨3, ![6, 768, 128]⟩
abbrev S6x12288x1 : Shape := ⟨3, ![6, 12288, 1]⟩
abbrev S6x16x128 : Shape := ⟨3, ![6, 16, 128]⟩
abbrev S6x12304x128 : Shape := ⟨3, ![6, 12304, 128]⟩
abbrev S6x769x16x128 : Shape := ⟨4, ![6, 769, 16, 128]⟩
abbrev S2x16x128 : Shape := ⟨3, ![2, 16, 128]⟩
abbrev S6x768x16x128 : Shape := ⟨4, ![6, 768, 16, 128]⟩
abbrev S1x16x128 : Shape := ⟨3, ![1, 16, 128]⟩
abbrev S16x128 : Shape := ⟨2, ![16, 128]⟩
abbrev S1x1x16x128 : Shape := ⟨4, ![1, 1, 16, 128]⟩
abbrev S4608x2048 : Shape := ⟨2, ![4608, 2048]⟩
abbrev S2x2048x3072 : Shape := ⟨3, ![2, 2048, 3072]⟩
abbrev S1x2048x3072 : Shape := ⟨3, ![1, 2048, 3072]⟩
abbrev S2048x3072 : Shape := ⟨2, ![2048, 3072]⟩
abbrev S4608x3072 : Shape := ⟨2, ![4608, 3072]⟩
abbrev S4608 : Shape := ⟨1, ![4608]⟩
abbrev S4608x1 : Shape := ⟨2, ![4608, 1]⟩
abbrev S1x253 : Shape := ⟨2, ![1, 253]⟩
abbrev S4608x253 : Shape := ⟨2, ![4608, 253]⟩
abbrev S4608x128 : Shape := ⟨2, ![4608, 128]⟩

abbrev nBuf : Space → Nat
  | .hbm => 21
  | .vmem => 13
  | .smem => 0
  | _ => 0

abbrev bufTy : (tb : Table) → Fin (tcTables nBuf tb) → BufTy
  | .hbm, ⟨0, _⟩ => ⟨S1x12288x6x128, .fp8e4m3⟩
  | .hbm, ⟨1, _⟩ => ⟨S1x12288x6, .f32⟩
  | .hbm, ⟨2, _⟩ => ⟨S32x128, .f32⟩
  | .hbm, ⟨3, _⟩ => ⟨S4096x3072, .fp8e4m3⟩
  | .hbm, ⟨4, _⟩ => ⟨S3072, .f32⟩
  | .hbm, ⟨5, _⟩ => ⟨S3072, .f32⟩
  | .hbm, ⟨6, _⟩ => ⟨S3072x128, .fp8e4m3⟩
  | .hbm, ⟨7, _⟩ => ⟨S128, .f32⟩
  | .hbm, ⟨8, _⟩ => ⟨S128, .f32⟩
  | .hbm, ⟨9, _⟩ => ⟨S12288x6x128, .fp8e4m3⟩
  | .hbm, ⟨10, _⟩ => ⟨S6x12288x128, .fp8e4m3⟩
  | .hbm, ⟨11, _⟩ => ⟨S12288x6, .f32⟩
  | .hbm, ⟨12, _⟩ => ⟨S6x12288, .f32⟩
  | .hbm, ⟨13, _⟩ => ⟨S1x3072, .f32⟩
  | .hbm, ⟨14, _⟩ => ⟨S1x3072, .f32⟩
  | .hbm, ⟨15, _⟩ => ⟨S1x128, .f32⟩
  | .hbm, ⟨16, _⟩ => ⟨S1x128, .f32⟩
  | .hbm, ⟨17, _⟩ => ⟨S6x768x3072, .fp8e4m3⟩
  | .hbm, ⟨18, _⟩ => ⟨S6x1x768, .f32⟩
  | .hbm, ⟨19, _⟩ => ⟨S6x768x128, .fp8e4m3⟩
  | .hbm, ⟨20, _⟩ => ⟨S6x1x768, .f32⟩
  | .local _ .vmem, ⟨0, _⟩ => ⟨S6x12288x128, .fp8e4m3⟩
  | .local _ .vmem, ⟨1, _⟩ => ⟨S6x12288, .f32⟩
  | .local _ .vmem, ⟨2, _⟩ => ⟨S32x128, .f32⟩
  | .local _ .vmem, ⟨3, _⟩ => ⟨S4096x3072, .fp8e4m3⟩
  | .local _ .vmem, ⟨4, _⟩ => ⟨S1x3072, .f32⟩
  | .local _ .vmem, ⟨5, _⟩ => ⟨S1x3072, .f32⟩
  | .local _ .vmem, ⟨6, _⟩ => ⟨S3072x128, .fp8e4m3⟩
  | .local _ .vmem, ⟨7, _⟩ => ⟨S1x128, .f32⟩
  | .local _ .vmem, ⟨8, _⟩ => ⟨S1x128, .f32⟩
  | .local _ .vmem, ⟨9, _⟩ => ⟨S6x768x3072, .fp8e4m3⟩
  | .local _ .vmem, ⟨10, _⟩ => ⟨S6x1x768, .f32⟩
  | .local _ .vmem, ⟨11, _⟩ => ⟨S6x768x128, .fp8e4m3⟩
  | .local _ .vmem, ⟨12, _⟩ => ⟨S6x1x768, .f32⟩
  | _, _ => ⟨S1x12288x6x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S6x12288x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x768x3072 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x768x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Attend.lean ====
abbrev S12288x7680 : Shape := ⟨2, ![12288, 7680]⟩
abbrev S6x768x128 : Shape := ⟨3, ![6, 768, 128]⟩
abbrev S6x1x768 : Shape := ⟨3, ![6, 1, 768]⟩
abbrev S6x128x768 : Shape := ⟨3, ![6, 128, 768]⟩
abbrev S6x768 : Shape := ⟨2, ![6, 768]⟩
abbrev S6x768x1 : Shape := ⟨3, ![6, 768, 1]⟩
abbrev S_ : Shape := ⟨0, ![]⟩
abbrev S60x1x12288 : Shape := ⟨3, ![60, 1, 12288]⟩
abbrev S60x12288x128 : Shape := ⟨3, ![60, 12288, 128]⟩
abbrev S256x7680 : Shape := ⟨2, ![256, 7680]⟩
abbrev S60x1x256 : Shape := ⟨3, ![60, 1, 256]⟩
abbrev S60x256x128 : Shape := ⟨3, ![60, 256, 128]⟩
abbrev S768x256 : Shape := ⟨2, ![768, 256]⟩
abbrev S1x256 : Shape := ⟨2, ![1, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S128x256 : Shape := ⟨2, ![128, 256]⟩
abbrev S1x1x256 : Shape := ⟨3, ![1, 1, 256]⟩
abbrev S1x128x128 : Shape := ⟨3, ![1, 128, 128]⟩
abbrev S128x128 : Shape := ⟨2, ![128, 128]⟩

abbrev nBuf : Space → Nat
  | .hbm => 14
  | .vmem => 14
  | .smem => 0
  | _ => 0

abbrev bufTy : (tb : Table) → Fin (tcTables nBuf tb) → BufTy
  | .hbm, ⟨0, _⟩ => ⟨S12288x7680, .bf16⟩
  | .hbm, ⟨1, _⟩ => ⟨S6x768x128, .fp8e4m3⟩
  | .hbm, ⟨2, _⟩ => ⟨S6x1x768, .f32⟩
  | .hbm, ⟨3, _⟩ => ⟨S6x128x768, .bf16⟩
  | .hbm, ⟨4, _⟩ => ⟨S6x768, .f32⟩
  | .hbm, ⟨5, _⟩ => ⟨S6x768x1, .f32⟩
  | .hbm, ⟨6, _⟩ => ⟨S_, .f32⟩
  | .hbm, ⟨7, _⟩ => ⟨S6x768x1, .f32⟩
  | .hbm, ⟨8, _⟩ => ⟨S6x768x1, .f32⟩
  | .hbm, ⟨9, _⟩ => ⟨S6x768x128, .f32⟩
  | .hbm, ⟨10, _⟩ => ⟨S12288x7680, .bf16⟩
  | .hbm, ⟨11, _⟩ => ⟨S60x1x12288, .f32⟩
  | .hbm, ⟨12, _⟩ => ⟨S60x12288x128, .fp8e4m3⟩
  | .hbm, ⟨13, _⟩ => ⟨S60x1x12288, .f32⟩
  | .local _ .vmem, ⟨0, _⟩ => ⟨S256x7680, .bf16⟩
  | .local _ .vmem, ⟨1, _⟩ => ⟨S256x7680, .bf16⟩
  | .local _ .vmem, ⟨2, _⟩ => ⟨S6x768x128, .fp8e4m3⟩
  | .local _ .vmem, ⟨3, _⟩ => ⟨S6x768x128, .f32⟩
  | .local _ .vmem, ⟨4, _⟩ => ⟨S6x128x768, .bf16⟩
  | .local _ .vmem, ⟨5, _⟩ => ⟨S256x7680, .bf16⟩
  | .local _ .vmem, ⟨6, _⟩ => ⟨S256x7680, .bf16⟩
  | .local _ .vmem, ⟨7, _⟩ => ⟨S60x1x256, .f32⟩
  | .local _ .vmem, ⟨8, _⟩ => ⟨S60x1x256, .f32⟩
  | .local _ .vmem, ⟨9, _⟩ => ⟨S60x256x128, .fp8e4m3⟩
  | .local _ .vmem, ⟨10, _⟩ => ⟨S60x256x128, .fp8e4m3⟩
  | .local _ .vmem, ⟨11, _⟩ => ⟨S60x1x256, .f32⟩
  | .local _ .vmem, ⟨12, _⟩ => ⟨S60x1x256, .f32⟩
  | .local _ .vmem, ⟨13, _⟩ => ⟨S768x256, .f32⟩
  | _, _ => ⟨S12288x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c1_i32 : BitVec 32 := 1#32
  let v14 : BitVec 32 := Scalar.addi arg0 c1_i32
  let c16_i32_0 : BitVec 32 := 16#32
  let v15 : BitVec 32 := Scalar.muli v14 c16_i32_0
  let c1_i32_1 : BitVec 32 := 1#32
  let v16 : BitVec 32 := Scalar.subi v15 c1_i32_1
  let c128_i32 : BitVec 32 := 128#32
  let v17 : BitVec 32 := Scalar.addi v16 c128_i32
  let c1_i32_2 : BitVec 32 := 1#32
  let v18 : BitVec 32 := Scalar.subi v17 c1_i32_2
  let c7_i32 : BitVec 32 := 7#32
  let v19 : BitVec 32 := Scalar.shrsi v18 c7_i32
  let c1_i32_3 : BitVec 32 := 1#32
  let v20 : BitVec 1 := Scalar.cmpi .eq v19 c1_i32_3
  let v21 : BitVec 32 := Scalar.extui v20
  let c0_i32_4 : BitVec 32 := 0#32
  let v22 : BitVec 1 := Scalar.cmpi .ne v21 c0_i32_4
  v22

@[reducible] def k0_t1_loop : Scf.Loop 32 :=
  let c0_i32_11 : BitVec 32 := 0#32
  let c60_i32 : BitVec 32 := 60#32
  let v38 : BitVec 32 := Scalar.addi c0_i32_11 c60_i32
  let c1_i32_12 : BitVec 32 := 1#32
  ⟨c0_i32_11, v38, c1_i32_12⟩
def k0_mult1 (k0_t1 : Fin k0_t1_loop.trips) : BitVec 32 :=
  let c0_i32_15 : BitVec 32 := 0#32
  let c0_i32_11 : BitVec 32 := 0#32
  let c1_i32_12 : BitVec 32 := 1#32
  let arg10 : BitVec 32 := Scf.iv c0_i32_11 c1_i32_12 k0_t1
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  v58
def k0_off1 (k0_t1 : Fin k0_t1_loop.trips) : Fin 2 → Nat :=
  let c0 : Index := 0#32
  let c0_i32_15 : BitVec 32 := 0#32
  let c0_i32_11 : BitVec 32 := 0#32
  let c1_i32_12 : BitVec 32 := 1#32
  let arg10 : BitVec 32 := Scf.iv c0_i32_11 c1_i32_12 k0_t1
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  let v59 : BitVec 32 := v58
  let v60 : Index := Scalar.indexCast v59
  ![0, v60.toNat]
def k0_off2 (k0_t1 : Fin k0_t1_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t1
  let c1_i32_14 : BitVec 32 := 1#32
  let v39 : BitVec 32 := Scalar.muli arg10 c1_i32_14
  let v40 : BitVec 32 := Scalar.addi c0_i32_15 v39
  let v146 : Index := Scalar.indexCast v40
  let c0_42 : Index := 0#32
  let c0_43 : Index := 0#32
  ![v146.toNat, 0, 0]
def k0_off3 (k0_t1 : Fin k0_t1_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t1
  let c1_i32_14 : BitVec 32 := 1#32
  let v39 : BitVec 32 := Scalar.muli arg10 c1_i32_14
  let v40 : BitVec 32 := Scalar.addi c0_i32_15 v39
  let v154 : Index := Scalar.indexCast v40
  let c0_44 : Index := 0#32
  let c0_45 : Index := 0#32
  ![v154.toNat, 0, 0]
def k0_off4 (k0_t1 : Fin k0_t1_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t1
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v161 : Index := Scalar.indexCast v57
  let c0_48 : Index := 0#32
  let c0_49 : Index := 0#32
  ![v161.toNat, 0, 0]
def k0_off5 (k0_t1 : Fin k0_t1_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t1
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v197 : Index := Scalar.indexCast v57
  let c0_64 : Index := 0#32
  let c0_65 : Index := 0#32
  ![v197.toNat, 0, 0]
def k0_cond2 (i : grid0.Coords) : BitVec 1 :=
  let arg0 : BitVec 32 := BitVec.ofNat 32 (i 0).val
  let c1_i32 : BitVec 32 := 1#32
  let v14 : BitVec 32 := Scalar.addi arg0 c1_i32
  let c16_i32_0 : BitVec 32 := 16#32
  let v15 : BitVec 32 := Scalar.muli v14 c16_i32_0
  let c1_i32_1 : BitVec 32 := 1#32
  let v16 : BitVec 32 := Scalar.subi v15 c1_i32_1
  let c128_i32 : BitVec 32 := 128#32
  let v17 : BitVec 32 := Scalar.addi v16 c128_i32
  let c1_i32_2 : BitVec 32 := 1#32
  let v18 : BitVec 32 := Scalar.subi v17 c1_i32_2
  let c7_i32 : BitVec 32 := 7#32
  let v19 : BitVec 32 := Scalar.shrsi v18 c7_i32
  let c2_i32 : BitVec 32 := 2#32
  let v23 : BitVec 1 := Scalar.cmpi .eq v19 c2_i32
  let v24 : BitVec 32 := Scalar.extui v23
  let c0_i32_5 : BitVec 32 := 0#32
  let v25 : BitVec 1 := Scalar.cmpi .ne v24 c0_i32_5
  v25

@[reducible] def k0_t2_loop : Scf.Loop 32 :=
  let c0_i32_11 : BitVec 32 := 0#32
  let c60_i32 : BitVec 32 := 60#32
  let v38 : BitVec 32 := Scalar.addi c0_i32_11 c60_i32
  let c1_i32_12 : BitVec 32 := 1#32
  ⟨c0_i32_11, v38, c1_i32_12⟩
def k0_mult2 (k0_t2 : Fin k0_t2_loop.trips) : BitVec 32 :=
  let c0_i32_15 : BitVec 32 := 0#32
  let c0_i32_11 : BitVec 32 := 0#32
  let c1_i32_12 : BitVec 32 := 1#32
  let arg10 : BitVec 32 := Scf.iv c0_i32_11 c1_i32_12 k0_t2
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  v58
def k0_off6 (k0_t2 : Fin k0_t2_loop.trips) : Fin 2 → Nat :=
  let c0 : Index := 0#32
  let c0_i32_15 : BitVec 32 := 0#32
  let c0_i32_11 : BitVec 32 := 0#32
  let c1_i32_12 : BitVec 32 := 1#32
  let arg10 : BitVec 32 := Scf.iv c0_i32_11 c1_i32_12 k0_t2
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  let v59 : BitVec 32 := v58
  let v60 : Index := Scalar.indexCast v59
  ![0, v60.toNat]
def k0_off7 (k0_t2 : Fin k0_t2_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t2
  let c1_i32_14 : BitVec 32 := 1#32
  let v39 : BitVec 32 := Scalar.muli arg10 c1_i32_14
  let v40 : BitVec 32 := Scalar.addi c0_i32_15 v39
  let v146 : Index := Scalar.indexCast v40
  let c0_42 : Index := 0#32
  let c0_43 : Index := 0#32
  ![v146.toNat, 0, 0]
def k0_off8 (k0_t2 : Fin k0_t2_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t2
  let c1_i32_14 : BitVec 32 := 1#32
  let v39 : BitVec 32 := Scalar.muli arg10 c1_i32_14
  let v40 : BitVec 32 := Scalar.addi c0_i32_15 v39
  let v154 : Index := Scalar.indexCast v40
  let c0_44 : Index := 0#32
  let c0_45 : Index := 0#32
  ![v154.toNat, 0, 0]
def k0_off9 (k0_t2 : Fin k0_t2_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t2
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v161 : Index := Scalar.indexCast v57
  let c0_48 : Index := 0#32
  let c0_49 : Index := 0#32
  ![v161.toNat, 0, 0]
def k0_off10 (k0_t2 : Fin k0_t2_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t2
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v183 : Index := Scalar.indexCast v57
  let c128 : Index := 128#32
  let c0_58 : Index := 0#32
  ![v183.toNat, 128, 0]
def k0_off11 (k0_t2 : Fin k0_t2_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t2
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v219 : Index := Scalar.indexCast v57
  let c0_73 : Index := 0#32
  let c0_74 : Index := 0#32
  ![v219.toNat, 0, 0]
def k0_off12 (k0_t2 : Fin k0_t2_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t2
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v234 : Index := Scalar.indexCast v57
  let c0_79 : Index := 0#32
  let c128_80 : Index := 128#32
  ![v234.toNat, 0, 128]
def k0_cond3 (i : grid0.Coords) : BitVec 1 :=
  let arg0 : BitVec 32 := BitVec.ofNat 32 (i 0).val
  let c1_i32 : BitVec 32 := 1#32
  let v14 : BitVec 32 := Scalar.addi arg0 c1_i32
  let c16_i32_0 : BitVec 32 := 16#32
  let v15 : BitVec 32 := Scalar.muli v14 c16_i32_0
  let c1_i32_1 : BitVec 32 := 1#32
  let v16 : BitVec 32 := Scalar.subi v15 c1_i32_1
  let c128_i32 : BitVec 32 := 128#32
  let v17 : BitVec 32 := Scalar.addi v16 c128_i32
  let c1_i32_2 : BitVec 32 := 1#32
  let v18 : BitVec 32 := Scalar.subi v17 c1_i32_2
  let c7_i32 : BitVec 32 := 7#32
  let v19 : BitVec 32 := Scalar.shrsi v18 c7_i32
  let c3_i32 : BitVec 32 := 3#32
  let v26 : BitVec 1 := Scalar.cmpi .eq v19 c3_i32
  let v27 : BitVec 32 := Scalar.extui v26
  let c0_i32_6 : BitVec 32 := 0#32
  let v28 : BitVec 1 := Scalar.cmpi .ne v27 c0_i32_6
  v28

@[reducible] def k0_t3_loop : Scf.Loop 32 :=
  let c0_i32_11 : BitVec 32 := 0#32
  let c60_i32 : BitVec 32 := 60#32
  let v38 : BitVec 32 := Scalar.addi c0_i32_11 c60_i32
  let c1_i32_12 : BitVec 32 := 1#32
  ⟨c0_i32_11, v38, c1_i32_12⟩
def k0_mult3 (k0_t3 : Fin k0_t3_loop.trips) : BitVec 32 :=
  let c0_i32_15 : BitVec 32 := 0#32
  let c0_i32_11 : BitVec 32 := 0#32
  let c1_i32_12 : BitVec 32 := 1#32
  let arg10 : BitVec 32 := Scf.iv c0_i32_11 c1_i32_12 k0_t3
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  v58
def k0_off13 (k0_t3 : Fin k0_t3_loop.trips) : Fin 2 → Nat :=
  let c0 : Index := 0#32
  let c0_i32_15 : BitVec 32 := 0#32
  let c0_i32_11 : BitVec 32 := 0#32
  let c1_i32_12 : BitVec 32 := 1#32
  let arg10 : BitVec 32 := Scf.iv c0_i32_11 c1_i32_12 k0_t3
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  let v59 : BitVec 32 := v58
  let v60 : Index := Scalar.indexCast v59
  ![0, v60.toNat]
def k0_off14 (k0_t3 : Fin k0_t3_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t3
  let c1_i32_14 : BitVec 32 := 1#32
  let v39 : BitVec 32 := Scalar.muli arg10 c1_i32_14
  let v40 : BitVec 32 := Scalar.addi c0_i32_15 v39
  let v146 : Index := Scalar.indexCast v40
  let c0_42 : Index := 0#32
  let c0_43 : Index := 0#32
  ![v146.toNat, 0, 0]
def k0_off15 (k0_t3 : Fin k0_t3_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t3
  let c1_i32_14 : BitVec 32 := 1#32
  let v39 : BitVec 32 := Scalar.muli arg10 c1_i32_14
  let v40 : BitVec 32 := Scalar.addi c0_i32_15 v39
  let v154 : Index := Scalar.indexCast v40
  let c0_44 : Index := 0#32
  let c0_45 : Index := 0#32
  ![v154.toNat, 0, 0]
def k0_off16 (k0_t3 : Fin k0_t3_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t3
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v161 : Index := Scalar.indexCast v57
  let c0_48 : Index := 0#32
  let c0_49 : Index := 0#32
  ![v161.toNat, 0, 0]
def k0_off17 (k0_t3 : Fin k0_t3_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t3
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v176 : Index := Scalar.indexCast v57
  let c128 : Index := 128#32
  let c0_56 : Index := 0#32
  ![v176.toNat, 128, 0]
def k0_off18 (k0_t3 : Fin k0_t3_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t3
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v198 : Index := Scalar.indexCast v57
  let c256 : Index := 256#32
  let c0_65 : Index := 0#32
  ![v198.toNat, 256, 0]
def k0_off19 (k0_t3 : Fin k0_t3_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t3
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v234 : Index := Scalar.indexCast v57
  let c0_80 : Index := 0#32
  let c0_81 : Index := 0#32
  ![v234.toNat, 0, 0]
def k0_off20 (k0_t3 : Fin k0_t3_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t3
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v249 : Index := Scalar.indexCast v57
  let c0_86 : Index := 0#32
  let c128_87 : Index := 128#32
  ![v249.toNat, 0, 128]
def k0_off21 (k0_t3 : Fin k0_t3_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t3
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v264 : Index := Scalar.indexCast v57
  let c0_92 : Index := 0#32
  let c256_93 : Index := 256#32
  ![v264.toNat, 0, 256]
def k0_cond4 (i : grid0.Coords) : BitVec 1 :=
  let arg0 : BitVec 32 := BitVec.ofNat 32 (i 0).val
  let c1_i32 : BitVec 32 := 1#32
  let v14 : BitVec 32 := Scalar.addi arg0 c1_i32
  let c16_i32_0 : BitVec 32 := 16#32
  let v15 : BitVec 32 := Scalar.muli v14 c16_i32_0
  let c1_i32_1 : BitVec 32 := 1#32
  let v16 : BitVec 32 := Scalar.subi v15 c1_i32_1
  let c128_i32 : BitVec 32 := 128#32
  let v17 : BitVec 32 := Scalar.addi v16 c128_i32
  let c1_i32_2 : BitVec 32 := 1#32
  let v18 : BitVec 32 := Scalar.subi v17 c1_i32_2
  let c7_i32 : BitVec 32 := 7#32
  let v19 : BitVec 32 := Scalar.shrsi v18 c7_i32
  let c4_i32_7 : BitVec 32 := 4#32
  let v29 : BitVec 1 := Scalar.cmpi .eq v19 c4_i32_7
  let v30 : BitVec 32 := Scalar.extui v29
  let c0_i32_8 : BitVec 32 := 0#32
  let v31 : BitVec 1 := Scalar.cmpi .ne v30 c0_i32_8
  v31

@[reducible] def k0_t4_loop : Scf.Loop 32 :=
  let c0_i32_11 : BitVec 32 := 0#32
  let c60_i32 : BitVec 32 := 60#32
  let v38 : BitVec 32 := Scalar.addi c0_i32_11 c60_i32
  let c1_i32_12 : BitVec 32 := 1#32
  ⟨c0_i32_11, v38, c1_i32_12⟩
def k0_mult4 (k0_t4 : Fin k0_t4_loop.trips) : BitVec 32 :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  v58
def k0_off22 (k0_t4 : Fin k0_t4_loop.trips) : Fin 2 → Nat :=
  let c0 : Index := 0#32
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  let v59 : BitVec 32 := v58
  let v60 : Index := Scalar.indexCast v59
  ![0, v60.toNat]
def k0_off23 (k0_t4 : Fin k0_t4_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let v146 : Index := Scalar.indexCast v40
  let c0_42 : Index := 0#32
  let c0_43 : Index := 0#32
  ![v146.toNat, 0, 0]
def k0_off24 (k0_t4 : Fin k0_t4_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let v154 : Index := Scalar.indexCast v40
  let c0_44 : Index := 0#32
  let c0_45 : Index := 0#32
  ![v154.toNat, 0, 0]
def k0_off25 (k0_t4 : Fin k0_t4_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v161 : Index := Scalar.indexCast v57
  let c0_48 : Index := 0#32
  let c0_49 : Index := 0#32
  ![v161.toNat, 0, 0]
def k0_off26 (k0_t4 : Fin k0_t4_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v176 : Index := Scalar.indexCast v57
  let c128 : Index := 128#32
  let c0_56 : Index := 0#32
  ![v176.toNat, 128, 0]
def k0_off27 (k0_t4 : Fin k0_t4_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v191 : Index := Scalar.indexCast v57
  let c256 : Index := 256#32
  let c0_63 : Index := 0#32
  ![v191.toNat, 256, 0]
def k0_off28 (k0_t4 : Fin k0_t4_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v213 : Index := Scalar.indexCast v57
  let c384 : Index := 384#32
  let c0_72 : Index := 0#32
  ![v213.toNat, 384, 0]
def k0_off29 (k0_t4 : Fin k0_t4_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v249 : Index := Scalar.indexCast v57
  let c0_86 : Index := 0#32
  let c0_87 : Index := 0#32
  ![v249.toNat, 0, 0]
def k0_off30 (k0_t4 : Fin k0_t4_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v264 : Index := Scalar.indexCast v57
  let c0_92 : Index := 0#32
  let c128_93 : Index := 128#32
  ![v264.toNat, 0, 128]
def k0_off31 (k0_t4 : Fin k0_t4_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v279 : Index := Scalar.indexCast v57
  let c0_98 : Index := 0#32
  let c256_99 : Index := 256#32
  ![v279.toNat, 0, 256]
def k0_off32 (k0_t4 : Fin k0_t4_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t4
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v294 : Index := Scalar.indexCast v57
  let c0_104 : Index := 0#32
  let c384_105 : Index := 384#32
  ![v294.toNat, 0, 384]
def k0_cond5 (i : grid0.Coords) : BitVec 1 :=
  let arg0 : BitVec 32 := BitVec.ofNat 32 (i 0).val
  let c1_i32 : BitVec 32 := 1#32
  let v14 : BitVec 32 := Scalar.addi arg0 c1_i32
  let c16_i32_0 : BitVec 32 := 16#32
  let v15 : BitVec 32 := Scalar.muli v14 c16_i32_0
  let c1_i32_1 : BitVec 32 := 1#32
  let v16 : BitVec 32 := Scalar.subi v15 c1_i32_1
  let c128_i32 : BitVec 32 := 128#32
  let v17 : BitVec 32 := Scalar.addi v16 c128_i32
  let c1_i32_2 : BitVec 32 := 1#32
  let v18 : BitVec 32 := Scalar.subi v17 c1_i32_2
  let c7_i32 : BitVec 32 := 7#32
  let v19 : BitVec 32 := Scalar.shrsi v18 c7_i32
  let c5_i32 : BitVec 32 := 5#32
  let v32 : BitVec 1 := Scalar.cmpi .eq v19 c5_i32
  let v33 : BitVec 32 := Scalar.extui v32
  let c0_i32_9 : BitVec 32 := 0#32
  let v34 : BitVec 1 := Scalar.cmpi .ne v33 c0_i32_9
  v34

@[reducible] def k0_t5_loop : Scf.Loop 32 :=
  let c0_i32_11 : BitVec 32 := 0#32
  let c60_i32 : BitVec 32 := 60#32
  let v38 : BitVec 32 := Scalar.addi c0_i32_11 c60_i32
  let c1_i32_12 : BitVec 32 := 1#32
  ⟨c0_i32_11, v38, c1_i32_12⟩
def k0_mult5 (k0_t5 : Fin k0_t5_loop.trips) : BitVec 32 :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  v58
def k0_off33 (k0_t5 : Fin k0_t5_loop.trips) : Fin 2 → Nat :=
  let c0 : Index := 0#32
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  let v59 : BitVec 32 := v58
  let v60 : Index := Scalar.indexCast v59
  ![0, v60.toNat]
def k0_off34 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let v146 : Index := Scalar.indexCast v40
  let c0_42 : Index := 0#32
  let c0_43 : Index := 0#32
  ![v146.toNat, 0, 0]
def k0_off35 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let v154 : Index := Scalar.indexCast v40
  let c0_44 : Index := 0#32
  let c0_45 : Index := 0#32
  ![v154.toNat, 0, 0]
def k0_off36 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v161 : Index := Scalar.indexCast v57
  let c0_48 : Index := 0#32
  let c0_49 : Index := 0#32
  ![v161.toNat, 0, 0]
def k0_off37 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v176 : Index := Scalar.indexCast v57
  let c128 : Index := 128#32
  let c0_56 : Index := 0#32
  ![v176.toNat, 128, 0]
def k0_off38 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v191 : Index := Scalar.indexCast v57
  let c256 : Index := 256#32
  let c0_63 : Index := 0#32
  ![v191.toNat, 256, 0]
def k0_off39 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v206 : Index := Scalar.indexCast v57
  let c384 : Index := 384#32
  let c0_70 : Index := 0#32
  ![v206.toNat, 384, 0]
def k0_off40 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v228 : Index := Scalar.indexCast v57
  let c512 : Index := 512#32
  let c0_78 : Index := 0#32
  ![v228.toNat, 512, 0]
def k0_off41 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v264 : Index := Scalar.indexCast v57
  let c0_92 : Index := 0#32
  let c0_93 : Index := 0#32
  ![v264.toNat, 0, 0]
def k0_off42 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v279 : Index := Scalar.indexCast v57
  let c0_98 : Index := 0#32
  let c128_99 : Index := 128#32
  ![v279.toNat, 0, 128]
def k0_off43 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v294 : Index := Scalar.indexCast v57
  let c0_104 : Index := 0#32
  let c256_105 : Index := 256#32
  ![v294.toNat, 0, 256]
def k0_off44 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v309 : Index := Scalar.indexCast v57
  let c0_110 : Index := 0#32
  let c384_111 : Index := 384#32
  ![v309.toNat, 0, 384]
def k0_off45 (k0_t5 : Fin k0_t5_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t5
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v324 : Index := Scalar.indexCast v57
  let c0_116 : Index := 0#32
  let c512_117 : Index := 512#32
  ![v324.toNat, 0, 512]
def k0_cond6 (i : grid0.Coords) : BitVec 1 :=
  let arg0 : BitVec 32 := BitVec.ofNat 32 (i 0).val
  let c1_i32 : BitVec 32 := 1#32
  let v14 : BitVec 32 := Scalar.addi arg0 c1_i32
  let c16_i32_0 : BitVec 32 := 16#32
  let v15 : BitVec 32 := Scalar.muli v14 c16_i32_0
  let c1_i32_1 : BitVec 32 := 1#32
  let v16 : BitVec 32 := Scalar.subi v15 c1_i32_1
  let c128_i32 : BitVec 32 := 128#32
  let v17 : BitVec 32 := Scalar.addi v16 c128_i32
  let c1_i32_2 : BitVec 32 := 1#32
  let v18 : BitVec 32 := Scalar.subi v17 c1_i32_2
  let c7_i32 : BitVec 32 := 7#32
  let v19 : BitVec 32 := Scalar.shrsi v18 c7_i32
  let c6_i32 : BitVec 32 := 6#32
  let v35 : BitVec 1 := Scalar.cmpi .eq v19 c6_i32
  let v36 : BitVec 32 := Scalar.extui v35
  let c0_i32_10 : BitVec 32 := 0#32
  let v37 : BitVec 1 := Scalar.cmpi .ne v36 c0_i32_10
  v37

@[reducible] def k0_t6_loop : Scf.Loop 32 :=
  let c0_i32_11 : BitVec 32 := 0#32
  let c60_i32 : BitVec 32 := 60#32
  let v38 : BitVec 32 := Scalar.addi c0_i32_11 c60_i32
  let c1_i32_12 : BitVec 32 := 1#32
  ⟨c0_i32_11, v38, c1_i32_12⟩
def k0_mult6 (k0_t6 : Fin k0_t6_loop.trips) : BitVec 32 :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  v58
def k0_off46 (k0_t6 : Fin k0_t6_loop.trips) : Fin 2 → Nat :=
  let c0 : Index := 0#32
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c128_i32_22 : BitVec 32 := 128#32
  let v58 : BitVec 32 := Scalar.muli v40 c128_i32_22
  let v59 : BitVec 32 := v58
  let v60 : Index := Scalar.indexCast v59
  ![0, v60.toNat]
def k0_off47 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let v146 : Index := Scalar.indexCast v40
  let c0_42 : Index := 0#32
  let c0_43 : Index := 0#32
  ![v146.toNat, 0, 0]
def k0_off48 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let v154 : Index := Scalar.indexCast v40
  let c0_44 : Index := 0#32
  let c0_45 : Index := 0#32
  ![v154.toNat, 0, 0]
def k0_off49 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v161 : Index := Scalar.indexCast v57
  let c0_48 : Index := 0#32
  let c0_49 : Index := 0#32
  ![v161.toNat, 0, 0]
def k0_off50 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v176 : Index := Scalar.indexCast v57
  let c128 : Index := 128#32
  let c0_56 : Index := 0#32
  ![v176.toNat, 128, 0]
def k0_off51 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v191 : Index := Scalar.indexCast v57
  let c256 : Index := 256#32
  let c0_63 : Index := 0#32
  ![v191.toNat, 256, 0]
def k0_off52 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v206 : Index := Scalar.indexCast v57
  let c384 : Index := 384#32
  let c0_70 : Index := 0#32
  ![v206.toNat, 384, 0]
def k0_off53 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v221 : Index := Scalar.indexCast v57
  let c512 : Index := 512#32
  let c0_77 : Index := 0#32
  ![v221.toNat, 512, 0]
def k0_off54 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v243 : Index := Scalar.indexCast v57
  let c640 : Index := 640#32
  let c0_85 : Index := 0#32
  ![v243.toNat, 640, 0]
def k0_off55 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v279 : Index := Scalar.indexCast v57
  let c0_99 : Index := 0#32
  let c0_100 : Index := 0#32
  ![v279.toNat, 0, 0]
def k0_off56 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v294 : Index := Scalar.indexCast v57
  let c0_105 : Index := 0#32
  let c128_106 : Index := 128#32
  ![v294.toNat, 0, 128]
def k0_off57 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v309 : Index := Scalar.indexCast v57
  let c0_111 : Index := 0#32
  let c256_112 : Index := 256#32
  ![v309.toNat, 0, 256]
def k0_off58 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v324 : Index := Scalar.indexCast v57
  let c0_117 : Index := 0#32
  let c384_118 : Index := 384#32
  ![v324.toNat, 0, 384]
def k0_off59 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v339 : Index := Scalar.indexCast v57
  let c0_123 : Index := 0#32
  let c512_124 : Index := 512#32
  ![v339.toNat, 0, 512]
def k0_off60 (k0_t6 : Fin k0_t6_loop.trips) : Fin 3 → Nat :=
  let c0_i32_15 : BitVec 32 := 0#32
  let c0_i32_11 : BitVec 32 := 0#32
  let c1_i32_12 : BitVec 32 := 1#32
  let arg10 : BitVec 32 := Scf.iv c0_i32_11 c1_i32_12 k0_t6
  let c1_i32_14 : BitVec 32 := 1#32
  let v39 : BitVec 32 := Scalar.muli arg10 c1_i32_14
  let v40 : BitVec 32 := Scalar.addi c0_i32_15 v39
  let c0_i32_16 : BitVec 32 := 0#32
  let v42 : BitVec 1 := Scalar.cmpi .sgt v40 c0_i32_16
  let v43 : BitVec 32 := Scalar.extui v42
  let c0_i32_17 : BitVec 32 := 0#32
  let v44 : BitVec 1 := Scalar.cmpi .slt v40 c0_i32_17
  let v45 : BitVec 32 := Scalar.extui v44
  let v46 : BitVec 32 := Scalar.subi v43 v45
  let c10_i32 : BitVec 32 := 10#32
  let c0_i32_18 : BitVec 32 := 0#32
  let v47 : BitVec 1 := Scalar.cmpi .sgt c10_i32 c0_i32_18
  let v48 : BitVec 32 := Scalar.extui v47
  let c0_i32_19 : BitVec 32 := 0#32
  let v49 : BitVec 1 := Scalar.cmpi .slt c10_i32 c0_i32_19
  let v50 : BitVec 32 := Scalar.extui v49
  let v51 : BitVec 32 := Scalar.subi v48 v50
  let v52 : BitVec 1 := Scalar.cmpi .ne v46 v51
  let v53 : BitVec 32 := Scalar.remsi v40 c10_i32
  let c0_i32_20 : BitVec 32 := 0#32
  let v54 : BitVec 1 := Scalar.cmpi .ne v53 c0_i32_20
  let v55 : BitVec 1 := Scalar.andi v52 v54
  let v41 : BitVec 32 := Scalar.divsi v40 c10_i32
  let c1_i32_21 : BitVec 32 := 1#32
  let v56 : BitVec 32 := Scalar.subi v41 c1_i32_21
  let v57 : BitVec 32 := Scalar.select v55 v56 v41
  let v354 : Index := Scalar.indexCast v57
  let c0_129 : Index := 0#32
  let c640_130 : Index := 640#32
  ![v354.toNat, 0, 640]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x768x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x128x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x7680 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S60x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S60x256x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S60x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Proof.KernelRun.lean ====
/-
  Hand-written, untrusted. The body of `Kernel`'s compress call, run once by `sl_exec` at any grid point, from any contents
  of its sixteen operands: the conditional on the second grid coordinate in both cases, the loop by its generated invariant.
-/
module

public import proofs.«01_k».proof.Proof.Gen.Kernel.Frame
public import proofs.«01_k».proof.Proof.Gen.Kernel.Loops
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

set_option maxHeartbeats 8000000 in
/-- The body's triple at any grid point, for any continuation: from the nine inputs at contents `x0 … x8`, the four outputs
    and the three scratches at anything, the kernel runs to its return and hands the inputs back as they were, the others at
    some contents. -/
theorem kernelRun (c : Dev nD) (i : grid0.Coords) (arg2 : Memref sig .tc .vmem S1x12288x128 .fp8e4m3) (harg2 : arg2.IsWhole) (arg3 : Memref sig .tc .vmem S1x1x12288 .f32) (harg3 : arg3.IsWhole) (arg4 : Memref sig .tc .vmem S32x128 .f32) (harg4 : arg4.IsWhole) (arg5 : Memref sig .tc .vmem S4096x3072 .fp8e4m3) (harg5 : arg5.IsWhole) (arg6 : Memref sig .tc .vmem S1x3072 .f32) (harg6 : arg6.IsWhole) (arg7 : Memref sig .tc .vmem S1x3072 .f32) (harg7 : arg7.IsWhole) (arg8 : Memref sig .tc .vmem S3072x128 .fp8e4m3) (harg8 : arg8.IsWhole) (arg9 : Memref sig .tc .vmem S1x128 .f32) (harg9 : arg9.IsWhole) (arg10 : Memref sig .tc .vmem S1x128 .f32) (harg10 : arg10.IsWhole) (arg11 : Memref sig .tc .vmem S1x384x3072 .fp8e4m3) (harg11 : arg11.IsWhole) (arg12 : Memref sig .tc .vmem S1x1x384 .f32) (harg12 : arg12.IsWhole) (arg13 : Memref sig .tc .vmem S1x384x128 .fp8e4m3) (harg13 : arg13.IsWhole) (arg14 : Memref sig .tc .vmem S1x1x384 .f32) (harg14 : arg14.IsWhole) (arg15 : Memref sig .tc .vmem S6152x128 .i32) (harg15 : arg15.IsWhole) (arg16 : Memref sig .tc .vmem S384x4096 .bf16) (harg16 : arg16.IsWhole) (arg17 : Memref sig .tc .vmem S384x3072 .f32) (harg17 : arg17.IsWhole)
    (x0 : S1x12288x128.Idx → Elt F .fp8e4m3) (x1 : S1x1x12288.Idx → Elt F .f32) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ
          (cc0_compress (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_compress_eq_skeleton]; unfold cc0_compress_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  by_cases hc : k0_cond1 i = 1#1
  · sl_exec
    sl_step
    iapply Hk
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl
  · sl_exec
    sl_step
    iapply Hk
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.Kernel.Hand

end
-- ==== Proof.KernelFrame.lean ====
/-
  Hand-written, untrusted. The frame of `Kernel`: from any memory every execution of the compress call ends, the arguments
  hold what they held at launch, every semaphore counter is back at zero. The four outputs are FORGOTTEN (nothing here reads
  them: Lib/Pipeline/Dat.lean `Dat.toRForget`); the launch is Lib/Pipeline/Frame.lean `θ_run_frame_forget`.
-/
module

public import proofs.«01_k».proof.Defs
public import proofs.«01_k».proof.Proof.KernelRun

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The four outputs are forgotten, the nine inputs tracked. -/
def forgets0 : Fin 13 → Bool := fun w => decide (9 ≤ w.val)

/-- The proof data on core `c`: the arrays as the region finds them; after the body each input window's block as fetched,
    the outputs unnamed; the invariant `ΦA` (the scratches at some contents, the generator register at some state). -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => Pipeline.Dat.unnamed (cfg := cfg0) 9 t
    | 10 => Pipeline.Dat.unnamed (cfg := cfg0) 10 t
    | 11 => Pipeline.Dat.unnamed (cfg := cfg0) 11 t
    | 12 => Pipeline.Dat.unnamed (cfg := cfg0) 12 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at point `t`: the invariant, the core's `owes`, the inputs' blocks, the outputs at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))
/-- What the body returns at point `t`: the same, the inputs' blocks in place. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_0, after_1, after_2, after_3, after_4, after_5, after_6, after_7, after_8]
  unfold Pipeline.ΦA
  rw [scopedRest0_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) (iblk m c 6 t) (iblk m c 7 t) (iblk m c 8 t) _)
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexists _; iexact HS0
  isplitl [HS1]; · iexists _; iexact HS1
  isplitl [HS2]; · iexists _; iexact HS2
  iintro ⟨H0, H1, H2, H3, H4, H5, H6, H7, H8, H9, H10, H11, H12, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten: the triple restated (Lib/Pipeline/FrameBody.lean `triple_restated`). -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget`'s implicit arguments are found by unifying its conclusion with this statement, which unifies only
-- when unification may unfold plain definitions in a metavariable's type
set_option backward.isDefEq.respectTransparency.types false in
/-- From any memory with zero counters every execution of @main ends, with every tracked array as the library computes it from
    the proof data, every other unscoped buffer as the region found it and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m ρ}

/-- After the run each argument holds what it held at launch: the staged ones by the pipeline's input rule, the others as
    buffers no window stages. -/
theorem final_args {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (((dats m 0 c).toRForget_arrAt_iff (show forgets0 2 = false by decide) _ _).mp ((h c).1 2)).trans (((dats m 0 c).arrAt_in 2 rfl _).trans ((A_eq m c 2).trans (V_main_arg2 m c))),
    (((dats m 0 c).toRForget_arrAt_iff (show forgets0 3 = false by decide) _ _).mp ((h c).1 3)).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (((dats m 0 c).toRForget_arrAt_iff (show forgets0 6 = false by decide) _ _).mp ((h c).1 6)).trans (((dats m 0 c).arrAt_in 6 rfl _).trans ((A_eq m c 6).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

end Cert.Kernel.Hand

end
-- ==== Proof.KernelIdealRun.lean ====
/-
  Hand-written, untrusted. The body of `KernelIdeal`'s compress call, run once by `sl_exec` at any grid point, from any contents
  of its sixteen operands: the conditional on the second grid coordinate in both cases, the loop by its generated invariant.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

set_option maxHeartbeats 8000000 in
/-- The body's triple at any grid point, for any continuation: from the nine inputs at contents `x0 … x8`, the four outputs
    and the three scratches at anything, the kernel runs to its return and hands the inputs back as they were, the others at
    some contents. -/
theorem kernelRun (c : Dev nD) (i : grid0.Coords) (arg2 : Memref sig .tc .vmem S1x12288x128 .fp8e4m3) (harg2 : arg2.IsWhole) (arg3 : Memref sig .tc .vmem S1x1x12288 .f32) (harg3 : arg3.IsWhole) (arg4 : Memref sig .tc .vmem S32x128 .f32) (harg4 : arg4.IsWhole) (arg5 : Memref sig .tc .vmem S4096x3072 .fp8e4m3) (harg5 : arg5.IsWhole) (arg6 : Memref sig .tc .vmem S1x3072 .f32) (harg6 : arg6.IsWhole) (arg7 : Memref sig .tc .vmem S1x3072 .f32) (harg7 : arg7.IsWhole) (arg8 : Memref sig .tc .vmem S3072x128 .fp8e4m3) (harg8 : arg8.IsWhole) (arg9 : Memref sig .tc .vmem S1x128 .f32) (harg9 : arg9.IsWhole) (arg10 : Memref sig .tc .vmem S1x128 .f32) (harg10 : arg10.IsWhole) (arg11 : Memref sig .tc .vmem S1x384x3072 .fp8e4m3) (harg11 : arg11.IsWhole) (arg12 : Memref sig .tc .vmem S1x1x384 .f32) (harg12 : arg12.IsWhole) (arg13 : Memref sig .tc .vmem S1x384x128 .fp8e4m3) (harg13 : arg13.IsWhole) (arg14 : Memref sig .tc .vmem S1x1x384 .f32) (harg14 : arg14.IsWhole) (arg15 : Memref sig .tc .vmem S6152x2x128 .bf16) (harg15 : arg15.IsWhole) (arg16 : Memref sig .tc .vmem S384x4096 .bf16) (harg16 : arg16.IsWhole) (arg17 : Memref sig .tc .vmem S384x3072 .f32) (harg17 : arg17.IsWhole)
    (x0 : S1x12288x128.Idx → Elt F .fp8e4m3) (x1 : S1x1x12288.Idx → Elt F .f32) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) Set.univ
          (cc0_compress (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_compress_eq_skeleton]; unfold cc0_compress_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  by_cases hc : k0_cond1 i = 1#1
  · sl_exec
    sl_step
    iapply Hk
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl
  · sl_exec
    sl_step
    iapply Hk
    isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.KernelIdeal.Hand

end
-- ==== Proof.KernelIdealFrame.lean ====
/-
  Hand-written, untrusted. The frame of `KernelIdeal`: from any memory every execution of the compress call ends, the arguments
  hold what they held at launch, every semaphore counter is back at zero. The four outputs are FORGOTTEN (nothing here reads
  them: Lib/Pipeline/Dat.lean `Dat.toRForget`); the launch is Lib/Pipeline/Frame.lean `θ_run_frame_forget`.
-/
module

public import proofs.«01_k».proof.Defs
public import proofs.«01_k».proof.Proof.KernelIdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The four outputs are forgotten, the nine inputs tracked. -/
def forgets0 : Fin 13 → Bool := fun w => decide (9 ≤ w.val)

/-- The proof data on core `c`: the arrays as the region finds them; after the body each input window's block as fetched,
    the outputs unnamed; the invariant `ΦA` (the scratches at some contents, the generator register at some state). -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => Pipeline.Dat.unnamed (cfg := cfg0) 9 t
    | 10 => Pipeline.Dat.unnamed (cfg := cfg0) 10 t
    | 11 => Pipeline.Dat.unnamed (cfg := cfg0) 11 t
    | 12 => Pipeline.Dat.unnamed (cfg := cfg0) 12 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at point `t`: the invariant, the core's `owes`, the inputs' blocks, the outputs at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))
/-- What the body returns at point `t`: the same, the inputs' blocks in place. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_0, after_1, after_2, after_3, after_4, after_5, after_6, after_7, after_8]
  unfold Pipeline.ΦA
  rw [scopedRest0_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) (iblk m c 6 t) (iblk m c 7 t) (iblk m c 8 t) _)
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexists _; iexact HS0
  isplitl [HS1]; · iexists _; iexact HS1
  isplitl [HS2]; · iexists _; iexact HS2
  iintro ⟨H0, H1, H2, H3, H4, H5, H6, H7, H8, H9, H10, H11, H12, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten: the triple restated (Lib/Pipeline/FrameBody.lean `triple_restated`). -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget`'s implicit arguments are found by unifying its conclusion with this statement, which unifies only
-- when unification may unfold plain definitions in a metavariable's type
set_option backward.isDefEq.respectTransparency.types false in
/-- From any memory with zero counters every execution of @main ends, with every tracked array as the library computes it from
    the proof data, every other unscoped buffer as the region found it and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m ρ}

/-- After the run each argument holds what it held at launch: the staged ones by the pipeline's input rule, the others as
    buffers no window stages. -/
theorem final_args {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (((dats m 0 c).toRForget_arrAt_iff (show forgets0 2 = false by decide) _ _).mp ((h c).1 2)).trans (((dats m 0 c).arrAt_in 2 rfl _).trans ((A_eq m c 2).trans (V_main_arg2 m c))),
    (((dats m 0 c).toRForget_arrAt_iff (show forgets0 3 = false by decide) _ _).mp ((h c).1 3)).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (((dats m 0 c).toRForget_arrAt_iff (show forgets0 6 = false by decide) _ _).mp ((h c).1 6)).trans (((dats m 0 c).arrAt_in 6 rfl _).trans ((A_eq m c 6).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

end Cert.KernelIdeal.Hand

end
-- ==== Proof.Claims.lean ====
/- The three frames and the `preserves` claim (hand-written, untrusted). -/
module

public import proofs.«01_k».proof.Defs
public import proofs.«01_k».proof.Proof.KernelFrame
public import proofs.«01_k».proof.Proof.KernelIdealFrame
public import proofs.«01_k».proof.Proof.Gen.ReferenceIdeal.Frame
public import Idealize.ShloMosaic.Lib.Bf16PairInverse
public import Idealize.ShloMosaic.Lib.Quiescent

@[expose] public section

noncomputable section

open Idealize.ShloMosaic Idealize.SL.Sem

namespace Cert.Proof

/-- The kernel's frame at the bit-exact values: every execution ends, the arguments are unchanged, every counter at zero. -/
theorem frame_p : Cert.quiescent_Kernel := fun m ρ _ =>
  (θ_run Cert.Kernel.defs _ _).mono (fun _ h => ⟨fun c => Cert.Kernel.Hand.final_args h.1 c, h.2⟩)
    (Cert.Kernel.Hand.run_main m ρ)

/-- The same of the idealized kernel over the extended reals. -/
theorem frame_pi : Cert.quiescent_KernelIdeal := fun m ρ _ =>
  (θ_run Cert.KernelIdeal.defs _ _).mono (fun _ h => ⟨fun c => Cert.KernelIdeal.Hand.final_args h.1 c, h.2⟩)
    (Cert.KernelIdeal.Hand.run_main m ρ)

/-- The reference's frame (class A, generated). -/
theorem frame_ri : Cert.quiescent_ReferenceIdeal := fun m ρ _ => Cert.ReferenceIdeal.Gen.frame m ρ

/-- What the ideal pass assumed of the packed token buffer: 6152 rows of words as pairs of bf16 rows, each access shape's
    packing and unpacking, and the zero fill. -/
theorem preserves : Cert.preserves_Kernel_KernelIdeal :=
  open Cert.KernelIdeal IdealRules.bf16_pair in
  ⟨bufferStatement S6152x2x128 S6152x1x128, statement S128x128 S64x128, statement S64x2x128 S64x1x128,
    statement S8x2x128 S8x1x128, selectZeroStatement S8x128, statement S384x2x128 S384x1x128, statement S768x128 S384x128⟩

end Cert.Proof

end
-- ==== Proof.AttendRun.lean ====
/-
  Hand-written, untrusted. The body of `Attend`'s attend call, run by `sl_exec` at any grid point: of its six conditionals
  exactly one is taken (`cond_iff`), whose loop goes by its generated invariant. The pieces the loop leaves are handed to a
  predicate `Q` on the four outputs' contents, so that one run serves the frame (`Q` always true) and the values.
-/
module

public import proofs.«01_k».proof.Proof.Gen.Attend.Frame
public import proofs.«01_k».proof.Proof.Gen.Attend.Loops
public import proofs.«01_k».proof.Proof.Gen.Attend.Skeleton
public import Idealize.ShloMosaic.Lib.Pipeline.Frame
public import Idealize.ShloMosaic.Lib.Tactic

@[expose] public section

set_option maxRecDepth 16384

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-- The conditional on 1 key chunks is taken at the tiles whose number divided by eight is 0. -/
theorem cond1_iff : ∀ i : grid0.Coords, k0_cond1 i = 1#1 ↔ (i 0).val / 8 = 0 := by decide +kernel
/-- The conditional on 2 key chunks is taken at the tiles whose number divided by eight is 1. -/
theorem cond2_iff : ∀ i : grid0.Coords, k0_cond2 i = 1#1 ↔ (i 0).val / 8 = 1 := by decide +kernel
/-- The conditional on 3 key chunks is taken at the tiles whose number divided by eight is 2. -/
theorem cond3_iff : ∀ i : grid0.Coords, k0_cond3 i = 1#1 ↔ (i 0).val / 8 = 2 := by decide +kernel
/-- The conditional on 4 key chunks is taken at the tiles whose number divided by eight is 3. -/
theorem cond4_iff : ∀ i : grid0.Coords, k0_cond4 i = 1#1 ↔ (i 0).val / 8 = 3 := by decide +kernel
/-- The conditional on 5 key chunks is taken at the tiles whose number divided by eight is 4. -/
theorem cond5_iff : ∀ i : grid0.Coords, k0_cond5 i = 1#1 ↔ (i 0).val / 8 = 4 := by decide +kernel
/-- The conditional on 6 key chunks is taken at the tiles whose number divided by eight is 5. -/
theorem cond6_iff : ∀ i : grid0.Coords, k0_cond6 i = 1#1 ↔ (i 0).val / 8 = 5 := by decide +kernel

/-- What the 1-chunk loop must leave: from any contents of the buffers with the inputs reading `x1 … x4`, the outputs
    after its sixty trips satisfy `Q`. -/
def Leaves1 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond1 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t1 (F := F) Variants.none c none i arg1 harg1 arg2 harg2 arg3 harg3 arg4 harg4 arg5 harg5 arg6 harg6 arg7 harg7 arg8 harg8 arg9 harg9 h f1 f2 f3 f4 f5 f6 f7 f8 f9 60).1))
      (arg6.view.read (Elt F) (arg6.view.writes (Elt F) f6 (pb_k0_t1 (F := F) Variants.none c none i arg1 harg1 arg2 harg2 arg3 harg3 arg4 harg4 arg5 harg5 arg6 harg6 arg7 harg7 arg8 harg8 arg9 harg9 h f1 f2 f3 f4 f5 f6 f7 f8 f9 60).2.1))
      (arg7.view.read (Elt F) (arg7.view.writes (Elt F) f7 (pb_k0_t1 (F := F) Variants.none c none i arg1 harg1 arg2 harg2 arg3 harg3 arg4 harg4 arg5 harg5 arg6 harg6 arg7 harg7 arg8 harg8 arg9 harg9 h f1 f2 f3 f4 f5 f6 f7 f8 f9 60).2.2.1))
      (arg8.view.read (Elt F) (arg8.view.writes (Elt F) f8 (pb_k0_t1 (F := F) Variants.none c none i arg1 harg1 arg2 harg2 arg3 harg3 arg4 harg4 arg5 harg5 arg6 harg6 arg7 harg7 arg8 harg8 arg9 harg9 h f1 f2 f3 f4 f5 f6 f7 f8 f9 60).2.2.2.1))

/-- What the 2-chunk loop must leave: from any contents of the buffers with the inputs reading `x1 … x4`, the outputs
    after its sixty trips satisfy `Q`. -/
def Leaves2 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t2 (F := F) Variants.none c none i arg1 harg1 arg2 harg2 arg3 harg3 arg4 harg4 arg5 harg5 arg6 harg6 arg7 harg7 arg8 harg8 arg9 harg9 h f1 f2 f3 f4 f5 f6 f7 f8 f9 60).1))
      (arg6.view.read (Elt F) (arg6.view.writes (Elt F) f6 (pb_k0_t2 (F := F) Variants.none c none i arg1 harg1 arg2 harg2 arg3 harg3 arg4 harg4 arg5 harg5 arg6 harg6 arg7 harg7 arg8 harg8 arg9 harg9 h f1 f2 f3 f4 f5 f6 f7 f8 f9 60).2.1))
      (arg7.view.read (Elt F) (arg7.view.writes (Elt F) f7 (pb_k0_t2 (F := F) Variants.none c none i arg1 harg1 arg2 harg2 arg3 harg3 arg4 harg4 arg5 harg5 arg6 harg6 arg7 harg7 arg8 harg8 arg9 harg9 h f1 f2 f3 f4 f5 f6 f7 f8 f9 60).2.2.1))
      (arg8.view.read (Elt F) (arg8.view.writes (Elt F) f8 (pb_k0_t2 (F := F) Variants.none c none i arg1 harg1 arg2 harg2 arg3 harg3 arg4 harg4 arg5 harg5 arg6 harg6 arg7 harg7 arg8 harg8 arg9 harg9 h f1 f2 f3 f4 f5 f6 f7 f8 f9 60).2.2.2.1))

/-- What the 3-chunk loop must leave: from any contents of the buffers with the inputs reading `x1 … x4`, the outputs
    after its sixty trips satisfy `Q`. -/
def Leaves3 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond3 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t3 (F := F) Variants.none c none i arg1 harg1 arg2 harg2 arg3 harg3 arg4 harg4 arg5 harg5 arg6 harg6 arg7 harg7 arg8 harg8 arg9 harg9 h f1 f2 f3 f4 f5 f6 f7 f8 f9 60).1))
      (arg6.view.read (Elt F) (arg6.view.writes (Elt F) f6 (pb_k0_t3 (F := F) Variants.none c none i arg1 harg1 arg2 harg2 arg3 harg3 arg4 harg4 arg5 harg5 arg6 harg6 arg7 harg7 arg8 harg8 arg9 harg9 h f1 f2 f3 f4 f5 f6 f7 f8 f9 60).2.1))
      (arg7.view.read (Elt F) (arg7.view.writes (Elt F) f7 (pb_k0_t3 (F := F) Variants.none c none i arg1 harg1 arg2 harg2 arg3 harg3 arg4 harg4 arg5 harg5 arg6 harg6 arg7 harg7 arg8 harg8 arg9 harg9 h f1 f2 f3 f4 f5 f6 f7 f8 f9 60).2.2.1))
      (arg8.view.read (Elt F) (arg8.view.writes (Elt F) f8 (pb_k0_t3 (F := F) Variants.none c none i arg1 harg1 arg2 harg2 arg3 harg3 arg4 harg4 arg5 harg5 arg6 harg6 arg7 harg7 arg8 harg8 arg9 harg9 h f1 f2 f3 f4 f5 f6 f7 f8 f9 60).2.2.2.1))

/-- What the 4-chunk loop must leave: from any contents of the buffers with the inputs reading `x1 … x4`, the outputs
    after its sixty trips satisfy `Q`. -/
def Leaves4 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond4 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t4 (F := F) Variants.none c none i arg1 harg1 arg2 harg2 arg3 harg3 arg4 harg4 arg5 harg5 arg6 harg6 arg7 harg7 arg8 harg8 arg9 harg9 h f1 f2 f3 f4 f5 f6 f7 f8 f9 60).1))
      (arg6.view.read (Elt F) (arg6.view.writes (Elt F) f6 (pb_k0_t4 (F := F) Variants.none c none i arg1 harg1 arg2 harg2 arg3 harg3 arg4 harg4 arg5 harg5 arg6 harg6 arg7 harg7 arg8 harg8 arg9 harg9 h f1 f2 f3 f4 f5 f6 f7 f8 f9 60).2.1))
      (arg7.view.read (Elt F) (arg7.view.writes (Elt F) f7 (pb_k0_t4 (F := F) Variants.none c none i arg1 harg1 arg2 harg2 arg3 harg3 arg4 harg4 arg5 harg5 arg6 harg6 arg7 harg7 arg8 harg8 arg9 harg9 h f1 f2 f3 f4 f5 f6 f7 f8 f9 60).2.2.1))
      (arg8.view.read (Elt F) (arg8.view.writes (Elt F) f8 (pb_k0_t4 (F := F) Variants.none c none i arg1 harg1 arg2 harg2 arg3 harg3 arg4 harg4 arg5 harg5 arg6 harg6 arg7 harg7 arg8 harg8 arg9 harg9 h f1 f2 f3 f4 f5 f6 f7 f8 f9 60).2.2.2.1))

/-- What the 5-chunk loop must leave: from any contents of the buffers with the inputs reading `x1 … x4`, the outputs
    after its sixty trips satisfy `Q`. -/
def Leaves5 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond5 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t5 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).1))
      (arg6.view.read (Elt F) (arg6.view.writes (Elt F) f6 (pb_k0_t5 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.1))
      (arg7.view.read (Elt F) (arg7.view.writes (Elt F) f7 (pb_k0_t5 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.2.1))
      (arg8.view.read (Elt F) (arg8.view.writes (Elt F) f8 (pb_k0_t5 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.2.2.1))

/-- What the 6-chunk loop must leave: from any contents of the buffers with the inputs reading `x1 … x4`, the outputs
    after its sixty trips satisfy `Q`. -/
def Leaves6 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond6 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t6 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).1))
      (arg6.view.read (Elt F) (arg6.view.writes (Elt F) f6 (pb_k0_t6 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.1))
      (arg7.view.read (Elt F) (arg7.view.writes (Elt F) f7 (pb_k0_t6 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.2.1))
      (arg8.view.read (Elt F) (arg8.view.writes (Elt F) f8 (pb_k0_t6 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.2.2.1))

set_option maxHeartbeats 8000000 in
/-- The body at a tile that takes the 1-chunk conditional. -/
theorem run1 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc1 : k0_cond1 i = 1#1) (hQ : Leaves1 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc2 : ¬ k0_cond2 i = 1#1 := fun h => by have a := (cond2_iff i).1 h; have b := (cond1_iff i).1 hc1; omega
  have hc3 : ¬ k0_cond3 i = 1#1 := fun h => by have a := (cond3_iff i).1 h; have b := (cond1_iff i).1 hc1; omega
  have hc4 : ¬ k0_cond4 i = 1#1 := fun h => by have a := (cond4_iff i).1 h; have b := (cond1_iff i).1 hc1; omega
  have hc5 : ¬ k0_cond5 i = 1#1 := fun h => by have a := (cond5_iff i).1 h; have b := (cond1_iff i).1 hc1; omega
  have hc6 : ¬ k0_cond6 i = 1#1 := fun h => by have a := (cond6_iff i).1 h; have b := (cond1_iff i).1 hc1; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc1 _ _ _ _ _ _ _ _ _ e1 e2 e3 e4
  iexists _, _; isplitr; swap; · iexact H9
  ipureintro; rfl

set_option maxHeartbeats 8000000 in
/-- The body at a tile that takes the 2-chunk conditional. -/
theorem run2 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc2 : k0_cond2 i = 1#1) (hQ : Leaves2 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc1 : ¬ k0_cond1 i = 1#1 := fun h => by have a := (cond1_iff i).1 h; have b := (cond2_iff i).1 hc2; omega
  have hc3 : ¬ k0_cond3 i = 1#1 := fun h => by have a := (cond3_iff i).1 h; have b := (cond2_iff i).1 hc2; omega
  have hc4 : ¬ k0_cond4 i = 1#1 := fun h => by have a := (cond4_iff i).1 h; have b := (cond2_iff i).1 hc2; omega
  have hc5 : ¬ k0_cond5 i = 1#1 := fun h => by have a := (cond5_iff i).1 h; have b := (cond2_iff i).1 hc2; omega
  have hc6 : ¬ k0_cond6 i = 1#1 := fun h => by have a := (cond6_iff i).1 h; have b := (cond2_iff i).1 hc2; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc2 _ _ _ _ _ _ _ _ _ e1 e2 e3 e4
  iexists _, _; isplitr; swap; · iexact H9
  ipureintro; rfl

set_option maxHeartbeats 8000000 in
/-- The body at a tile that takes the 3-chunk conditional. -/
theorem run3 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc3 : k0_cond3 i = 1#1) (hQ : Leaves3 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc1 : ¬ k0_cond1 i = 1#1 := fun h => by have a := (cond1_iff i).1 h; have b := (cond3_iff i).1 hc3; omega
  have hc2 : ¬ k0_cond2 i = 1#1 := fun h => by have a := (cond2_iff i).1 h; have b := (cond3_iff i).1 hc3; omega
  have hc4 : ¬ k0_cond4 i = 1#1 := fun h => by have a := (cond4_iff i).1 h; have b := (cond3_iff i).1 hc3; omega
  have hc5 : ¬ k0_cond5 i = 1#1 := fun h => by have a := (cond5_iff i).1 h; have b := (cond3_iff i).1 hc3; omega
  have hc6 : ¬ k0_cond6 i = 1#1 := fun h => by have a := (cond6_iff i).1 h; have b := (cond3_iff i).1 hc3; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc3 _ _ _ _ _ _ _ _ _ e1 e2 e3 e4
  iexists _, _; isplitr; swap; · iexact H9
  ipureintro; rfl

set_option maxHeartbeats 8000000 in
/-- The body at a tile that takes the 4-chunk conditional. -/
theorem run4 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc4 : k0_cond4 i = 1#1) (hQ : Leaves4 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc1 : ¬ k0_cond1 i = 1#1 := fun h => by have a := (cond1_iff i).1 h; have b := (cond4_iff i).1 hc4; omega
  have hc2 : ¬ k0_cond2 i = 1#1 := fun h => by have a := (cond2_iff i).1 h; have b := (cond4_iff i).1 hc4; omega
  have hc3 : ¬ k0_cond3 i = 1#1 := fun h => by have a := (cond3_iff i).1 h; have b := (cond4_iff i).1 hc4; omega
  have hc5 : ¬ k0_cond5 i = 1#1 := fun h => by have a := (cond5_iff i).1 h; have b := (cond4_iff i).1 hc4; omega
  have hc6 : ¬ k0_cond6 i = 1#1 := fun h => by have a := (cond6_iff i).1 h; have b := (cond4_iff i).1 hc4; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc4 _ _ _ _ _ _ _ _ _ e1 e2 e3 e4
  iexists _, _; isplitr; swap; · iexact H9
  ipureintro; rfl

set_option maxHeartbeats 8000000 in
/-- The body at a tile that takes the 5-chunk conditional. -/
theorem run5 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc5 : k0_cond5 i = 1#1) (hQ : Leaves5 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc1 : ¬ k0_cond1 i = 1#1 := fun h => by have a := (cond1_iff i).1 h; have b := (cond5_iff i).1 hc5; omega
  have hc2 : ¬ k0_cond2 i = 1#1 := fun h => by have a := (cond2_iff i).1 h; have b := (cond5_iff i).1 hc5; omega
  have hc3 : ¬ k0_cond3 i = 1#1 := fun h => by have a := (cond3_iff i).1 h; have b := (cond5_iff i).1 hc5; omega
  have hc4 : ¬ k0_cond4 i = 1#1 := fun h => by have a := (cond4_iff i).1 h; have b := (cond5_iff i).1 hc5; omega
  have hc6 : ¬ k0_cond6 i = 1#1 := fun h => by have a := (cond6_iff i).1 h; have b := (cond5_iff i).1 hc5; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc5 _ _ _ _ _ _ _ _ _ e1 e2 e3 e4
  iexists _, _; isplitr; swap; · iexact H9
  ipureintro; rfl

set_option maxHeartbeats 8000000 in
/-- The body at a tile that takes the 6-chunk conditional. -/
theorem run6 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc6 : k0_cond6 i = 1#1) (hQ : Leaves6 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc1 : ¬ k0_cond1 i = 1#1 := fun h => by have a := (cond1_iff i).1 h; have b := (cond6_iff i).1 hc6; omega
  have hc2 : ¬ k0_cond2 i = 1#1 := fun h => by have a := (cond2_iff i).1 h; have b := (cond6_iff i).1 hc6; omega
  have hc3 : ¬ k0_cond3 i = 1#1 := fun h => by have a := (cond3_iff i).1 h; have b := (cond6_iff i).1 hc6; omega
  have hc4 : ¬ k0_cond4 i = 1#1 := fun h => by have a := (cond4_iff i).1 h; have b := (cond6_iff i).1 hc6; omega
  have hc5 : ¬ k0_cond5 i = 1#1 := fun h => by have a := (cond5_iff i).1 h; have b := (cond6_iff i).1 hc6; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc6 _ _ _ _ _ _ _ _ _ e1 e2 e3 e4
  iexists _, _; isplitr; swap; · iexact H9
  ipureintro; rfl

set_option maxHeartbeats 8000000 in
/-- The body at any grid point, for any continuation: from the four inputs at contents `x1 … x4` and the four outputs and the
    scratch at anything it runs to its return, hands the inputs back as they were and the outputs at contents satisfying `Q`. -/
theorem kernelRun (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hQ1 : Leaves1 c i arg1 harg1 arg2 harg2 arg3 harg3 arg4 harg4 arg5 harg5 arg6 harg6 arg7 harg7 arg8 harg8 arg9 harg9 x1 x2 x3 x4 Q) (hQ2 : Leaves2 c i arg1 harg1 arg2 harg2 arg3 harg3 arg4 harg4 arg5 harg5 arg6 harg6 arg7 harg7 arg8 harg8 arg9 harg9 x1 x2 x3 x4 Q) (hQ3 : Leaves3 c i arg1 harg1 arg2 harg2 arg3 harg3 arg4 harg4 arg5 harg5 arg6 harg6 arg7 harg7 arg8 harg8 arg9 harg9 x1 x2 x3 x4 Q) (hQ4 : Leaves4 c i arg1 harg1 arg2 harg2 arg3 harg3 arg4 harg4 arg5 harg5 arg6 harg6 arg7 harg7 arg8 harg8 arg9 harg9 x1 x2 x3 x4 Q) (hQ5 : Leaves5 c i arg1 harg1 arg2 harg2 arg3 harg3 arg4 harg4 arg5 harg5 arg6 harg6 arg7 harg7 arg8 harg8 arg9 harg9 x1 x2 x3 x4 Q) (hQ6 : Leaves6 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hi : (i 0).val < 48 := (i 0).isLt
  rcases (show (i 0).val / 8 = 0 ∨ (i 0).val / 8 = 1 ∨ (i 0).val / 8 = 2 ∨ (i 0).val / 8 = 3 ∨ (i 0).val / 8 = 4 ∨ (i 0).val / 8 = 5 by omega) with h | h | h | h | h | h
  · exact run1 c i arg1 harg1 arg2 harg2 arg3 harg3 arg4 harg4 arg5 harg5 arg6 harg6 arg7 harg7 arg8 harg8 arg9 harg9 x1 x2 x3 x4 Q ((cond1_iff i).2 h) hQ1 K
  · exact run2 c i arg1 harg1 arg2 harg2 arg3 harg3 arg4 harg4 arg5 harg5 arg6 harg6 arg7 harg7 arg8 harg8 arg9 harg9 x1 x2 x3 x4 Q ((cond2_iff i).2 h) hQ2 K
  · exact run3 c i arg1 harg1 arg2 harg2 arg3 harg3 arg4 harg4 arg5 harg5 arg6 harg6 arg7 harg7 arg8 harg8 arg9 harg9 x1 x2 x3 x4 Q ((cond3_iff i).2 h) hQ3 K
  · exact run4 c i arg1 harg1 arg2 harg2 arg3 harg3 arg4 harg4 arg5 harg5 arg6 harg6 arg7 harg7 arg8 harg8 arg9 harg9 x1 x2 x3 x4 Q ((cond4_iff i).2 h) hQ4 K
  · exact run5 c i arg1 harg1 arg2 harg2 arg3 harg3 arg4 harg4 arg5 harg5 arg6 harg6 arg7 harg7 arg8 harg8 arg9 harg9 x1 x2 x3 x4 Q ((cond5_iff i).2 h) hQ5 K
  · exact run6 c i arg1 harg1 arg2 harg2 arg3 harg3 arg4 harg4 arg5 harg5 arg6 harg6 arg7 harg7 arg8 harg8 arg9 harg9 x1 x2 x3 x4 Q ((cond6_iff i).2 h) hQ6 K

end Cert.Attend.Hand

end
-- ==== Proof.AttendFrame.lean ====
/-
  Hand-written, untrusted. The frame of `Attend`: from any memory every execution of the attend call ends, the arguments
  hold what they held at launch, every semaphore counter is back at zero. The four outputs are FORGOTTEN (nothing here reads
  them: Lib/Pipeline/Dat.lean `Dat.toRForget`); the launch is Lib/Pipeline/Frame.lean `θ_run_frame_forget`.
-/
module

public import proofs.«01_k».proof.Defs
public import proofs.«01_k».proof.Proof.AttendRun

@[expose] public section

set_option maxRecDepth 16384
set_option maxHeartbeats 8000000

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The four outputs are forgotten, the four inputs tracked. -/
def forgets0 : Fin 8 → Bool := fun w => decide (4 ≤ w.val)

/-- The proof data on core `c`: the arrays as the region finds them; after the body each input window's block as fetched,
    the outputs unnamed; the invariant `ΦA` (the scratch at some contents, the generator register at some state). -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
    | 6 => Pipeline.Dat.unnamed (cfg := cfg0) 6 t
    | 7 => Pipeline.Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`: the invariant, the core's `owes`, the inputs' blocks, the outputs at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))
/-- What the body returns at point `t`: the same, the inputs' blocks in place. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_0, after_1, after_2, after_3]
  unfold Pipeline.ΦA
  rw [scopedRest0_eq]
  iintro ⟨⟨⟨%s0, HS0⟩, Hg⟩, Ho, ⟨%d0, H0⟩, ⟨%d1, H1⟩, ⟨%d2, H2⟩, ⟨%d3, H3⟩, H4, H5, H6, H7⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _)
    (iblk m c 0 t) (iblk m c 1 t) (iblk m c 2 t) (iblk m c 3 t) (fun _ _ _ _ => True)
    (fun _ _ _ _ _ _ _ _ _ _ _ _ _ _ => trivial) (fun _ _ _ _ _ _ _ _ _ _ _ _ _ _ => trivial) (fun _ _ _ _ _ _ _ _ _ _ _ _ _ _ => trivial)
    (fun _ _ _ _ _ _ _ _ _ _ _ _ _ _ => trivial) (fun _ _ _ _ _ _ _ _ _ _ _ _ _ _ => trivial) (fun _ _ _ _ _ _ _ _ _ _ _ _ _ _ => trivial) _)
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  iintro ⟨H0, H1, H2, H3, ⟨%d4, %d5, %d6, %d7, -, H4, H5, H6, H7⟩, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iexists _; iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten: the triple restated (Lib/Pipeline/FrameBody.lean `triple_restated`). -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget`'s implicit arguments are found by unifying its conclusion with this statement, which unifies only
-- when unification may unfold plain definitions in a metavariable's type
set_option backward.isDefEq.respectTransparency.types false in
/-- From any memory with zero counters every execution of @main ends, with every tracked array as the library computes it from
    the proof data, every other unscoped buffer as the region found it and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m ρ}

/-- After the run each argument holds what it held at launch: the staged ones by the pipeline's input rule, the other as a
    buffer no window stages. -/
theorem final_args {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(((dats m 0 c).toRForget_arrAt_iff (show forgets0 0 = false by decide) _ _).mp ((h c).1 0)).trans (((dats m 0 c).arrAt_in 0 rfl _).trans ((A_eq m c 0).trans (V_main_arg0 m c))),
    (((dats m 0 c).toRForget_arrAt_iff (show forgets0 1 = false by decide) _ _).mp ((h c).1 1)).trans (((dats m 0 c).arrAt_in 1 rfl _).trans ((A_eq m c 1).trans (V_main_arg1 m c))),
    ((h c).2 main_arg2 (Pipeline.mem_restRefs_of main_arg2 (by decide) (by decide))).trans (V_main_arg2 m c),
    (((dats m 0 c).toRForget_arrAt_iff (show forgets0 3 = false by decide) _ _).mp ((h c).1 3)).trans (((dats m 0 c).arrAt_in 3 rfl _).trans ((A_eq m c 3).trans (V_main_arg3 m c)))⟩

end Cert.Attend.Hand

end
-- ==== Proof.AttendIdealRun.lean ====
/-
  Hand-written, untrusted. The body of `AttendIdeal`'s attend call, run by `sl_exec` at any grid point: of its six conditionals
  exactly one is taken (`cond_iff`), whose loop goes by its generated invariant. The pieces the loop leaves are handed to a
  predicate `Q` on the four outputs' contents, so that one run serves the frame (`Q` always true) and the values.
-/
module

public import proofs.«01_k».proof.Proof.Gen.AttendIdeal.Frame
public import proofs.«01_k».proof.Proof.Gen.AttendIdeal.Loops
public import proofs.«01_k».proof.Proof.Gen.AttendIdeal.Skeleton
public import Idealize.ShloMosaic.Lib.Pipeline.Frame
public import Idealize.ShloMosaic.Lib.Tactic

@[expose] public section

set_option maxRecDepth 16384

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-- The conditional on 1 key chunks is taken at the tiles whose number divided by eight is 0. -/
theorem cond1_iff : ∀ i : grid0.Coords, k0_cond1 i = 1#1 ↔ (i 0).val / 8 = 0 := by decide +kernel
/-- The conditional on 2 key chunks is taken at the tiles whose number divided by eight is 1. -/
theorem cond2_iff : ∀ i : grid0.Coords, k0_cond2 i = 1#1 ↔ (i 0).val / 8 = 1 := by decide +kernel
/-- The conditional on 3 key chunks is taken at the tiles whose number divided by eight is 2. -/
theorem cond3_iff : ∀ i : grid0.Coords, k0_cond3 i = 1#1 ↔ (i 0).val / 8 = 2 := by decide +kernel
/-- The conditional on 4 key chunks is taken at the tiles whose number divided by eight is 3. -/
theorem cond4_iff : ∀ i : grid0.Coords, k0_cond4 i = 1#1 ↔ (i 0).val / 8 = 3 := by decide +kernel
/-- The conditional on 5 key chunks is taken at the tiles whose number divided by eight is 4. -/
theorem cond5_iff : ∀ i : grid0.Coords, k0_cond5 i = 1#1 ↔ (i 0).val / 8 = 4 := by decide +kernel
/-- The conditional on 6 key chunks is taken at the tiles whose number divided by eight is 5. -/
theorem cond6_iff : ∀ i : grid0.Coords, k0_cond6 i = 1#1 ↔ (i 0).val / 8 = 5 := by decide +kernel

/-- What the 1-chunk loop must leave: from any contents of the buffers with the inputs reading `x1 … x4`, the outputs
    after its sixty trips satisfy `Q`. -/
def Leaves1 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond1 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t1 (F := F) Variants.none c none i arg1 harg1 arg2 harg2 arg3 harg3 arg4 harg4 arg5 harg5 arg6 harg6 arg7 harg7 arg8 harg8 arg9 harg9 h f1 f2 f3 f4 f5 f6 f7 f8 f9 60).1))
      (arg6.view.read (Elt F) (arg6.view.writes (Elt F) f6 (pb_k0_t1 (F := F) Variants.none c none i arg1 harg1 arg2 harg2 arg3 harg3 arg4 harg4 arg5 harg5 arg6 harg6 arg7 harg7 arg8 harg8 arg9 harg9 h f1 f2 f3 f4 f5 f6 f7 f8 f9 60).2.1))
      (arg7.view.read (Elt F) (arg7.view.writes (Elt F) f7 (pb_k0_t1 (F := F) Variants.none c none i arg1 harg1 arg2 harg2 arg3 harg3 arg4 harg4 arg5 harg5 arg6 harg6 arg7 harg7 arg8 harg8 arg9 harg9 h f1 f2 f3 f4 f5 f6 f7 f8 f9 60).2.2.1))
      (arg8.view.read (Elt F) (arg8.view.writes (Elt F) f8 (pb_k0_t1 (F := F) Variants.none c none i arg1 harg1 arg2 harg2 arg3 harg3 arg4 harg4 arg5 harg5 arg6 harg6 arg7 harg7 arg8 harg8 arg9 harg9 h f1 f2 f3 f4 f5 f6 f7 f8 f9 60).2.2.2.1))

/-- What the 2-chunk loop must leave: from any contents of the buffers with the inputs reading `x1 … x4`, the outputs
    after its sixty trips satisfy `Q`. -/
def Leaves2 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond2 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t2 (F := F) Variants.none c none i arg1 harg1 arg2 harg2 arg3 harg3 arg4 harg4 arg5 harg5 arg6 harg6 arg7 harg7 arg8 harg8 arg9 harg9 h f1 f2 f3 f4 f5 f6 f7 f8 f9 60).1))
      (arg6.view.read (Elt F) (arg6.view.writes (Elt F) f6 (pb_k0_t2 (F := F) Variants.none c none i arg1 harg1 arg2 harg2 arg3 harg3 arg4 harg4 arg5 harg5 arg6 harg6 arg7 harg7 arg8 harg8 arg9 harg9 h f1 f2 f3 f4 f5 f6 f7 f8 f9 60).2.1))
      (arg7.view.read (Elt F) (arg7.view.writes (Elt F) f7 (pb_k0_t2 (F := F) Variants.none c none i arg1 harg1 arg2 harg2 arg3 harg3 arg4 harg4 arg5 harg5 arg6 harg6 arg7 harg7 arg8 harg8 arg9 harg9 h f1 f2 f3 f4 f5 f6 f7 f8 f9 60).2.2.1))
      (arg8.view.read (Elt F) (arg8.view.writes (Elt F) f8 (pb_k0_t2 (F := F) Variants.none c none i arg1 harg1 arg2 harg2 arg3 harg3 arg4 harg4 arg5 harg5 arg6 harg6 arg7 harg7 arg8 harg8 arg9 harg9 h f1 f2 f3 f4 f5 f6 f7 f8 f9 60).2.2.2.1))

/-- What the 3-chunk loop must leave: from any contents of the buffers with the inputs reading `x1 … x4`, the outputs
    after its sixty trips satisfy `Q`. -/
def Leaves3 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond3 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t3 (F := F) Variants.none c none i arg1 harg1 arg2 harg2 arg3 harg3 arg4 harg4 arg5 harg5 arg6 harg6 arg7 harg7 arg8 harg8 arg9 harg9 h f1 f2 f3 f4 f5 f6 f7 f8 f9 60).1))
      (arg6.view.read (Elt F) (arg6.view.writes (Elt F) f6 (pb_k0_t3 (F := F) Variants.none c none i arg1 harg1 arg2 harg2 arg3 harg3 arg4 harg4 arg5 harg5 arg6 harg6 arg7 harg7 arg8 harg8 arg9 harg9 h f1 f2 f3 f4 f5 f6 f7 f8 f9 60).2.1))
      (arg7.view.read (Elt F) (arg7.view.writes (Elt F) f7 (pb_k0_t3 (F := F) Variants.none c none i arg1 harg1 arg2 harg2 arg3 harg3 arg4 harg4 arg5 harg5 arg6 harg6 arg7 harg7 arg8 harg8 arg9 harg9 h f1 f2 f3 f4 f5 f6 f7 f8 f9 60).2.2.1))
      (arg8.view.read (Elt F) (arg8.view.writes (Elt F) f8 (pb_k0_t3 (F := F) Variants.none c none i arg1 harg1 arg2 harg2 arg3 harg3 arg4 harg4 arg5 harg5 arg6 harg6 arg7 harg7 arg8 harg8 arg9 harg9 h f1 f2 f3 f4 f5 f6 f7 f8 f9 60).2.2.2.1))

/-- What the 4-chunk loop must leave: from any contents of the buffers with the inputs reading `x1 … x4`, the outputs
    after its sixty trips satisfy `Q`. -/
def Leaves4 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond4 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t4 (F := F) Variants.none c none i arg1 harg1 arg2 harg2 arg3 harg3 arg4 harg4 arg5 harg5 arg6 harg6 arg7 harg7 arg8 harg8 arg9 harg9 h f1 f2 f3 f4 f5 f6 f7 f8 f9 60).1))
      (arg6.view.read (Elt F) (arg6.view.writes (Elt F) f6 (pb_k0_t4 (F := F) Variants.none c none i arg1 harg1 arg2 harg2 arg3 harg3 arg4 harg4 arg5 harg5 arg6 harg6 arg7 harg7 arg8 harg8 arg9 harg9 h f1 f2 f3 f4 f5 f6 f7 f8 f9 60).2.1))
      (arg7.view.read (Elt F) (arg7.view.writes (Elt F) f7 (pb_k0_t4 (F := F) Variants.none c none i arg1 harg1 arg2 harg2 arg3 harg3 arg4 harg4 arg5 harg5 arg6 harg6 arg7 harg7 arg8 harg8 arg9 harg9 h f1 f2 f3 f4 f5 f6 f7 f8 f9 60).2.2.1))
      (arg8.view.read (Elt F) (arg8.view.writes (Elt F) f8 (pb_k0_t4 (F := F) Variants.none c none i arg1 harg1 arg2 harg2 arg3 harg3 arg4 harg4 arg5 harg5 arg6 harg6 arg7 harg7 arg8 harg8 arg9 harg9 h f1 f2 f3 f4 f5 f6 f7 f8 f9 60).2.2.2.1))

/-- What the 5-chunk loop must leave: from any contents of the buffers with the inputs reading `x1 … x4`, the outputs
    after its sixty trips satisfy `Q`. -/
def Leaves5 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond5 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t5 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).1))
      (arg6.view.read (Elt F) (arg6.view.writes (Elt F) f6 (pb_k0_t5 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.1))
      (arg7.view.read (Elt F) (arg7.view.writes (Elt F) f7 (pb_k0_t5 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.2.1))
      (arg8.view.read (Elt F) (arg8.view.writes (Elt F) f8 (pb_k0_t5 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.2.2.1))

/-- What the 6-chunk loop must leave: from any contents of the buffers with the inputs reading `x1 … x4`, the outputs
    after its sixty trips satisfy `Q`. -/
def Leaves6 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop) : Prop :=
  ∀ (h : k0_cond6 i = 1#1) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty), arg1.view.read (Elt F) f1 = x1 → arg2.view.read (Elt F) f2 = x2 → arg3.view.read (Elt F) f3 = x3 → arg4.view.read (Elt F) f4 = x4 →
    Q (arg5.view.read (Elt F) (arg5.view.writes (Elt F) f5 (pb_k0_t6 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).1))
      (arg6.view.read (Elt F) (arg6.view.writes (Elt F) f6 (pb_k0_t6 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.1))
      (arg7.view.read (Elt F) (arg7.view.writes (Elt F) f7 (pb_k0_t6 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.2.1))
      (arg8.view.read (Elt F) (arg8.view.writes (Elt F) f8 (pb_k0_t6 (F := F) Variants.none c none i arg1 harg1 arg2 harg2 arg3 harg3 arg4 harg4 arg5 harg5 arg6 harg6 arg7 harg7 arg8 harg8 arg9 harg9 (k0_pay212 i) h f1 f2 f3 f4 f5 f6 f7 f8 f9 60).2.2.2.1))

set_option maxHeartbeats 8000000 in
/-- The body at a tile that takes the 1-chunk conditional. -/
theorem run1 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc1 : k0_cond1 i = 1#1) (hQ : Leaves1 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc2 : ¬ k0_cond2 i = 1#1 := fun h => by have a := (cond2_iff i).1 h; have b := (cond1_iff i).1 hc1; omega
  have hc3 : ¬ k0_cond3 i = 1#1 := fun h => by have a := (cond3_iff i).1 h; have b := (cond1_iff i).1 hc1; omega
  have hc4 : ¬ k0_cond4 i = 1#1 := fun h => by have a := (cond4_iff i).1 h; have b := (cond1_iff i).1 hc1; omega
  have hc5 : ¬ k0_cond5 i = 1#1 := fun h => by have a := (cond5_iff i).1 h; have b := (cond1_iff i).1 hc1; omega
  have hc6 : ¬ k0_cond6 i = 1#1 := fun h => by have a := (cond6_iff i).1 h; have b := (cond1_iff i).1 hc1; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc1 _ _ _ _ _ _ _ _ _ e1 e2 e3 e4
  iexists _, _; isplitr; swap; · iexact H9
  ipureintro; rfl

set_option maxHeartbeats 8000000 in
/-- The body at a tile that takes the 2-chunk conditional. -/
theorem run2 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc2 : k0_cond2 i = 1#1) (hQ : Leaves2 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc1 : ¬ k0_cond1 i = 1#1 := fun h => by have a := (cond1_iff i).1 h; have b := (cond2_iff i).1 hc2; omega
  have hc3 : ¬ k0_cond3 i = 1#1 := fun h => by have a := (cond3_iff i).1 h; have b := (cond2_iff i).1 hc2; omega
  have hc4 : ¬ k0_cond4 i = 1#1 := fun h => by have a := (cond4_iff i).1 h; have b := (cond2_iff i).1 hc2; omega
  have hc5 : ¬ k0_cond5 i = 1#1 := fun h => by have a := (cond5_iff i).1 h; have b := (cond2_iff i).1 hc2; omega
  have hc6 : ¬ k0_cond6 i = 1#1 := fun h => by have a := (cond6_iff i).1 h; have b := (cond2_iff i).1 hc2; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc2 _ _ _ _ _ _ _ _ _ e1 e2 e3 e4
  iexists _, _; isplitr; swap; · iexact H9
  ipureintro; rfl

set_option maxHeartbeats 8000000 in
/-- The body at a tile that takes the 3-chunk conditional. -/
theorem run3 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc3 : k0_cond3 i = 1#1) (hQ : Leaves3 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc1 : ¬ k0_cond1 i = 1#1 := fun h => by have a := (cond1_iff i).1 h; have b := (cond3_iff i).1 hc3; omega
  have hc2 : ¬ k0_cond2 i = 1#1 := fun h => by have a := (cond2_iff i).1 h; have b := (cond3_iff i).1 hc3; omega
  have hc4 : ¬ k0_cond4 i = 1#1 := fun h => by have a := (cond4_iff i).1 h; have b := (cond3_iff i).1 hc3; omega
  have hc5 : ¬ k0_cond5 i = 1#1 := fun h => by have a := (cond5_iff i).1 h; have b := (cond3_iff i).1 hc3; omega
  have hc6 : ¬ k0_cond6 i = 1#1 := fun h => by have a := (cond6_iff i).1 h; have b := (cond3_iff i).1 hc3; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc3 _ _ _ _ _ _ _ _ _ e1 e2 e3 e4
  iexists _, _; isplitr; swap; · iexact H9
  ipureintro; rfl

set_option maxHeartbeats 8000000 in
/-- The body at a tile that takes the 4-chunk conditional. -/
theorem run4 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc4 : k0_cond4 i = 1#1) (hQ : Leaves4 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc1 : ¬ k0_cond1 i = 1#1 := fun h => by have a := (cond1_iff i).1 h; have b := (cond4_iff i).1 hc4; omega
  have hc2 : ¬ k0_cond2 i = 1#1 := fun h => by have a := (cond2_iff i).1 h; have b := (cond4_iff i).1 hc4; omega
  have hc3 : ¬ k0_cond3 i = 1#1 := fun h => by have a := (cond3_iff i).1 h; have b := (cond4_iff i).1 hc4; omega
  have hc5 : ¬ k0_cond5 i = 1#1 := fun h => by have a := (cond5_iff i).1 h; have b := (cond4_iff i).1 hc4; omega
  have hc6 : ¬ k0_cond6 i = 1#1 := fun h => by have a := (cond6_iff i).1 h; have b := (cond4_iff i).1 hc4; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc4 _ _ _ _ _ _ _ _ _ e1 e2 e3 e4
  iexists _, _; isplitr; swap; · iexact H9
  ipureintro; rfl

set_option maxHeartbeats 8000000 in
/-- The body at a tile that takes the 5-chunk conditional. -/
theorem run5 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc5 : k0_cond5 i = 1#1) (hQ : Leaves5 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc1 : ¬ k0_cond1 i = 1#1 := fun h => by have a := (cond1_iff i).1 h; have b := (cond5_iff i).1 hc5; omega
  have hc2 : ¬ k0_cond2 i = 1#1 := fun h => by have a := (cond2_iff i).1 h; have b := (cond5_iff i).1 hc5; omega
  have hc3 : ¬ k0_cond3 i = 1#1 := fun h => by have a := (cond3_iff i).1 h; have b := (cond5_iff i).1 hc5; omega
  have hc4 : ¬ k0_cond4 i = 1#1 := fun h => by have a := (cond4_iff i).1 h; have b := (cond5_iff i).1 hc5; omega
  have hc6 : ¬ k0_cond6 i = 1#1 := fun h => by have a := (cond6_iff i).1 h; have b := (cond5_iff i).1 hc5; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc5 _ _ _ _ _ _ _ _ _ e1 e2 e3 e4
  iexists _, _; isplitr; swap; · iexact H9
  ipureintro; rfl

set_option maxHeartbeats 8000000 in
/-- The body at a tile that takes the 6-chunk conditional. -/
theorem run6 (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hc6 : k0_cond6 i = 1#1) (hQ : Leaves6 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hc1 : ¬ k0_cond1 i = 1#1 := fun h => by have a := (cond1_iff i).1 h; have b := (cond6_iff i).1 hc6; omega
  have hc2 : ¬ k0_cond2 i = 1#1 := fun h => by have a := (cond2_iff i).1 h; have b := (cond6_iff i).1 hc6; omega
  have hc3 : ¬ k0_cond3 i = 1#1 := fun h => by have a := (cond3_iff i).1 h; have b := (cond6_iff i).1 hc6; omega
  have hc4 : ¬ k0_cond4 i = 1#1 := fun h => by have a := (cond4_iff i).1 h; have b := (cond6_iff i).1 hc6; omega
  have hc5 : ¬ k0_cond5 i = 1#1 := fun h => by have a := (cond5_iff i).1 h; have b := (cond6_iff i).1 hc6; omega
  simp only [cc0_attend_eq_skeleton]; unfold cc0_attend_skel owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5 H6 H7 H8]
  · iexists _, _, _, _
    isplitr
    swap
    · isplitl [H5]
      · iexists _; isplitr; swap; · iexact H5
        ipureintro; rfl
      isplitl [H6]
      · iexists _; isplitr; swap; · iexact H6
        ipureintro; rfl
      isplitl [H7]
      · iexists _; isplitr; swap; · iexact H7
        ipureintro; rfl
      iexists _; isplitr; swap; · iexact H8
      ipureintro; rfl
    ipureintro; exact hQ hc6 _ _ _ _ _ _ _ _ _ e1 e2 e3 e4
  iexists _, _; isplitr; swap; · iexact H9
  ipureintro; rfl

set_option maxHeartbeats 8000000 in
/-- The body at any grid point, for any continuation: from the four inputs at contents `x1 … x4` and the four outputs and the
    scratch at anything it runs to its return, hands the inputs back as they were and the outputs at contents satisfying `Q`. -/
theorem kernelRun (c : Dev nD) (i : grid0.Coords) (arg1 : Memref sig .tc .vmem S256x7680 .bf16) (harg1 : arg1.IsWhole) (arg2 : Memref sig .tc .vmem S6x768x128 .fp8e4m3) (harg2 : arg2.IsWhole) (arg3 : Memref sig .tc .vmem S6x768x128 .f32) (harg3 : arg3.IsWhole) (arg4 : Memref sig .tc .vmem S6x128x768 .bf16) (harg4 : arg4.IsWhole) (arg5 : Memref sig .tc .vmem S256x7680 .bf16) (harg5 : arg5.IsWhole) (arg6 : Memref sig .tc .vmem S60x1x256 .f32) (harg6 : arg6.IsWhole) (arg7 : Memref sig .tc .vmem S60x256x128 .fp8e4m3) (harg7 : arg7.IsWhole) (arg8 : Memref sig .tc .vmem S60x1x256 .f32) (harg8 : arg8.IsWhole) (arg9 : Memref sig .tc .vmem S768x256 .f32) (harg9 : arg9.IsWhole)
    (x1 : S256x7680.Idx → Elt F .bf16) (x2 : S6x768x128.Idx → Elt F .fp8e4m3) (x3 : S6x768x128.Idx → Elt F .f32) (x4 : S6x128x768.Idx → Elt F .bf16)
    (Q : (S256x7680.Idx → Elt F .bf16) → (S60x1x256.Idx → Elt F .f32) → (S60x256x128.Idx → Elt F .fp8e4m3) → (S60x1x256.Idx → Elt F .f32) → Prop)
    (hQ1 : Leaves1 c i arg1 harg1 arg2 harg2 arg3 harg3 arg4 harg4 arg5 harg5 arg6 harg6 arg7 harg7 arg8 harg8 arg9 harg9 x1 x2 x3 x4 Q) (hQ2 : Leaves2 c i arg1 harg1 arg2 harg2 arg3 harg3 arg4 harg4 arg5 harg5 arg6 harg6 arg7 harg7 arg8 harg8 arg9 harg9 x1 x2 x3 x4 Q) (hQ3 : Leaves3 c i arg1 harg1 arg2 harg2 arg3 harg3 arg4 harg4 arg5 harg5 arg6 harg6 arg7 harg7 arg8 harg8 arg9 harg9 x1 x2 x3 x4 Q) (hQ4 : Leaves4 c i arg1 harg1 arg2 harg2 arg3 harg3 arg4 harg4 arg5 harg5 arg6 harg6 arg7 harg7 arg8 harg8 arg9 harg9 x1 x2 x3 x4 Q) (hQ5 : Leaves5 c i arg1 harg1 arg2 harg2 arg3 harg3 arg4 harg4 arg5 harg5 arg6 harg6 arg7 harg7 arg8 harg8 arg9 harg9 x1 x2 x3 x4 Q) (hQ6 : Leaves6 c i arg1 harg1 arg2 harg2 arg3 harg3 arg4 harg4 arg5 harg5 arg6 harg6 arg7 harg7 arg8 harg8 arg9 harg9 x1 x2 x3 x4 Q) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ d5 d6 d7 d8, ⌜Q d5 d6 d7 d8⌝ ∗ owns (c : Thread nD τ) arg5 fullShare d5 ∗ owns (c : Thread nD τ) arg6 fullShare d6 ∗ owns (c : Thread nD τ) arg7 fullShare d7 ∗ owns (c : Thread nD τ) arg8 fullShare d8) ∗ (∃ d, owns (c : Thread nD τ) arg9 fullShare d)) -∗ K ⟨⟩))
      ⊢ wp frame (wpE (defs₀ (F := F)) Variants.none c none) Set.univ
          (cc0_attend (F := F) i arg1 harg1 arg2 harg2 arg3 harg3 arg4 harg4 arg5 harg5 arg6 harg6 arg7 harg7 arg8 harg8 arg9 harg9) K := by
  have hi : (i 0).val < 48 := (i 0).isLt
  rcases (show (i 0).val / 8 = 0 ∨ (i 0).val / 8 = 1 ∨ (i 0).val / 8 = 2 ∨ (i 0).val / 8 = 3 ∨ (i 0).val / 8 = 4 ∨ (i 0).val / 8 = 5 by omega) with h | h | h | h | h | h
  · exact run1 c i arg1 harg1 arg2 harg2 arg3 harg3 arg4 harg4 arg5 harg5 arg6 harg6 arg7 harg7 arg8 harg8 arg9 harg9 x1 x2 x3 x4 Q ((cond1_iff i).2 h) hQ1 K
  · exact run2 c i arg1 harg1 arg2 harg2 arg3 harg3 arg4 harg4 arg5 harg5 arg6 harg6 arg7 harg7 arg8 harg8 arg9 harg9 x1 x2 x3 x4 Q ((cond2_iff i).2 h) hQ2 K
  · exact run3 c i arg1 harg1 arg2 harg2 arg3 harg3 arg4 harg4 arg5 harg5 arg6 harg6 arg7 harg7 arg8 harg8 arg9 harg9 x1 x2 x3 x4 Q ((cond3_iff i).2 h) hQ3 K
  · exact run4 c i arg1 harg1 arg2 harg2 arg3 harg3 arg4 harg4 arg5 harg5 arg6 harg6 arg7 harg7 arg8 harg8 arg9 harg9 x1 x2 x3 x4 Q ((cond4_iff i).2 h) hQ4 K
  · exact run5 c i arg1 harg1 arg2 harg2 arg3 harg3 arg4 harg4 arg5 harg5 arg6 harg6 arg7 harg7 arg8 harg8 arg9 harg9 x1 x2 x3 x4 Q ((cond5_iff i).2 h) hQ5 K
  · exact run6 c i arg1 harg1 arg2 harg2 arg3 harg3 arg4 harg4 arg5 harg5 arg6 harg6 arg7 harg7 arg8 harg8 arg9 harg9 x1 x2 x3 x4 Q ((cond6_iff i).2 h) hQ6 K

end Cert.AttendIdeal.Hand

end
-- ==== Proof.AttendIdealFrame.lean ====
/-
  Hand-written, untrusted. The frame of `AttendIdeal`: from any memory every execution of the attend call ends, the arguments
  hold what they held at launch, every semaphore counter is back at zero. The four outputs are FORGOTTEN (nothing here reads
  them: Lib/Pipeline/Dat.lean `Dat.toRForget`); the launch is Lib/Pipeline/Frame.lean `θ_run_frame_forget`.
-/
module

public import proofs.«01_k».proof.Defs
public import proofs.«01_k».proof.Proof.AttendIdealRun

@[expose] public section

set_option maxRecDepth 16384
set_option maxHeartbeats 8000000

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The four outputs are forgotten, the four inputs tracked. -/
def forgets0 : Fin 8 → Bool := fun w => decide (4 ≤ w.val)

/-- The proof data on core `c`: the arrays as the region finds them; after the body each input window's block as fetched,
    the outputs unnamed; the invariant `ΦA` (the scratch at some contents, the generator register at some state). -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
    | 5 => Pipeline.Dat.unnamed (cfg := cfg0) 5 t
    | 6 => Pipeline.Dat.unnamed (cfg := cfg0) 6 t
    | 7 => Pipeline.Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`: the invariant, the core's `owes`, the inputs' blocks, the outputs at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))
/-- What the body returns at point `t`: the same, the inputs' blocks in place. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d))

/-- The body at the point: the invariant opened, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_0, after_1, after_2, after_3]
  unfold Pipeline.ΦA
  rw [scopedRest0_eq]
  iintro ⟨⟨⟨%s0, HS0⟩, Hg⟩, Ho, ⟨%d0, H0⟩, ⟨%d1, H1⟩, ⟨%d2, H2⟩, ⟨%d3, H3⟩, H4, H5, H6, H7⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _)
    (iblk m c 0 t) (iblk m c 1 t) (iblk m c 2 t) (iblk m c 3 t) (fun _ _ _ _ => True)
    (fun _ _ _ _ _ _ _ _ _ _ _ _ _ _ => trivial) (fun _ _ _ _ _ _ _ _ _ _ _ _ _ _ => trivial) (fun _ _ _ _ _ _ _ _ _ _ _ _ _ _ => trivial)
    (fun _ _ _ _ _ _ _ _ _ _ _ _ _ _ => trivial) (fun _ _ _ _ _ _ _ _ _ _ _ _ _ _ => trivial) (fun _ _ _ _ _ _ _ _ _ _ _ _ _ _ => trivial) _)
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  iintro ⟨H0, H1, H2, H3, ⟨%d4, %d5, %d6, %d7, -, H4, H5, H6, H7⟩, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iexists _; iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten: the triple restated (Lib/Pipeline/FrameBody.lean `triple_restated`). -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget`'s implicit arguments are found by unifying its conclusion with this statement, which unifies only
-- when unification may unfold plain definitions in a metavariable's type
set_option backward.isDefEq.respectTransparency.types false in
/-- From any memory with zero counters every execution of @main ends, with every tracked array as the library computes it from
    the proof data, every other unscoped buffer as the region found it and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m ρ}

/-- After the run each argument holds what it held at launch: the staged ones by the pipeline's input rule, the other as a
    buffer no window stages. -/
theorem final_args {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(((dats m 0 c).toRForget_arrAt_iff (show forgets0 0 = false by decide) _ _).mp ((h c).1 0)).trans (((dats m 0 c).arrAt_in 0 rfl _).trans ((A_eq m c 0).trans (V_main_arg0 m c))),
    (((dats m 0 c).toRForget_arrAt_iff (show forgets0 1 = false by decide) _ _).mp ((h c).1 1)).trans (((dats m 0 c).arrAt_in 1 rfl _).trans ((A_eq m c 1).trans (V_main_arg1 m c))),
    ((h c).2 main_arg2 (Pipeline.mem_restRefs_of main_arg2 (by decide) (by decide))).trans (V_main_arg2 m c),
    (((dats m 0 c).toRForget_arrAt_iff (show forgets0 3 = false by decide) _ _).mp ((h c).1 3)).trans (((dats m 0 c).arrAt_in 3 rfl _).trans ((A_eq m c 3).trans (V_main_arg3 m c)))⟩

end Cert.AttendIdeal.Hand

end
-- ==== Proof.AttendClaims.lean ====
/- The two frames and the `preserves` claim of the attend call (hand-written, untrusted). -/
module

public import proofs.«01_k».proof.Defs
public import proofs.«01_k».proof.Proof.AttendFrame
public import proofs.«01_k».proof.Proof.AttendIdealFrame
public import Idealize.ShloMosaic.Lib.Quiescent

@[expose] public section

noncomputable section

open Idealize.ShloMosaic Idealize.SL.Sem

namespace Cert.Proof

/-- The attend call's frame at the bit-exact values: every execution ends, the arguments are unchanged, every counter at zero. -/
theorem frame_attend : Cert.quiescent_Attend := fun m ρ _ =>
  (θ_run Cert.Attend.defs _ _).mono (fun _ h => ⟨fun c => Cert.Attend.Hand.final_args h.1 c, h.2⟩)
    (Cert.Attend.Hand.run_main m ρ)

/-- The same of the idealized attend call over the extended reals. -/
theorem frame_attend_ideal : Cert.quiescent_AttendIdeal := fun m ρ _ =>
  (θ_run Cert.AttendIdeal.defs _ _).mono (fun _ h => ⟨fun c => Cert.AttendIdeal.Hand.final_args h.1 c, h.2⟩)
    (Cert.AttendIdeal.Hand.run_main m ρ)

/-- The idealized attend call is the attend call's own text: no rule rewrote it, so nothing was assumed of it. -/
theorem preserves_attend : Cert.preserves_Attend_AttendIdeal := trivial

end Cert.Proof

end
-- ==== Proof.KernelIdealValues.lean ====
/-
  Hand-written, untrusted. What the body of `KernelIdeal`'s compress call computes, value by value, as functions of the token
  scratch's contents `T` and of the blocks `x2 … x8` of the operands: every name is the program's own, every payload the
  skeleton's. `v16`, `v17` are the views of the two scratches that the body fills piece by piece and reads back.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

def v4 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S32x128 .f32 :=
  View.ld x2 (Rect.unit (s := S32x128) ![0, 0] S32x128.size inb_S32x128_S32x128_0_0)

def v8_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 0#32, S384x2x128.size, ![8, 1, 1], (k0_off4_inb i 0)⟩ : LoadRect S6152x2x128) y)

def aPiece0 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 0] S384x128.size inb_S384x4096_S384x128_0_0, (k0_pay4 (v4 i v16 v17 T x2 x3 x4 x5 x6 x7 x8) (v8_raw i v16 v17 T x2 x3 x4 x5 x6 x7 x8))⟩

def aPiece1 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 128] S384x128.size inb_S384x4096_S384x128_0_128, (k0_pay5 (v4 i v16 v17 T x2 x3 x4 x5 x6 x7 x8) (v8_raw i v16 v17 T x2 x3 x4 x5 x6 x7 x8))⟩

def v31_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 1#32, S384x2x128.size, ![8, 1, 1], (k0_off4_inb i 1)⟩ : LoadRect S6152x2x128) y)

def v5 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S32x128 .bf16 :=
  k0_pay3 (v4 i v16 v17 T x2 x3 x4 x5 x6 x7 x8)

def v31_hi (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay6 (v31_raw i v16 v17 T x2 x3 x4 x5 x6 x7 x8)

def v35 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay7 (v31_raw i v16 v17 T x2 x3 x4 x5 x6 x7 x8)

def aPiece2 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 256] S384x128.size inb_S384x4096_S384x128_0_256, (k0_pay8 (v5 i v16 v17 T x2 x3 x4 x5 x6 x7 x8) (v35 i v16 v17 T x2 x3 x4 x5 x6 x7 x8))⟩

def aPiece3 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 384] S384x128.size inb_S384x4096_S384x128_0_384, (k0_pay9 (v5 i v16 v17 T x2 x3 x4 x5 x6 x7 x8) (v31_hi i v16 v17 T x2 x3 x4 x5 x6 x7 x8))⟩

def v54_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 2#32, S384x2x128.size, ![8, 1, 1], (k0_off4_inb i 2)⟩ : LoadRect S6152x2x128) y)

def aPiece4 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 512] S384x128.size inb_S384x4096_S384x128_0_512, (k0_pay10 (v5 i v16 v17 T x2 x3 x4 x5 x6 x7 x8) (v54_raw i v16 v17 T x2 x3 x4 x5 x6 x7 x8))⟩

def aPiece5 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 640] S384x128.size inb_S384x4096_S384x128_0_640, (k0_pay11 (v5 i v16 v17 T x2 x3 x4 x5 x6 x7 x8) (v54_raw i v16 v17 T x2 x3 x4 x5 x6 x7 x8))⟩

def v77_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 3#32, S384x2x128.size, ![8, 1, 1], (k0_off4_inb i 3)⟩ : LoadRect S6152x2x128) y)

def v77_lo (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay12 (v77_raw i v16 v17 T x2 x3 x4 x5 x6 x7 x8)

def v77_hi (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay13 (v77_raw i v16 v17 T x2 x3 x4 x5 x6 x7 x8)

def aPiece6 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 768] S384x128.size inb_S384x4096_S384x128_0_768, (k0_pay14 (v5 i v16 v17 T x2 x3 x4 x5 x6 x7 x8) (v77_lo i v16 v17 T x2 x3 x4 x5 x6 x7 x8))⟩

def aPiece7 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 896] S384x128.size inb_S384x4096_S384x128_0_896, (k0_pay15 (v5 i v16 v17 T x2 x3 x4 x5 x6 x7 x8) (v77_hi i v16 v17 T x2 x3 x4 x5 x6 x7 x8))⟩

def v100_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 4#32, S384x2x128.size, ![8, 1, 1], (k0_off4_inb i 4)⟩ : LoadRect S6152x2x128) y)

def aPiece8 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 1024] S384x128.size inb_S384x4096_S384x128_0_1024, (k0_pay16 (v5 i v16 v17 T x2 x3 x4 x5 x6 x7 x8) (v100_raw i v16 v17 T x2 x3 x4 x5 x6 x7 x8))⟩

def aPiece9 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 1152] S384x128.size inb_S384x4096_S384x128_0_1152, (k0_pay17 (v5 i v16 v17 T x2 x3 x4 x5 x6 x7 x8) (v100_raw i v16 v17 T x2 x3 x4 x5 x6 x7 x8))⟩

def v123_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 5#32, S384x2x128.size, ![8, 1, 1], (k0_off4_inb i 5)⟩ : LoadRect S6152x2x128) y)

def aPiece10 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 1280] S384x128.size inb_S384x4096_S384x128_0_1280, (k0_pay18 (v5 i v16 v17 T x2 x3 x4 x5 x6 x7 x8) (v123_raw i v16 v17 T x2 x3 x4 x5 x6 x7 x8))⟩

def aPiece11 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 1408] S384x128.size inb_S384x4096_S384x128_0_1408, (k0_pay19 (v5 i v16 v17 T x2 x3 x4 x5 x6 x7 x8) (v123_raw i v16 v17 T x2 x3 x4 x5 x6 x7 x8))⟩

def v146_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 6#32, S384x2x128.size, ![8, 1, 1], (k0_off4_inb i 6)⟩ : LoadRect S6152x2x128) y)

def aPiece12 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 1536] S384x128.size inb_S384x4096_S384x128_0_1536, (k0_pay20 (v5 i v16 v17 T x2 x3 x4 x5 x6 x7 x8) (v146_raw i v16 v17 T x2 x3 x4 x5 x6 x7 x8))⟩

def v163 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay21 (v5 i v16 v17 T x2 x3 x4 x5 x6 x7 x8) (v146_raw i v16 v17 T x2 x3 x4 x5 x6 x7 x8)

def aPiece13 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 1664] S384x128.size inb_S384x4096_S384x128_0_1664, (k0_pay22 (v163 i v16 v17 T x2 x3 x4 x5 x6 x7 x8))⟩

def v169_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 7#32, S384x2x128.size, ![8, 1, 1], (k0_off4_inb i 7)⟩ : LoadRect S6152x2x128) y)

def aPiece14 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 1792] S384x128.size inb_S384x4096_S384x128_0_1792, (k0_pay23 (v5 i v16 v17 T x2 x3 x4 x5 x6 x7 x8) (v169_raw i v16 v17 T x2 x3 x4 x5 x6 x7 x8))⟩

def aPiece15 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 1920] S384x128.size inb_S384x4096_S384x128_0_1920, (k0_pay24 (v5 i v16 v17 T x2 x3 x4 x5 x6 x7 x8) (v169_raw i v16 v17 T x2 x3 x4 x5 x6 x7 x8))⟩

def v192_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 8#32, S384x2x128.size, ![8, 1, 1], (k0_off4_inb i 8)⟩ : LoadRect S6152x2x128) y)

def v200 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay25 (v192_raw i v16 v17 T x2 x3 x4 x5 x6 x7 x8)

def v203 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay26 (v5 i v16 v17 T x2 x3 x4 x5 x6 x7 x8) (v192_raw i v16 v17 T x2 x3 x4 x5 x6 x7 x8)

def aPiece16 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 2048] S384x128.size inb_S384x4096_S384x128_0_2048, (k0_pay27 (v203 i v16 v17 T x2 x3 x4 x5 x6 x7 x8))⟩

def aPiece17 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 2176] S384x128.size inb_S384x4096_S384x128_0_2176, (k0_pay28 (v5 i v16 v17 T x2 x3 x4 x5 x6 x7 x8) (v200 i v16 v17 T x2 x3 x4 x5 x6 x7 x8))⟩

def v215_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 9#32, S384x2x128.size, ![8, 1, 1], (k0_off4_inb i 9)⟩ : LoadRect S6152x2x128) y)

def aPiece18 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 2304] S384x128.size inb_S384x4096_S384x128_0_2304, (k0_pay29 (v5 i v16 v17 T x2 x3 x4 x5 x6 x7 x8) (v215_raw i v16 v17 T x2 x3 x4 x5 x6 x7 x8))⟩

def aPiece19 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 2432] S384x128.size inb_S384x4096_S384x128_0_2432, (k0_pay30 (v5 i v16 v17 T x2 x3 x4 x5 x6 x7 x8) (v215_raw i v16 v17 T x2 x3 x4 x5 x6 x7 x8))⟩

def v238_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 10#32, S384x2x128.size, ![8, 1, 1], (k0_off4_inb i 10)⟩ : LoadRect S6152x2x128) y)

def v242 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay31 (v238_raw i v16 v17 T x2 x3 x4 x5 x6 x7 x8)

def v246 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay32 (v238_raw i v16 v17 T x2 x3 x4 x5 x6 x7 x8)

def v247 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S1x128 .bf16 :=
  k0_pay33 (v5 i v16 v17 T x2 x3 x4 x5 x6 x7 x8)

def aPiece20 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 2560] S384x128.size inb_S384x4096_S384x128_0_2560, (k0_pay34 (v242 i v16 v17 T x2 x3 x4 x5 x6 x7 x8) (v247 i v16 v17 T x2 x3 x4 x5 x6 x7 x8))⟩

def aPiece21 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 2688] S384x128.size inb_S384x4096_S384x128_0_2688, (k0_pay35 (v5 i v16 v17 T x2 x3 x4 x5 x6 x7 x8) (v246 i v16 v17 T x2 x3 x4 x5 x6 x7 x8))⟩

def v261_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 11#32, S384x2x128.size, ![8, 1, 1], (k0_off4_inb i 11)⟩ : LoadRect S6152x2x128) y)

def aPiece22 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 2816] S384x128.size inb_S384x4096_S384x128_0_2816, (k0_pay36 (v5 i v16 v17 T x2 x3 x4 x5 x6 x7 x8) (v261_raw i v16 v17 T x2 x3 x4 x5 x6 x7 x8))⟩

def aPiece23 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 2944] S384x128.size inb_S384x4096_S384x128_0_2944, (k0_pay37 (v5 i v16 v17 T x2 x3 x4 x5 x6 x7 x8) (v261_raw i v16 v17 T x2 x3 x4 x5 x6 x7 x8))⟩

def v284_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 12#32, S384x2x128.size, ![8, 1, 1], (k0_off4_inb i 12)⟩ : LoadRect S6152x2x128) y)

def v284_hi (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay38 (v284_raw i v16 v17 T x2 x3 x4 x5 x6 x7 x8)

def v287 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay39 (v284_raw i v16 v17 T x2 x3 x4 x5 x6 x7 x8)

def aPiece24 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 3072] S384x128.size inb_S384x4096_S384x128_0_3072, (k0_pay40 (v5 i v16 v17 T x2 x3 x4 x5 x6 x7 x8) (v287 i v16 v17 T x2 x3 x4 x5 x6 x7 x8))⟩

def aPiece25 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 3200] S384x128.size inb_S384x4096_S384x128_0_3200, (k0_pay41 (v5 i v16 v17 T x2 x3 x4 x5 x6 x7 x8) (v284_hi i v16 v17 T x2 x3 x4 x5 x6 x7 x8))⟩

def v307_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 13#32, S384x2x128.size, ![8, 1, 1], (k0_off4_inb i 13)⟩ : LoadRect S6152x2x128) y)

def aPiece26 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 3328] S384x128.size inb_S384x4096_S384x128_0_3328, (k0_pay42 (v5 i v16 v17 T x2 x3 x4 x5 x6 x7 x8) (v307_raw i v16 v17 T x2 x3 x4 x5 x6 x7 x8))⟩

def aPiece27 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 3456] S384x128.size inb_S384x4096_S384x128_0_3456, (k0_pay43 (v5 i v16 v17 T x2 x3 x4 x5 x6 x7 x8) (v307_raw i v16 v17 T x2 x3 x4 x5 x6 x7 x8))⟩

def v330_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 14#32, S384x2x128.size, ![8, 1, 1], (k0_off4_inb i 14)⟩ : LoadRect S6152x2x128) y)

def aPiece28 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 3584] S384x128.size inb_S384x4096_S384x128_0_3584, (k0_pay44 (v5 i v16 v17 T x2 x3 x4 x5 x6 x7 x8) (v330_raw i v16 v17 T x2 x3 x4 x5 x6 x7 x8))⟩

def aPiece29 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 3712] S384x128.size inb_S384x4096_S384x128_0_3712, (k0_pay45 (v5 i v16 v17 T x2 x3 x4 x5 x6 x7 x8) (v330_raw i v16 v17 T x2 x3 x4 x5 x6 x7 x8))⟩

def v353_raw (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2x128 .bf16 :=
  fun y => T (LoadRect.idx (⟨k0_off4 i 15#32, S384x2x128.size, ![8, 1, 1], (k0_off4_inb i 15)⟩ : LoadRect S6152x2x128) y)

def aPiece30 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 3840] S384x128.size inb_S384x4096_S384x128_0_3840, (k0_pay46 (v5 i v16 v17 T x2 x3 x4 x5 x6 x7 x8) (v353_raw i v16 v17 T x2 x3 x4 x5 x6 x7 x8))⟩

def v370 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .bf16 :=
  k0_pay47 (v5 i v16 v17 T x2 x3 x4 x5 x6 x7 x8) (v353_raw i v16 v17 T x2 x3 x4 x5 x6 x7 x8)

def aPiece31 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x4096 .bf16 :=
  ⟨Rect.unit (s := S384x4096) ![0, 3968] S384x128.size inb_S384x4096_S384x128_0_3968, (k0_pay48 (v370 i v16 v17 T x2 x3 x4 x5 x6 x7 x8))⟩

def aPieces (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : List (View.Piece (Elt F) S384x4096 .bf16) :=
  [aPiece31 i v16 v17 T x2 x3 x4 x5 x6 x7 x8, aPiece30 i v16 v17 T x2 x3 x4 x5 x6 x7 x8, aPiece29 i v16 v17 T x2 x3 x4 x5 x6 x7 x8, aPiece28 i v16 v17 T x2 x3 x4 x5 x6 x7 x8, aPiece27 i v16 v17 T x2 x3 x4 x5 x6 x7 x8, aPiece26 i v16 v17 T x2 x3 x4 x5 x6 x7 x8, aPiece25 i v16 v17 T x2 x3 x4 x5 x6 x7 x8, aPiece24 i v16 v17 T x2 x3 x4 x5 x6 x7 x8, aPiece23 i v16 v17 T x2 x3 x4 x5 x6 x7 x8, aPiece22 i v16 v17 T x2 x3 x4 x5 x6 x7 x8, aPiece21 i v16 v17 T x2 x3 x4 x5 x6 x7 x8, aPiece20 i v16 v17 T x2 x3 x4 x5 x6 x7 x8, aPiece19 i v16 v17 T x2 x3 x4 x5 x6 x7 x8, aPiece18 i v16 v17 T x2 x3 x4 x5 x6 x7 x8, aPiece17 i v16 v17 T x2 x3 x4 x5 x6 x7 x8, aPiece16 i v16 v17 T x2 x3 x4 x5 x6 x7 x8, aPiece15 i v16 v17 T x2 x3 x4 x5 x6 x7 x8, aPiece14 i v16 v17 T x2 x3 x4 x5 x6 x7 x8, aPiece13 i v16 v17 T x2 x3 x4 x5 x6 x7 x8, aPiece12 i v16 v17 T x2 x3 x4 x5 x6 x7 x8, aPiece11 i v16 v17 T x2 x3 x4 x5 x6 x7 x8, aPiece10 i v16 v17 T x2 x3 x4 x5 x6 x7 x8, aPiece9 i v16 v17 T x2 x3 x4 x5 x6 x7 x8, aPiece8 i v16 v17 T x2 x3 x4 x5 x6 x7 x8, aPiece7 i v16 v17 T x2 x3 x4 x5 x6 x7 x8, aPiece6 i v16 v17 T x2 x3 x4 x5 x6 x7 x8, aPiece5 i v16 v17 T x2 x3 x4 x5 x6 x7 x8, aPiece4 i v16 v17 T x2 x3 x4 x5 x6 x7 x8, aPiece3 i v16 v17 T x2 x3 x4 x5 x6 x7 x8, aPiece2 i v16 v17 T x2 x3 x4 x5 x6 x7 x8, aPiece1 i v16 v17 T x2 x3 x4 x5 x6 x7 x8, aPiece0 i v16 v17 T x2 x3 x4 x5 x6 x7 x8]

def v375 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v376 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 0] S2048x256.size inb_S4096x3072_S2048x256_0_0)

def v378 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v379 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 0] S2048x256.size inb_S4096x3072_S2048x256_2048_0)

def v382 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 0] S1x256.size inb_S1x3072_S1x256_0_0)

def v386 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 0] S1x256.size inb_S1x3072_S1x256_0_0)

def hPiece0 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 0] S384x256.size inb_S384x3072_S384x256_0_0, (k0_pay50 (v375 i v16 v17 T x2 x3 x4 x5 x6 x7 x8) (v376 i v16 v17 T x2 x3 x4 x5 x6 x7 x8) (v378 i v16 v17 T x2 x3 x4 x5 x6 x7 x8) (v379 i v16 v17 T x2 x3 x4 x5 x6 x7 x8) (v382 i v16 v17 T x2 x3 x4 x5 x6 x7 x8) (v386 i v16 v17 T x2 x3 x4 x5 x6 x7 x8))⟩

def v407 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v406 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay51 (v375 i v16 v17 T x2 x3 x4 x5 x6 x7 x8) (v376 i v16 v17 T x2 x3 x4 x5 x6 x7 x8) (v378 i v16 v17 T x2 x3 x4 x5 x6 x7 x8) (v379 i v16 v17 T x2 x3 x4 x5 x6 x7 x8) (v382 i v16 v17 T x2 x3 x4 x5 x6 x7 x8) (v386 i v16 v17 T x2 x3 x4 x5 x6 x7 x8)

def v408 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 256] S2048x256.size inb_S4096x3072_S2048x256_0_256)

def v410 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v411 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 256] S2048x256.size inb_S4096x3072_S2048x256_2048_256)

def v414 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 256] S1x256.size inb_S1x3072_S1x256_0_256)

def v418 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 256] S1x256.size inb_S1x3072_S1x256_0_256)

def hPiece1 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 256] S384x256.size inb_S384x3072_S384x256_0_256, (k0_pay53 (v407 i v16 v17 T x2 x3 x4 x5 x6 x7 x8) (v408 i v16 v17 T x2 x3 x4 x5 x6 x7 x8) (v410 i v16 v17 T x2 x3 x4 x5 x6 x7 x8) (v411 i v16 v17 T x2 x3 x4 x5 x6 x7 x8) (v414 i v16 v17 T x2 x3 x4 x5 x6 x7 x8) (v418 i v16 v17 T x2 x3 x4 x5 x6 x7 x8))⟩

def v439 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v440 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 512] S2048x256.size inb_S4096x3072_S2048x256_0_512)

def v442 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v438 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay54 (v406 i v16 v17 T x2 x3 x4 x5 x6 x7 x8) (v407 i v16 v17 T x2 x3 x4 x5 x6 x7 x8) (v408 i v16 v17 T x2 x3 x4 x5 x6 x7 x8) (v410 i v16 v17 T x2 x3 x4 x5 x6 x7 x8) (v411 i v16 v17 T x2 x3 x4 x5 x6 x7 x8) (v414 i v16 v17 T x2 x3 x4 x5 x6 x7 x8) (v418 i v16 v17 T x2 x3 x4 x5 x6 x7 x8)

def v441 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay55 (v439 i v16 v17 T x2 x3 x4 x5 x6 x7 x8) (v440 i v16 v17 T x2 x3 x4 x5 x6 x7 x8)

def v443 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 512] S2048x256.size inb_S4096x3072_S2048x256_2048_512)

def v446 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 512] S1x256.size inb_S1x3072_S1x256_0_512)

def v450 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 512] S1x256.size inb_S1x3072_S1x256_0_512)

def hPiece2 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 512] S384x256.size inb_S384x3072_S384x256_0_512, (k0_pay57 (v441 i v16 v17 T x2 x3 x4 x5 x6 x7 x8) (v442 i v16 v17 T x2 x3 x4 x5 x6 x7 x8) (v443 i v16 v17 T x2 x3 x4 x5 x6 x7 x8) (v446 i v16 v17 T x2 x3 x4 x5 x6 x7 x8) (v450 i v16 v17 T x2 x3 x4 x5 x6 x7 x8))⟩

def v471 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v472 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 768] S2048x256.size inb_S4096x3072_S2048x256_0_768)

def v474 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v475 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 768] S2048x256.size inb_S4096x3072_S2048x256_2048_768)

def v478 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 768] S1x256.size inb_S1x3072_S1x256_0_768)

def v470 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay58 (v438 i v16 v17 T x2 x3 x4 x5 x6 x7 x8) (v441 i v16 v17 T x2 x3 x4 x5 x6 x7 x8) (v442 i v16 v17 T x2 x3 x4 x5 x6 x7 x8) (v443 i v16 v17 T x2 x3 x4 x5 x6 x7 x8) (v446 i v16 v17 T x2 x3 x4 x5 x6 x7 x8) (v450 i v16 v17 T x2 x3 x4 x5 x6 x7 x8)

def v477 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay59 (v471 i v16 v17 T x2 x3 x4 x5 x6 x7 x8) (v472 i v16 v17 T x2 x3 x4 x5 x6 x7 x8) (v474 i v16 v17 T x2 x3 x4 x5 x6 x7 x8) (v475 i v16 v17 T x2 x3 x4 x5 x6 x7 x8)

def v482 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 768] S1x256.size inb_S1x3072_S1x256_0_768)

def hPiece3 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 768] S384x256.size inb_S384x3072_S384x256_0_768, (k0_pay61 (v477 i v16 v17 T x2 x3 x4 x5 x6 x7 x8) (v478 i v16 v17 T x2 x3 x4 x5 x6 x7 x8) (v482 i v16 v17 T x2 x3 x4 x5 x6 x7 x8))⟩

def v503 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v504 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 1024] S2048x256.size inb_S4096x3072_S2048x256_0_1024)

def v506 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v507 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 1024] S2048x256.size inb_S4096x3072_S2048x256_2048_1024)

def v510 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 1024] S1x256.size inb_S1x3072_S1x256_0_1024)

def v514 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 1024] S1x256.size inb_S1x3072_S1x256_0_1024)

def v502 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay62 (v470 i v16 v17 T x2 x3 x4 x5 x6 x7 x8) (v477 i v16 v17 T x2 x3 x4 x5 x6 x7 x8) (v478 i v16 v17 T x2 x3 x4 x5 x6 x7 x8) (v482 i v16 v17 T x2 x3 x4 x5 x6 x7 x8)

def v513 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay63 (v503 i v16 v17 T x2 x3 x4 x5 x6 x7 x8) (v504 i v16 v17 T x2 x3 x4 x5 x6 x7 x8) (v506 i v16 v17 T x2 x3 x4 x5 x6 x7 x8) (v507 i v16 v17 T x2 x3 x4 x5 x6 x7 x8) (v510 i v16 v17 T x2 x3 x4 x5 x6 x7 x8)

def v516 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay64 (v514 i v16 v17 T x2 x3 x4 x5 x6 x7 x8)

def hPiece4 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 1024] S384x256.size inb_S384x3072_S384x256_0_1024, (k0_pay66 (v513 i v16 v17 T x2 x3 x4 x5 x6 x7 x8) (v516 i v16 v17 T x2 x3 x4 x5 x6 x7 x8))⟩

def v535 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v536 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 1280] S2048x256.size inb_S4096x3072_S2048x256_0_1280)

def v538 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v539 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 1280] S2048x256.size inb_S4096x3072_S2048x256_2048_1280)

def v542 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 1280] S1x256.size inb_S1x3072_S1x256_0_1280)

def v546 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 1280] S1x256.size inb_S1x3072_S1x256_0_1280)

def v534 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay67 (v502 i v16 v17 T x2 x3 x4 x5 x6 x7 x8) (v513 i v16 v17 T x2 x3 x4 x5 x6 x7 x8) (v516 i v16 v17 T x2 x3 x4 x5 x6 x7 x8)

def v549 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay68 (v535 i v16 v17 T x2 x3 x4 x5 x6 x7 x8) (v536 i v16 v17 T x2 x3 x4 x5 x6 x7 x8) (v538 i v16 v17 T x2 x3 x4 x5 x6 x7 x8) (v539 i v16 v17 T x2 x3 x4 x5 x6 x7 x8) (v542 i v16 v17 T x2 x3 x4 x5 x6 x7 x8) (v546 i v16 v17 T x2 x3 x4 x5 x6 x7 x8)

def v554 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay69 (v535 i v16 v17 T x2 x3 x4 x5 x6 x7 x8) (v536 i v16 v17 T x2 x3 x4 x5 x6 x7 x8) (v538 i v16 v17 T x2 x3 x4 x5 x6 x7 x8) (v539 i v16 v17 T x2 x3 x4 x5 x6 x7 x8) (v542 i v16 v17 T x2 x3 x4 x5 x6 x7 x8) (v546 i v16 v17 T x2 x3 x4 x5 x6 x7 x8)

def hPiece5 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 1280] S384x256.size inb_S384x3072_S384x256_0_1280, (k0_pay71 (v549 i v16 v17 T x2 x3 x4 x5 x6 x7 x8) (v554 i v16 v17 T x2 x3 x4 x5 x6 x7 x8))⟩

def v567 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v568 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 1536] S2048x256.size inb_S4096x3072_S2048x256_0_1536)

def v570 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v571 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 1536] S2048x256.size inb_S4096x3072_S2048x256_2048_1536)

def v574 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 1536] S1x256.size inb_S1x3072_S1x256_0_1536)

def v578 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 1536] S1x256.size inb_S1x3072_S1x256_0_1536)

def v566 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay72 (v534 i v16 v17 T x2 x3 x4 x5 x6 x7 x8) (v549 i v16 v17 T x2 x3 x4 x5 x6 x7 x8) (v554 i v16 v17 T x2 x3 x4 x5 x6 x7 x8)

def v589 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay73 (v567 i v16 v17 T x2 x3 x4 x5 x6 x7 x8) (v568 i v16 v17 T x2 x3 x4 x5 x6 x7 x8) (v570 i v16 v17 T x2 x3 x4 x5 x6 x7 x8) (v571 i v16 v17 T x2 x3 x4 x5 x6 x7 x8) (v574 i v16 v17 T x2 x3 x4 x5 x6 x7 x8) (v578 i v16 v17 T x2 x3 x4 x5 x6 x7 x8)

def hPiece6 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 1536] S384x256.size inb_S384x3072_S384x256_0_1536, (k0_pay74 (v589 i v16 v17 T x2 x3 x4 x5 x6 x7 x8))⟩

def v599 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v600 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 1792] S2048x256.size inb_S4096x3072_S2048x256_0_1792)

def v602 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v603 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 1792] S2048x256.size inb_S4096x3072_S2048x256_2048_1792)

def v606 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 1792] S1x256.size inb_S1x3072_S1x256_0_1792)

def v610 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 1792] S1x256.size inb_S1x3072_S1x256_0_1792)

def hPiece7 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 1792] S384x256.size inb_S384x3072_S384x256_0_1792, (k0_pay76 (v599 i v16 v17 T x2 x3 x4 x5 x6 x7 x8) (v600 i v16 v17 T x2 x3 x4 x5 x6 x7 x8) (v602 i v16 v17 T x2 x3 x4 x5 x6 x7 x8) (v603 i v16 v17 T x2 x3 x4 x5 x6 x7 x8) (v606 i v16 v17 T x2 x3 x4 x5 x6 x7 x8) (v610 i v16 v17 T x2 x3 x4 x5 x6 x7 x8))⟩

def v630 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay77 (v566 i v16 v17 T x2 x3 x4 x5 x6 x7 x8) (v589 i v16 v17 T x2 x3 x4 x5 x6 x7 x8) (v599 i v16 v17 T x2 x3 x4 x5 x6 x7 x8) (v600 i v16 v17 T x2 x3 x4 x5 x6 x7 x8) (v602 i v16 v17 T x2 x3 x4 x5 x6 x7 x8) (v603 i v16 v17 T x2 x3 x4 x5 x6 x7 x8) (v606 i v16 v17 T x2 x3 x4 x5 x6 x7 x8) (v610 i v16 v17 T x2 x3 x4 x5 x6 x7 x8)

def v631 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v632 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 2048] S2048x256.size inb_S4096x3072_S2048x256_0_2048)

def v634 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v635 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 2048] S2048x256.size inb_S4096x3072_S2048x256_2048_2048)

def v638 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 2048] S1x256.size inb_S1x3072_S1x256_0_2048)

def v642 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 2048] S1x256.size inb_S1x3072_S1x256_0_2048)

def hPiece8 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 2048] S384x256.size inb_S384x3072_S384x256_0_2048, (k0_pay79 (v631 i v16 v17 T x2 x3 x4 x5 x6 x7 x8) (v632 i v16 v17 T x2 x3 x4 x5 x6 x7 x8) (v634 i v16 v17 T x2 x3 x4 x5 x6 x7 x8) (v635 i v16 v17 T x2 x3 x4 x5 x6 x7 x8) (v638 i v16 v17 T x2 x3 x4 x5 x6 x7 x8) (v642 i v16 v17 T x2 x3 x4 x5 x6 x7 x8))⟩

def v663 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v664 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 2304] S2048x256.size inb_S4096x3072_S2048x256_0_2304)

def v662 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay80 (v630 i v16 v17 T x2 x3 x4 x5 x6 x7 x8) (v631 i v16 v17 T x2 x3 x4 x5 x6 x7 x8) (v632 i v16 v17 T x2 x3 x4 x5 x6 x7 x8) (v634 i v16 v17 T x2 x3 x4 x5 x6 x7 x8) (v635 i v16 v17 T x2 x3 x4 x5 x6 x7 x8) (v638 i v16 v17 T x2 x3 x4 x5 x6 x7 x8) (v642 i v16 v17 T x2 x3 x4 x5 x6 x7 x8)

def v665 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay81 (v663 i v16 v17 T x2 x3 x4 x5 x6 x7 x8) (v664 i v16 v17 T x2 x3 x4 x5 x6 x7 x8)

def v666 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v667 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 2304] S2048x256.size inb_S4096x3072_S2048x256_2048_2304)

def v670 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 2304] S1x256.size inb_S1x3072_S1x256_0_2304)

def v674 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 2304] S1x256.size inb_S1x3072_S1x256_0_2304)

def hPiece9 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 2304] S384x256.size inb_S384x3072_S384x256_0_2304, (k0_pay83 (v665 i v16 v17 T x2 x3 x4 x5 x6 x7 x8) (v666 i v16 v17 T x2 x3 x4 x5 x6 x7 x8) (v667 i v16 v17 T x2 x3 x4 x5 x6 x7 x8) (v670 i v16 v17 T x2 x3 x4 x5 x6 x7 x8) (v674 i v16 v17 T x2 x3 x4 x5 x6 x7 x8))⟩

def v695 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v696 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 2560] S2048x256.size inb_S4096x3072_S2048x256_0_2560)

def v698 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v699 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 2560] S2048x256.size inb_S4096x3072_S2048x256_2048_2560)

def v694 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay84 (v662 i v16 v17 T x2 x3 x4 x5 x6 x7 x8) (v665 i v16 v17 T x2 x3 x4 x5 x6 x7 x8) (v666 i v16 v17 T x2 x3 x4 x5 x6 x7 x8) (v667 i v16 v17 T x2 x3 x4 x5 x6 x7 x8) (v670 i v16 v17 T x2 x3 x4 x5 x6 x7 x8) (v674 i v16 v17 T x2 x3 x4 x5 x6 x7 x8)

def v697 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay85 (v695 i v16 v17 T x2 x3 x4 x5 x6 x7 x8) (v696 i v16 v17 T x2 x3 x4 x5 x6 x7 x8)

def v700 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay86 (v698 i v16 v17 T x2 x3 x4 x5 x6 x7 x8) (v699 i v16 v17 T x2 x3 x4 x5 x6 x7 x8)

def v702 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 2560] S1x256.size inb_S1x3072_S1x256_0_2560)

def v706 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 2560] S1x256.size inb_S1x3072_S1x256_0_2560)

def hPiece10 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 2560] S384x256.size inb_S384x3072_S384x256_0_2560, (k0_pay88 (v697 i v16 v17 T x2 x3 x4 x5 x6 x7 x8) (v700 i v16 v17 T x2 x3 x4 x5 x6 x7 x8) (v702 i v16 v17 T x2 x3 x4 x5 x6 x7 x8) (v706 i v16 v17 T x2 x3 x4 x5 x6 x7 x8))⟩

def v727 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 0] S384x2048.size inb_S384x4096_S384x2048_0_0).toLoadRect

def v728 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![0, 2816] S2048x256.size inb_S4096x3072_S2048x256_0_2816)

def v730 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x2048 .bf16 :=
  v16.readCov (aPieces i v16 v17 T x2 x3 x4 x5 x6 x7 x8) (Rect.unit (s := S384x4096) ![0, 2048] S384x2048.size inb_S384x4096_S384x2048_0_2048).toLoadRect

def v731 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S2048x256 .fp8e4m3 :=
  View.ld x3 (Rect.unit (s := S4096x3072) ![2048, 2816] S2048x256.size inb_S4096x3072_S2048x256_2048_2816)

def v734 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x4 (Rect.unit (s := S1x3072) ![0, 2816] S1x256.size inb_S1x3072_S1x256_0_2816)

def v726 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay89 (v694 i v16 v17 T x2 x3 x4 x5 x6 x7 x8) (v697 i v16 v17 T x2 x3 x4 x5 x6 x7 x8) (v700 i v16 v17 T x2 x3 x4 x5 x6 x7 x8) (v702 i v16 v17 T x2 x3 x4 x5 x6 x7 x8) (v706 i v16 v17 T x2 x3 x4 x5 x6 x7 x8)

def v737 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x256 .f32 :=
  k0_pay90 (v727 i v16 v17 T x2 x3 x4 x5 x6 x7 x8) (v728 i v16 v17 T x2 x3 x4 x5 x6 x7 x8) (v730 i v16 v17 T x2 x3 x4 x5 x6 x7 x8) (v731 i v16 v17 T x2 x3 x4 x5 x6 x7 x8) (v734 i v16 v17 T x2 x3 x4 x5 x6 x7 x8)

def v738 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x256 .f32 :=
  View.ld x5 (Rect.unit (s := S1x3072) ![0, 2816] S1x256.size inb_S1x3072_S1x256_0_2816)

def hPiece11 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : View.Piece (Elt F) S384x3072 .f32 :=
  ⟨Rect.unit (s := S384x3072) ![0, 2816] S384x256.size inb_S384x3072_S384x256_0_2816, (k0_pay92 (v737 i v16 v17 T x2 x3 x4 x5 x6 x7 x8) (v738 i v16 v17 T x2 x3 x4 x5 x6 x7 x8))⟩

def hPieces (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : List (View.Piece (Elt F) S384x3072 .f32) :=
  [hPiece11 i v16 v17 T x2 x3 x4 x5 x6 x7 x8, hPiece10 i v16 v17 T x2 x3 x4 x5 x6 x7 x8, hPiece9 i v16 v17 T x2 x3 x4 x5 x6 x7 x8, hPiece8 i v16 v17 T x2 x3 x4 x5 x6 x7 x8, hPiece7 i v16 v17 T x2 x3 x4 x5 x6 x7 x8, hPiece6 i v16 v17 T x2 x3 x4 x5 x6 x7 x8, hPiece5 i v16 v17 T x2 x3 x4 x5 x6 x7 x8, hPiece4 i v16 v17 T x2 x3 x4 x5 x6 x7 x8, hPiece3 i v16 v17 T x2 x3 x4 x5 x6 x7 x8, hPiece2 i v16 v17 T x2 x3 x4 x5 x6 x7 x8, hPiece1 i v16 v17 T x2 x3 x4 x5 x6 x7 x8, hPiece0 i v16 v17 T x2 x3 x4 x5 x6 x7 x8]

def v760 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x1 .f32 :=
  k0_pay93 (v726 i v16 v17 T x2 x3 x4 x5 x6 x7 x8) (v737 i v16 v17 T x2 x3 x4 x5 x6 x7 x8) (v738 i v16 v17 T x2 x3 x4 x5 x6 x7 x8)

def v762 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x1 .f32 :=
  k0_pay94 (v726 i v16 v17 T x2 x3 x4 x5 x6 x7 x8) (v737 i v16 v17 T x2 x3 x4 x5 x6 x7 x8) (v738 i v16 v17 T x2 x3 x4 x5 x6 x7 x8)

def v777 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : IVec S384x1 32 :=
  k0_pay95 (v726 i v16 v17 T x2 x3 x4 x5 x6 x7 x8) (v737 i v16 v17 T x2 x3 x4 x5 x6 x7 x8) (v738 i v16 v17 T x2 x3 x4 x5 x6 x7 x8)

def v779 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : IVec S384x1 32 :=
  k0_pay96 (v726 i v16 v17 T x2 x3 x4 x5 x6 x7 x8) (v737 i v16 v17 T x2 x3 x4 x5 x6 x7 x8) (v738 i v16 v17 T x2 x3 x4 x5 x6 x7 x8)

def v781 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : IVec S384x1 32 :=
  k0_pay97 (v726 i v16 v17 T x2 x3 x4 x5 x6 x7 x8) (v737 i v16 v17 T x2 x3 x4 x5 x6 x7 x8) (v738 i v16 v17 T x2 x3 x4 x5 x6 x7 x8)

def v824 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x1 .f32 :=
  k0_pay99 (v762 i v16 v17 T x2 x3 x4 x5 x6 x7 x8) (v777 i v16 v17 T x2 x3 x4 x5 x6 x7 x8) (v779 i v16 v17 T x2 x3 x4 x5 x6 x7 x8) (v781 i v16 v17 T x2 x3 x4 x5 x6 x7 x8)

def v827 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x1 .f32 :=
  k0_pay100 (v762 i v16 v17 T x2 x3 x4 x5 x6 x7 x8) (v777 i v16 v17 T x2 x3 x4 x5 x6 x7 x8) (v779 i v16 v17 T x2 x3 x4 x5 x6 x7 x8) (v781 i v16 v17 T x2 x3 x4 x5 x6 x7 x8)

def cst_326 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : F .f32 :=
  Scalar.ofBits .f32 0x00000000#32

def v834 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S384x3072 .f32 :=
  v17.readCov (hPieces i v16 v17 T x2 x3 x4 x5 x6 x7 x8) (Rect.unit (s := S384x3072) ![0, 0] S384x3072.size inb_S384x3072_S384x3072_0_0).toLoadRect

def out9 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : S1x384x3072.Idx → Elt F .fp8e4m3 :=
  View.canon [⟨Rect.unit (s := S1x384x3072) ![0, 0, 0] S1x384x3072.size inb_S1x384x3072_S1x384x3072_0_0_0, (k0_pay104 (v760 i v16 v17 T x2 x3 x4 x5 x6 x7 x8) (v824 i v16 v17 T x2 x3 x4 x5 x6 x7 x8) (cst_326 i v16 v17 T x2 x3 x4 x5 x6 x7 x8) (v834 i v16 v17 T x2 x3 x4 x5 x6 x7 x8))⟩]

def out10 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : S1x1x384.Idx → Elt F .f32 :=
  View.canon [⟨Rect.unit (s := S1x1x384) ![0, 0, 0] S1x1x384.size inb_S1x1x384_S1x1x384_0_0_0, (k0_pay105 (v760 i v16 v17 T x2 x3 x4 x5 x6 x7 x8) (v827 i v16 v17 T x2 x3 x4 x5 x6 x7 x8) (cst_326 i v16 v17 T x2 x3 x4 x5 x6 x7 x8))⟩]

def v852 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S3072x128 .fp8e4m3 :=
  View.ld x6 (Rect.unit (s := S3072x128) ![0, 0] S3072x128.size inb_S3072x128_S3072x128_0_0)

def v856 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x128 .f32 :=
  View.ld x7 (Rect.unit (s := S1x128) ![0, 0] S1x128.size inb_S1x128_S1x128_0_0)

def v860 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : Vec F S1x128 .f32 :=
  View.ld x8 (Rect.unit (s := S1x128) ![0, 0] S1x128.size inb_S1x128_S1x128_0_0)

def v863 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x128 .f32 :=
  k0_pay106 (v760 i v16 v17 T x2 x3 x4 x5 x6 x7 x8) (v824 i v16 v17 T x2 x3 x4 x5 x6 x7 x8) (v827 i v16 v17 T x2 x3 x4 x5 x6 x7 x8) (cst_326 i v16 v17 T x2 x3 x4 x5 x6 x7 x8) (v834 i v16 v17 T x2 x3 x4 x5 x6 x7 x8) (v852 i v16 v17 T x2 x3 x4 x5 x6 x7 x8) (v856 i v16 v17 T x2 x3 x4 x5 x6 x7 x8) (v860 i v16 v17 T x2 x3 x4 x5 x6 x7 x8)

def v865 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384 .f32 :=
  k0_pay107 (v760 i v16 v17 T x2 x3 x4 x5 x6 x7 x8) (v824 i v16 v17 T x2 x3 x4 x5 x6 x7 x8) (v827 i v16 v17 T x2 x3 x4 x5 x6 x7 x8) (cst_326 i v16 v17 T x2 x3 x4 x5 x6 x7 x8) (v834 i v16 v17 T x2 x3 x4 x5 x6 x7 x8) (v852 i v16 v17 T x2 x3 x4 x5 x6 x7 x8) (v856 i v16 v17 T x2 x3 x4 x5 x6 x7 x8) (v860 i v16 v17 T x2 x3 x4 x5 x6 x7 x8)

def v866 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x1 .f32 :=
  k0_pay108 (v865 i v16 v17 T x2 x3 x4 x5 x6 x7 x8)

def v868 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S384x1 .f32 :=
  k0_pay109 (v865 i v16 v17 T x2 x3 x4 x5 x6 x7 x8)

def v911 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : IVec S384x1 32 :=
  k0_pay110 (v865 i v16 v17 T x2 x3 x4 x5 x6 x7 x8)

def out11 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : S1x384x128.Idx → Elt F .fp8e4m3 :=
  View.canon [⟨Rect.unit (s := S1x384x128) ![0, 0, 0] S1x384x128.size inb_S1x384x128_S1x384x128_0_0_0, (k0_pay113 (v863 i v16 v17 T x2 x3 x4 x5 x6 x7 x8) (v866 i v16 v17 T x2 x3 x4 x5 x6 x7 x8) (v868 i v16 v17 T x2 x3 x4 x5 x6 x7 x8) (v911 i v16 v17 T x2 x3 x4 x5 x6 x7 x8))⟩]

def v953 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : FVec F S1x384 .f32 :=
  k0_pay114 (v866 i v16 v17 T x2 x3 x4 x5 x6 x7 x8) (v868 i v16 v17 T x2 x3 x4 x5 x6 x7 x8) (v911 i v16 v17 T x2 x3 x4 x5 x6 x7 x8)

def out12 (i : grid0.Coords) (v16 : View sig .tc .vmem S384x4096 .bf16) (v17 : View sig .tc .vmem S384x3072 .f32) (T : S6152x2x128.Idx → Elt F .bf16) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32) : S1x1x384.Idx → Elt F .f32 :=
  View.canon [⟨Rect.unit (s := S1x1x384) ![0, 0, 0] S1x1x384.size inb_S1x1x384_S1x1x384_0_0_0, (k0_pay1 (v953 i v16 v17 T x2 x3 x4 x5 x6 x7 x8))⟩]

end Cert.KernelIdeal.Val
-- ==== Proof.KernelIdealValRun.lean ====
/-
  Hand-written, untrusted. The body of `KernelIdeal`'s compress call, run once by `sl_exec` at any grid point WITH what it
  computes: the outputs hold `Val.out9 … Val.out12` (KernelIdealValues.lean) of the token scratch's contents `T`, and the token
  scratch holds `T` afterwards — because it did before, or because the conditional has just filled it.
-/
module

public import proofs.«01_k».proof.Proof.Gen.KernelIdeal.Frame
public import proofs.«01_k».proof.Proof.KernelIdealValues
public import proofs.«01_k».proof.Proof.Gen.KernelIdeal.Loops
public import proofs.«01_k».proof.Proof.Gen.KernelIdeal.Skeleton
public import Idealize.ShloMosaic.Lib.Pipeline.Frame
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-- A write through the whole of a rank-three shape covers it. -/
theorem wholeCover {s : Shape} {e : EltTy} {off : Fin s.rank → ℕ} {inb : ∀ a, off a + s.size a ≤ s.size a}
    (w : (Rect.unit off s.size inb).shape.Idx → Elt F e) (h : off = fun _ => 0 := by funext a; fin_cases a <;> rfl) (y : s.Idx) :
    ∃ p ∈ ([⟨Rect.unit off s.size inb, w⟩] : List (View.Piece (Elt F) s e)), y ∈ p.1.set :=
  ⟨_, List.mem_singleton_self _, View.mem_set_unit_zero h inb y⟩

set_option maxHeartbeats 8000000 in
/-- The body's triple at any grid point, for any continuation: from the nine inputs at contents `x0 … x8`, the token scratch at
    `T` where the conditional is not taken (`h15`; where it is, `hT` says that filling the scratch leaves `T`), the outputs and
    the other scratches at anything, the kernel runs to its return with the outputs at the values of KernelIdealValues.lean. -/
theorem valRun (c : Dev nD) (i : grid0.Coords) (arg2 : Memref sig .tc .vmem S1x12288x128 .fp8e4m3) (harg2 : arg2.IsWhole) (arg3 : Memref sig .tc .vmem S1x1x12288 .f32) (harg3 : arg3.IsWhole) (arg4 : Memref sig .tc .vmem S32x128 .f32) (harg4 : arg4.IsWhole) (arg5 : Memref sig .tc .vmem S4096x3072 .fp8e4m3) (harg5 : arg5.IsWhole) (arg6 : Memref sig .tc .vmem S1x3072 .f32) (harg6 : arg6.IsWhole) (arg7 : Memref sig .tc .vmem S1x3072 .f32) (harg7 : arg7.IsWhole) (arg8 : Memref sig .tc .vmem S3072x128 .fp8e4m3) (harg8 : arg8.IsWhole) (arg9 : Memref sig .tc .vmem S1x128 .f32) (harg9 : arg9.IsWhole) (arg10 : Memref sig .tc .vmem S1x128 .f32) (harg10 : arg10.IsWhole) (arg11 : Memref sig .tc .vmem S1x384x3072 .fp8e4m3) (harg11 : arg11.IsWhole) (arg12 : Memref sig .tc .vmem S1x1x384 .f32) (harg12 : arg12.IsWhole) (arg13 : Memref sig .tc .vmem S1x384x128 .fp8e4m3) (harg13 : arg13.IsWhole) (arg14 : Memref sig .tc .vmem S1x1x384 .f32) (harg14 : arg14.IsWhole) (arg15 : Memref sig .tc .vmem S6152x2x128 .bf16) (harg15 : arg15.IsWhole) (arg16 : Memref sig .tc .vmem S384x4096 .bf16) (harg16 : arg16.IsWhole) (arg17 : Memref sig .tc .vmem S384x3072 .f32) (harg17 : arg17.IsWhole)
    (x0 : S1x12288x128.Idx → Elt F .fp8e4m3) (x1 : S1x1x12288.Idx → Elt F .f32) (x2 : S32x128.Idx → Elt F .f32) (x3 : S4096x3072.Idx → Elt F .fp8e4m3) (x4 : S1x3072.Idx → Elt F .f32) (x5 : S1x3072.Idx → Elt F .f32) (x6 : S3072x128.Idx → Elt F .fp8e4m3) (x7 : S1x128.Idx → Elt F .f32) (x8 : S1x128.Idx → Elt F .f32)
    (T : S6152x2x128.Idx → Elt F .bf16) (d15 : S6152x2x128.Idx → Elt F .bf16) (h15 : ¬ k0_cond1 i = 1#1 → d15 = T)
    (hT : ∀ (hc : k0_cond1 i = 1#1) (f0 : BufTy.Contents (Elt F) arg2.view.ty) (f1 : BufTy.Contents (Elt F) arg3.view.ty)
      (f : BufTy.Contents (Elt F) arg15.view.ty), arg2.view.read (Elt F) f0 = x0 → arg3.view.read (Elt F) f1 = x1 →
      arg15.view.read (Elt F) (arg15.view.writes (Elt F) f
        (⟨Rect.unit (s := S6152x2x128) ![6144, 0, 0] S8x2x128.size inb_S6152x2x128_S8x2x128_6144_0_0, constant S8x2x128 .bf16 0x0000#16⟩
          :: pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 (Scf.trips k0_t1_loop.lb k0_t1_loop.ub k0_t1_loop.st))) = T)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare d15 ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (Val.out9 i arg16.view arg17.view T x2 x3 x4 x5 x6 x7 x8) ∗ owns (c : Thread nD τ) arg12 fullShare (Val.out10 i arg16.view arg17.view T x2 x3 x4 x5 x6 x7 x8) ∗ owns (c : Thread nD τ) arg13 fullShare (Val.out11 i arg16.view arg17.view T x2 x3 x4 x5 x6 x7 x8) ∗ owns (c : Thread nD τ) arg14 fullShare (Val.out12 i arg16.view arg17.view T x2 x3 x4 x5 x6 x7 x8) ∗ owns (c : Thread nD τ) arg15 fullShare T ∗ (∃ d, owns (c : Thread nD τ) arg16 fullShare d) ∗ (∃ d, owns (c : Thread nD τ) arg17 fullShare d)) -∗ K ⟨⟩))
      ⊢ wp frame (wpE (defs₀ (F := F)) Variants.none c none) Set.univ
          (cc0_compress (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_compress_eq_skeleton]; unfold cc0_compress_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, ⟨%f13, %e13, H13⟩, ⟨%d14, %f14, -, H14⟩, ⟨%d15, %f15, -, H15⟩, Hk⟩
  subst e0 e1 e2 e3 e4 e5 e6 e7 e8 e13
  by_cases hc : k0_cond1 i = 1#1
  · sl_exec
    sl_step
    iapply Hk
    have hT' := hT hc f0 f1 f13 rfl rfl
    subst hT'
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact (View.read_writes_eq_canon _ _ _ (wholeCover _)).trans rfl
    isplitl [H10]
    · iexists _; isplitr; swap; · iexact H10
      ipureintro; exact (View.read_writes_eq_canon _ _ _ (wholeCover _)).trans rfl
    isplitl [H11]
    · iexists _; isplitr; swap; · iexact H11
      ipureintro; exact (View.read_writes_eq_canon _ _ _ (wholeCover _)).trans rfl
    isplitl [H12]
    · iexists _; isplitr; swap; · iexact H12
      ipureintro; exact (View.read_writes_eq_canon _ _ _ (wholeCover _)).trans rfl
    isplitl [H13]
    · iexists _; isplitr; swap; · iexact H13
      ipureintro; rfl
    isplitl [H14]
    · iexists _, _; isplitr; swap; · iexact H14
      ipureintro; rfl
    iexists _, _; isplitr; swap; · iexact H15
    ipureintro; rfl
  · sl_exec
    sl_step
    iapply Hk
    have hT' := h15 hc
    subst hT'
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact (View.read_writes_eq_canon _ _ _ (wholeCover _)).trans rfl
    isplitl [H10]
    · iexists _; isplitr; swap; · iexact H10
      ipureintro; exact (View.read_writes_eq_canon _ _ _ (wholeCover _)).trans rfl
    isplitl [H11]
    · iexists _; isplitr; swap; · iexact H11
      ipureintro; exact (View.read_writes_eq_canon _ _ _ (wholeCover _)).trans rfl
    isplitl [H12]
    · iexists _; isplitr; swap; · iexact H12
      ipureintro; exact (View.read_writes_eq_canon _ _ _ (wholeCover _)).trans rfl
    isplitl [H13]
    · iexists _; isplitr; swap; · iexact H13
      ipureintro; rfl
    isplitl [H14]
    · iexists _, _; isplitr; swap; · iexact H14
      ipureintro; rfl
    iexists _, _; isplitr; swap; · iexact H15
    ipureintro; rfl

end Cert.KernelIdeal.Hand
-- ==== Proof.KernelIdealTokens.lean ====
/-
  Hand-written, untrusted. Over the reals, what the conditional of the compress body leaves in the token scratch: the tokens
  of the block, each code times its scale, two tokens to a row, and eight rows of zeros behind them.
-/
module

public import proofs.«01_k».proof.Proof.KernelIdealValRun
public import Idealize.ShloMosaic.Lib.Pointwise
public import Idealize.ShloMosaic.Lib.Pipeline.ValueKit

@[expose] public section

set_option maxRecDepth 16384

noncomputable section

namespace Cert.KernelIdeal.Pure

open Cert.KernelIdeal Cert.KernelIdeal.Gen
open Idealize.ShloMosaic Idealize.ShloMosaic.TcCoe Idealize.SL.Sem

/-! The offsets of trip `k`. -/
theorem off1_eq : ∀ k : Fin k0_t1_loop.trips, k0_off1 k = ![0, 0, 128 * k.val] := by decide +kernel
theorem off2_eq : ∀ k : Fin k0_t1_loop.trips, k0_off2 k = ![0, 128 * k.val, 0] := by decide +kernel
theorem off3_eq : ∀ k : Fin k0_t1_loop.trips, k0_off3 k = ![64 * k.val, 0, 0] := by decide +kernel
theorem trips_eq : Scf.trips k0_t1_loop.lb k0_t1_loop.ub k0_t1_loop.st = 96 := by decide +kernel

theorem pay2_apply (s : FVec Ideal S1x1x128 .f32) (q : FVec Ideal S1x128x128 .fp8e4m3) (r : Fin 64) (p : Fin 2) (d : Fin 128) :
    k0_pay2 (F := Ideal) s q (ix3 r p d) = q (ix3 0 ⟨2 * r.val + p.val, by omega⟩ d) * s (ix3 0 0 ⟨2 * r.val + p.val, by omega⟩) := by
  pointwise [k0_pay2]
  fin_cases p <;> simp

/-- Row `y0`, half `y1` of the scratch: token `2 y0 + y1`, or zeros behind the block. -/
def tok (x0 : S1x12288x128.Idx → Elt Ideal .fp8e4m3) (x1 : S1x1x12288.Idx → Elt Ideal .f32) : S6152x2x128.Idx → Elt Ideal .bf16 :=
  fun y => if h : (y 0).val < 6144 then
    (show EReal from x0 (ix3 0 ⟨2 * (y 0).val + (y 1).val, by have := (y 1).isLt; change _ < 2 at this; omega⟩ (y 2)))
      * (show EReal from x1 (ix3 0 0 ⟨2 * (y 0).val + (y 1).val, by have := (y 1).isLt; change _ < 2 at this; omega⟩))
    else (0 : EReal)

/-- The store of trip `k`. -/
abbrev tripPiece (c : Dev nD) (i : grid0.Coords) (arg2 : Memref sig .tc .vmem S1x12288x128 .fp8e4m3) (harg2 : arg2.IsWhole) (arg3 : Memref sig .tc .vmem S1x1x12288 .f32) (harg3 : arg3.IsWhole) (arg4 : Memref sig .tc .vmem S32x128 .f32) (harg4 : arg4.IsWhole) (arg5 : Memref sig .tc .vmem S4096x3072 .fp8e4m3) (harg5 : arg5.IsWhole) (arg6 : Memref sig .tc .vmem S1x3072 .f32) (harg6 : arg6.IsWhole) (arg7 : Memref sig .tc .vmem S1x3072 .f32) (harg7 : arg7.IsWhole) (arg8 : Memref sig .tc .vmem S3072x128 .fp8e4m3) (harg8 : arg8.IsWhole) (arg9 : Memref sig .tc .vmem S1x128 .f32) (harg9 : arg9.IsWhole) (arg10 : Memref sig .tc .vmem S1x128 .f32) (harg10 : arg10.IsWhole) (arg11 : Memref sig .tc .vmem S1x384x3072 .fp8e4m3) (harg11 : arg11.IsWhole) (arg12 : Memref sig .tc .vmem S1x1x384 .f32) (harg12 : arg12.IsWhole) (arg13 : Memref sig .tc .vmem S1x384x128 .fp8e4m3) (harg13 : arg13.IsWhole) (arg14 : Memref sig .tc .vmem S1x1x384 .f32) (harg14 : arg14.IsWhole) (arg15 : Memref sig .tc .vmem S6152x2x128 .bf16) (harg15 : arg15.IsWhole) (arg16 : Memref sig .tc .vmem S384x4096 .bf16) (harg16 : arg16.IsWhole) (arg17 : Memref sig .tc .vmem S384x3072 .f32) (harg17 : arg17.IsWhole)
    (hc : k0_cond1 i = 1#1) (f0 : BufTy.Contents (Elt Ideal) arg2.view.ty) (f1 : BufTy.Contents (Elt Ideal) arg3.view.ty) (k : Fin k0_t1_loop.trips) :
    View.Piece (Elt Ideal) S6152x2x128 .bf16 :=
  ⟨Rect.unit (s := S6152x2x128) (k0_off3 k) S64x2x128.size (k0_off3_inb i k hc),
    k0_pay2 (F := Ideal) (arg3.view.readAt (Elt Ideal) (Rect.unit (s := S1x1x12288) (k0_off1 k) S1x1x128.size (k0_off1_inb i k hc)).toLoadRect f1)
      (arg2.view.readAt (Elt Ideal) (Rect.unit (s := S1x12288x128) (k0_off2 k) S1x128x128.size (k0_off2_inb i k hc)).toLoadRect f0)⟩

theorem trip_eq (c : Dev nD) (i : grid0.Coords) (arg2 : Memref sig .tc .vmem S1x12288x128 .fp8e4m3) (harg2 : arg2.IsWhole) (arg3 : Memref sig .tc .vmem S1x1x12288 .f32) (harg3 : arg3.IsWhole) (arg4 : Memref sig .tc .vmem S32x128 .f32) (harg4 : arg4.IsWhole) (arg5 : Memref sig .tc .vmem S4096x3072 .fp8e4m3) (harg5 : arg5.IsWhole) (arg6 : Memref sig .tc .vmem S1x3072 .f32) (harg6 : arg6.IsWhole) (arg7 : Memref sig .tc .vmem S1x3072 .f32) (harg7 : arg7.IsWhole) (arg8 : Memref sig .tc .vmem S3072x128 .fp8e4m3) (harg8 : arg8.IsWhole) (arg9 : Memref sig .tc .vmem S1x128 .f32) (harg9 : arg9.IsWhole) (arg10 : Memref sig .tc .vmem S1x128 .f32) (harg10 : arg10.IsWhole) (arg11 : Memref sig .tc .vmem S1x384x3072 .fp8e4m3) (harg11 : arg11.IsWhole) (arg12 : Memref sig .tc .vmem S1x1x384 .f32) (harg12 : arg12.IsWhole) (arg13 : Memref sig .tc .vmem S1x384x128 .fp8e4m3) (harg13 : arg13.IsWhole) (arg14 : Memref sig .tc .vmem S1x1x384 .f32) (harg14 : arg14.IsWhole) (arg15 : Memref sig .tc .vmem S6152x2x128 .bf16) (harg15 : arg15.IsWhole) (arg16 : Memref sig .tc .vmem S384x4096 .bf16) (harg16 : arg16.IsWhole) (arg17 : Memref sig .tc .vmem S384x3072 .f32) (harg17 : arg17.IsWhole)
    (hc : k0_cond1 i = 1#1) (f0 : BufTy.Contents (Elt Ideal) arg2.view.ty) (f1 : BufTy.Contents (Elt Ideal) arg3.view.ty) (k : Fin k0_t1_loop.trips) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 k = [tripPiece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 k] := by
  unfold tripL_k0_t1 trip_k0_t1; rfl

/-- What trip `k` stores is the scratch's function there. -/
theorem tripPiece_apply (c : Dev nD) (i : grid0.Coords) (arg2 : Memref sig .tc .vmem S1x12288x128 .fp8e4m3) (harg2 : arg2.IsWhole) (arg3 : Memref sig .tc .vmem S1x1x12288 .f32) (harg3 : arg3.IsWhole) (arg4 : Memref sig .tc .vmem S32x128 .f32) (harg4 : arg4.IsWhole) (arg5 : Memref sig .tc .vmem S4096x3072 .fp8e4m3) (harg5 : arg5.IsWhole) (arg6 : Memref sig .tc .vmem S1x3072 .f32) (harg6 : arg6.IsWhole) (arg7 : Memref sig .tc .vmem S1x3072 .f32) (harg7 : arg7.IsWhole) (arg8 : Memref sig .tc .vmem S3072x128 .fp8e4m3) (harg8 : arg8.IsWhole) (arg9 : Memref sig .tc .vmem S1x128 .f32) (harg9 : arg9.IsWhole) (arg10 : Memref sig .tc .vmem S1x128 .f32) (harg10 : arg10.IsWhole) (arg11 : Memref sig .tc .vmem S1x384x3072 .fp8e4m3) (harg11 : arg11.IsWhole) (arg12 : Memref sig .tc .vmem S1x1x384 .f32) (harg12 : arg12.IsWhole) (arg13 : Memref sig .tc .vmem S1x384x128 .fp8e4m3) (harg13 : arg13.IsWhole) (arg14 : Memref sig .tc .vmem S1x1x384 .f32) (harg14 : arg14.IsWhole) (arg15 : Memref sig .tc .vmem S6152x2x128 .bf16) (harg15 : arg15.IsWhole) (arg16 : Memref sig .tc .vmem S384x4096 .bf16) (harg16 : arg16.IsWhole) (arg17 : Memref sig .tc .vmem S384x3072 .f32) (harg17 : arg17.IsWhole)
    (hc : k0_cond1 i = 1#1) (f0 : BufTy.Contents (Elt Ideal) arg2.view.ty) (f1 : BufTy.Contents (Elt Ideal) arg3.view.ty) (k : Fin k0_t1_loop.trips)
    (x : (tripPiece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 k).1.shape.Idx) :
    (tripPiece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 k).2 x = tok (arg2.view.read (Elt Ideal) f0) (arg3.view.read (Elt Ideal) f1) ((tripPiece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 k).1.emb x) := by
  have hk : k.val < 96 := lt_of_lt_of_eq k.isLt trips_eq
  have e3 := off3_eq k
  have e2 := off2_eq k
  have e1 := off1_eq k
  obtain ⟨r, p, d, rfl⟩ : ∃ (r : Fin 64) (p : Fin 2) (d : Fin 128), x = ix3 r p d := ⟨x 0, x 1, x 2, by funext a; fin_cases a <;> rfl⟩
  have h0 : ((tripPiece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 k).1.emb (ix3 r p d) 0).val = 64 * k.val + r.val := by
    show k0_off3 k 0 + 1 * r.val = _
    rw [e3]; simp
  have h1 : ((tripPiece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 k).1.emb (ix3 r p d) 1).val = p.val := by
    show k0_off3 k 1 + 1 * p.val = _
    rw [e3]; simp
  have h2 : ((tripPiece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 k).1.emb (ix3 r p d) 2).val = d.val := by
    show k0_off3 k 2 + 1 * d.val = _
    rw [e3]; simp
  unfold tok
  rw [dif_pos (by rw [h0]; omega)]
  refine (pay2_apply _ _ r p d).trans ?_
  congr 1
  · rw [View.readAt_apply]
    show arg2.view.read (Elt Ideal) f0 _ = arg2.view.read (Elt Ideal) f0 _
    congr 1
    funext a; fin_cases a <;> apply Fin.ext
    · show k0_off2 k 0 + 1 * 0 = 0; rw [e2]; rfl
    · show k0_off2 k 1 + 1 * (2 * r.val + p.val) = 2 * _ + _; rw [e2, h0, h1]; show 128 * k.val + _ = _; omega
    · show k0_off2 k 2 + 1 * d.val = _; rw [e2]; refine Eq.trans ?_ h2.symm; show 0 + 1 * d.val = _; omega
  · rw [View.readAt_apply]
    show arg3.view.read (Elt Ideal) f1 _ = arg3.view.read (Elt Ideal) f1 _
    congr 1
    funext a; fin_cases a <;> apply Fin.ext
    · show k0_off1 k 0 + 1 * 0 = 0; rw [e1]; rfl
    · show k0_off1 k 1 + 1 * 0 = 0; rw [e1]; rfl
    · show k0_off1 k 2 + 1 * (2 * r.val + p.val) = 2 * _ + _; rw [e1, h0, h1]; show 128 * k.val + _ = _; omega

/-- The trips' stores hold the scratch's function, and cover the rows done so far. -/
theorem pb_spec (c : Dev nD) (i : grid0.Coords) (arg2 : Memref sig .tc .vmem S1x12288x128 .fp8e4m3) (harg2 : arg2.IsWhole) (arg3 : Memref sig .tc .vmem S1x1x12288 .f32) (harg3 : arg3.IsWhole) (arg4 : Memref sig .tc .vmem S32x128 .f32) (harg4 : arg4.IsWhole) (arg5 : Memref sig .tc .vmem S4096x3072 .fp8e4m3) (harg5 : arg5.IsWhole) (arg6 : Memref sig .tc .vmem S1x3072 .f32) (harg6 : arg6.IsWhole) (arg7 : Memref sig .tc .vmem S1x3072 .f32) (harg7 : arg7.IsWhole) (arg8 : Memref sig .tc .vmem S3072x128 .fp8e4m3) (harg8 : arg8.IsWhole) (arg9 : Memref sig .tc .vmem S1x128 .f32) (harg9 : arg9.IsWhole) (arg10 : Memref sig .tc .vmem S1x128 .f32) (harg10 : arg10.IsWhole) (arg11 : Memref sig .tc .vmem S1x384x3072 .fp8e4m3) (harg11 : arg11.IsWhole) (arg12 : Memref sig .tc .vmem S1x1x384 .f32) (harg12 : arg12.IsWhole) (arg13 : Memref sig .tc .vmem S1x384x128 .fp8e4m3) (harg13 : arg13.IsWhole) (arg14 : Memref sig .tc .vmem S1x1x384 .f32) (harg14 : arg14.IsWhole) (arg15 : Memref sig .tc .vmem S6152x2x128 .bf16) (harg15 : arg15.IsWhole) (arg16 : Memref sig .tc .vmem S384x4096 .bf16) (harg16 : arg16.IsWhole) (arg17 : Memref sig .tc .vmem S384x3072 .f32) (harg17 : arg17.IsWhole)
    (hc : k0_cond1 i = 1#1) (f0 : BufTy.Contents (Elt Ideal) arg2.view.ty) (f1 : BufTy.Contents (Elt Ideal) arg3.view.ty) :
    ∀ n : ℕ, n ≤ k0_t1_loop.trips →
      (∀ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 n, ∀ x : p.1.shape.Idx,
        p.2 x = tok (arg2.view.read (Elt Ideal) f0) (arg3.view.read (Elt Ideal) f1) (p.1.emb x))
      ∧ ∀ y : S6152x2x128.Idx, (y 0).val < 64 * n →
        ∃ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 n, y ∈ p.1.set
  | 0, _ => ⟨fun p hp => by simp [pb_k0_t1] at hp, fun y hy => by omega⟩
  | n + 1, hn => by
    obtain ⟨ih1, ih2⟩ := pb_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 n (by omega)
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 ⟨n, by omega⟩
    rw [trip_eq] at e
    change pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 (n + 1) = _ at e
    rw [e]
    refine ⟨fun p hp => ?_, fun y hy => ?_⟩
    · rcases List.mem_cons.mp hp with rfl | hp
      · exact tripPiece_apply c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 ⟨n, by omega⟩
      · exact ih1 p hp
    · by_cases hy' : (y 0).val < 64 * n
      · obtain ⟨p, hp, hm⟩ := ih2 y hy'
        exact ⟨p, List.mem_cons_of_mem _ hp, hm⟩
      · refine ⟨_, List.mem_cons_self, ?_⟩
        have e3 := off3_eq ⟨n, by omega⟩
        refine (Rect.mem_set_unit (inb := k0_off3_inb i ⟨n, by omega⟩ hc)).mpr fun a => ?_
        rw [e3]
        have l1 := (y 1).isLt
        have l2 := (y 2).isLt
        change _ < 2 at l1
        change _ < 128 at l2
        fin_cases a
        · show 64 * n ≤ (y 0).val ∧ (y 0).val < 64 * n + 64; omega
        · show 0 ≤ (y 1).val ∧ (y 1).val < 0 + 2; omega
        · show 0 ≤ (y 2).val ∧ (y 2).val < 0 + 128; omega

/-- The conditional leaves the scratch's function in the scratch. -/
theorem hT_tok (c : Dev nD) (i : grid0.Coords) (arg2 : Memref sig .tc .vmem S1x12288x128 .fp8e4m3) (harg2 : arg2.IsWhole) (arg3 : Memref sig .tc .vmem S1x1x12288 .f32) (harg3 : arg3.IsWhole) (arg4 : Memref sig .tc .vmem S32x128 .f32) (harg4 : arg4.IsWhole) (arg5 : Memref sig .tc .vmem S4096x3072 .fp8e4m3) (harg5 : arg5.IsWhole) (arg6 : Memref sig .tc .vmem S1x3072 .f32) (harg6 : arg6.IsWhole) (arg7 : Memref sig .tc .vmem S1x3072 .f32) (harg7 : arg7.IsWhole) (arg8 : Memref sig .tc .vmem S3072x128 .fp8e4m3) (harg8 : arg8.IsWhole) (arg9 : Memref sig .tc .vmem S1x128 .f32) (harg9 : arg9.IsWhole) (arg10 : Memref sig .tc .vmem S1x128 .f32) (harg10 : arg10.IsWhole) (arg11 : Memref sig .tc .vmem S1x384x3072 .fp8e4m3) (harg11 : arg11.IsWhole) (arg12 : Memref sig .tc .vmem S1x1x384 .f32) (harg12 : arg12.IsWhole) (arg13 : Memref sig .tc .vmem S1x384x128 .fp8e4m3) (harg13 : arg13.IsWhole) (arg14 : Memref sig .tc .vmem S1x1x384 .f32) (harg14 : arg14.IsWhole) (arg15 : Memref sig .tc .vmem S6152x2x128 .bf16) (harg15 : arg15.IsWhole) (arg16 : Memref sig .tc .vmem S384x4096 .bf16) (harg16 : arg16.IsWhole) (arg17 : Memref sig .tc .vmem S384x3072 .f32) (harg17 : arg17.IsWhole)
    (hc : k0_cond1 i = 1#1) (f0 : BufTy.Contents (Elt Ideal) arg2.view.ty) (f1 : BufTy.Contents (Elt Ideal) arg3.view.ty)
    (f : BufTy.Contents (Elt Ideal) arg15.view.ty) :
    arg15.view.read (Elt Ideal) (arg15.view.writes (Elt Ideal) f
        (⟨Rect.unit (s := S6152x2x128) ![6144, 0, 0] S8x2x128.size inb_S6152x2x128_S8x2x128_6144_0_0, constant (F := Ideal) S8x2x128 .bf16 0x0000#16⟩
          :: pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 (Scf.trips k0_t1_loop.lb k0_t1_loop.ub k0_t1_loop.st)))
      = tok (arg2.view.read (Elt Ideal) f0) (arg3.view.read (Elt Ideal) f1) := by
  funext y
  obtain ⟨h1, h2⟩ := pb_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc f0 f1 (Scf.trips k0_t1_loop.lb k0_t1_loop.ub k0_t1_loop.st) le_rfl
  refine View.read_writes_apply_of_pieces _ f (tok (arg2.view.read (Elt Ideal) f0) (arg3.view.read (Elt Ideal) f1)) _ ?_ y ?_
  · intro p hp
    rcases List.mem_cons.mp hp with rfl | hp
    · intro x
      unfold tok
      rw [dif_neg]
      · exact Ideal.ofBits_zero_bf16
      · show ¬ (6144 + 1 * (x 0).val < 6144)
        omega
    · exact h1 p hp
  · by_cases hy : (y 0).val < 6144
    · obtain ⟨p, hp, hm⟩ := h2 y (by rw [trips_eq]; omega)
      exact ⟨p, List.mem_cons_of_mem _ hp, hm⟩
    · refine ⟨_, List.mem_cons_self, ?_⟩
      have l0 := (y 0).isLt
      have l1 := (y 1).isLt
      have l2 := (y 2).isLt
      change _ < 6152 at l0
      change _ < 2 at l1
      change _ < 128 at l2
      refine (Rect.mem_set_unit (inb := inb_S6152x2x128_S8x2x128_6144_0_0)).mpr fun a => ?_
      fin_cases a
      · show 6144 ≤ (y 0).val ∧ (y 0).val < 6144 + 8; omega
      · show 0 ≤ (y 1).val ∧ (y 1).val < 0 + 2; omega
      · show 0 ≤ (y 2).val ∧ (y 2).val < 0 + 128; omega

end Cert.KernelIdeal.Pure
-- ==== Proof.KernelIdealValFrame.lean ====
/-
  Hand-written, untrusted. The compress call of `KernelIdeal` run over the extended reals with its four outputs TRACKED. The
  point `t` of the grid is head `t / 2`, half `t % 2`; the token scratch is filled at the even point of a head and read again
  at the odd one, so before an odd point the invariant holds it at the head's tokens (`Tn`), before an even one at anything.
  `run`: every execution ends with each output array as the write-backs of the points leave it, and the arguments unchanged.
-/
module

public import proofs.«01_k».proof.Defs
public import proofs.«01_k».proof.Proof.KernelIdealTokens

@[expose] public section

set_option maxRecDepth 16384

noncomputable section

namespace Cert.KernelIdeal.ValFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The even point of the head that point `n` belongs to. -/
def ept (n : ℕ) : Fin cfg0.N := ⟨min (n / 2 * 2) 10, lt_of_le_of_lt (Nat.min_le_right _ _) (by decide)⟩

/-- The tokens of the head that point `n` belongs to. -/
def Tn (c : Dev nD) (n : ℕ) : S6152x2x128.Idx → Elt Ideal .bf16 :=
  Pure.tok (iblk m c 0 (ept n)) (iblk m c 1 (ept n))

/-- What point `t` leaves in the stage of result 9. -/
def o9 (c : Dev nD) (t : Fin cfg0.N) : S1x384x3072.Idx → Elt Ideal .fp8e4m3 :=
  Val.out9 (grid0.coords t) (Memref.whole cc0_scratch1).view (Memref.whole cc0_scratch2).view (Tn m c t.val) (iblk m c 2 t) (iblk m c 3 t) (iblk m c 4 t) (iblk m c 5 t) (iblk m c 6 t) (iblk m c 7 t) (iblk m c 8 t)

/-- What point `t` leaves in the stage of result 10. -/
def o10 (c : Dev nD) (t : Fin cfg0.N) : S1x1x384.Idx → Elt Ideal .f32 :=
  Val.out10 (grid0.coords t) (Memref.whole cc0_scratch1).view (Memref.whole cc0_scratch2).view (Tn m c t.val) (iblk m c 2 t) (iblk m c 3 t) (iblk m c 4 t) (iblk m c 5 t) (iblk m c 6 t) (iblk m c 7 t) (iblk m c 8 t)

/-- What point `t` leaves in the stage of result 11. -/
def o11 (c : Dev nD) (t : Fin cfg0.N) : S1x384x128.Idx → Elt Ideal .fp8e4m3 :=
  Val.out11 (grid0.coords t) (Memref.whole cc0_scratch1).view (Memref.whole cc0_scratch2).view (Tn m c t.val) (iblk m c 2 t) (iblk m c 3 t) (iblk m c 4 t) (iblk m c 5 t) (iblk m c 6 t) (iblk m c 7 t) (iblk m c 8 t)

/-- What point `t` leaves in the stage of result 12. -/
def o12 (c : Dev nD) (t : Fin cfg0.N) : S1x1x384.Idx → Elt Ideal .f32 :=
  Val.out12 (grid0.coords t) (Memref.whole cc0_scratch1).view (Memref.whole cc0_scratch2).view (Tn m c t.val) (iblk m c 2 t) (iblk m c 3 t) (iblk m c 4 t) (iblk m c 5 t) (iblk m c 6 t) (iblk m c 7 t) (iblk m c 8 t)

/-- The three scratches, the token scratch at `d`, and the generator register. -/
def ΦT (c : Dev nD) (d : S6152x2x128.Idx → Elt Ideal .bf16) : sProp 𝕄 :=
  iprop(((((c : Thread nD τ).loc cc0_scratch0) ↦{fullShare} d)
    ∗ (∃ f : Buf (Elt Ideal) ((c : Thread nD τ).loc cc0_scratch1), ((c : Thread nD τ).loc cc0_scratch1) ↦{fullShare} f)
    ∗ (∃ f : Buf (Elt Ideal) ((c : Thread nD τ).loc cc0_scratch2), ((c : Thread nD τ).loc cc0_scratch2) ↦{fullShare} f))
    ∗ ∃ r, prngReg c r)

/-- The invariant before point `n`: at an odd point the token scratch at the head's tokens, at an even one anything. -/
def Φn (c : Dev nD) (n : ℕ) : sProp 𝕄 :=
  if n % 2 = 1 then ΦT c (Tn m c n) else Pipeline.ΦA spec0 c

theorem Φn_odd (c : Dev nD) (n : ℕ) (h : n % 2 = 1) : Φn m c n = ΦT c (Tn m c n) := if_pos h
theorem Φn_even (c : Dev nD) (n : ℕ) (h : n % 2 = 0) : Φn m c n = Pipeline.ΦA spec0 c := if_neg (by omega)

/-- The proof data on core `c`: the arrays as the region finds them, each input's block as fetched, each output's stage at
    what the body leaves. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => o9 m c t
    | 10 => o10 m c t
    | 11 => o11 m c t
    | 12 => o12 m c t
  Φ p := Φn m c p.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = o9 m c t := by dsimp only [dats]
theorem after_10 (c : Dev nD) (t : Fin cfg0.N) : (dats m 0 c).after 10 t = o10 m c t := by dsimp only [dats]
theorem after_11 (c : Dev nD) (t : Fin cfg0.N) : (dats m 0 c).after 11 t = o11 m c t := by dsimp only [dats]
theorem after_12 (c : Dev nD) (t : Fin cfg0.N) : (dats m 0 c).after 12 t = o12 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The conditional on the second grid coordinate is taken at the even points. -/
theorem cond_iff : ∀ t : Fin cfg0.N, k0_cond1 (grid0.coords t) = 1#1 ↔ t.val % 2 = 0 := by decide +kernel

theorem ept_even : ∀ t : Fin cfg0.N, t.val % 2 = 0 → ept t.val = t := by decide +kernel

theorem Tn_even (c : Dev nD) (t : Fin cfg0.N) (h : t.val % 2 = 0) :
    Tn m c t.val = Pure.tok (iblk m c 0 t) (iblk m c 1 t) := by unfold Tn; rw [ept_even t h]

theorem Tn_succ (c : Dev nD) (n : ℕ) (h : n % 2 = 0) : Tn m c (n + 1) = Tn m c n := by
  have : ept (n + 1) = ept n := Fin.ext (by
    show min ((n + 1) / 2 * 2) 10 = min (n / 2 * 2) 10
    rw [show (n + 1) / 2 = n / 2 by omega])
  unfold Tn; rw [this]

/-- The body at a point, the token scratch at `d`: at an odd point `d` is the head's tokens. It leaves them there. -/
theorem body_core (c : Dev nD) (t : Fin cfg0.N) (d15 : S6152x2x128.Idx → Elt Ideal .bf16)
    (h15 : ¬ k0_cond1 (grid0.coords t) = 1#1 → d15 = Tn m c t.val) :
    iprop(ΦT c d15 ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
   ∗ (∃ d, owns (c : Thread nD τ) (st0_9 t) fullShare d)
    ∗ (∃ d, owns (c : Thread nD τ) (st0_10 t) fullShare d)
    ∗ (∃ d, owns (c : Thread nD τ) (st0_11 t) fullShare d)
    ∗ (∃ d, owns (c : Thread nD τ) (st0_12 t) fullShare d))
    ⊢ wp frame (wpE (defs₀ (F := Ideal)) Variants.none c none) Set.univ (bodyAt0 t) (fun _ => iprop(ΦT c (Tn m c t.val) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
   ∗ owns (c : Thread nD τ) (st0_9 t) fullShare (o9 m c t)
    ∗ owns (c : Thread nD τ) (st0_10 t) fullShare (o10 m c t)
    ∗ owns (c : Thread nD τ) (st0_11 t) fullShare (o11 m c t)
    ∗ owns (c : Thread nD τ) (st0_12 t) fullShare (o12 m c t))) := by
  unfold ΦT bodyAt0
  iintro ⟨⟨⟨HS0, ⟨%s1, HS1⟩, ⟨%s2, HS2⟩⟩, Hg⟩, Ho, H0, H1, H2, H3, H4, H5, H6, H7, H8, H9, H10, H11, H12⟩
  iapply (Hand.valRun (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) (iblk m c 6 t) (iblk m c 7 t) (iblk m c 8 t) (Tn m c t.val) d15 h15
    (fun hc f0 f1 f e0 e1 => (Pure.hT_tok c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (Memref.whole cc0_scratch0) (Memref.isWhole_whole _) (Memref.whole cc0_scratch1) (Memref.isWhole_whole _) (Memref.whole cc0_scratch2) (Memref.isWhole_whole _) hc f0 f1 f).trans
      (by rw [e0, e1]; exact (Tn_even m c t ((cond_iff t).1 hc)).symm)) _)
  simp only [owns_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexists _; iexact HS1
  isplitl [HS2]; · iexists _; iexact HS2
  iintro ⟨H0, H1, H2, H3, H4, H5, H6, H7, H8, H9, H10, H11, H12, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The region's invariant is the scratches at some contents. -/
theorem ΦA_open (c : Dev nD) : (Pipeline.ΦA spec0 c : sProp 𝕄) ⊢ iprop(∃ d, ΦT c d) := by
  unfold Pipeline.ΦA ΦT
  rw [scopedRest0_eq]
  iintro ⟨⟨⟨%s0, HS0⟩, HS⟩, Hg⟩
  iexists s0
  isplitl [HS0 HS]
  · isplitl [HS0]; · iexact HS0
    iexact HS
  iexact Hg

theorem ΦA_close (c : Dev nD) (d : S6152x2x128.Idx → Elt Ideal .bf16) : ΦT c d ⊢ (Pipeline.ΦA spec0 c : sProp 𝕄) := by
  unfold Pipeline.ΦA ΦT
  rw [scopedRest0_eq]
  iintro ⟨⟨HS0, HS⟩, Hg⟩
  isplitl [HS0 HS]
  · isplitl [HS0]; · iexists _; iexact HS0
    iexact HS
  iexact Hg

/-- Before a point the invariant gives the token scratch at something which at an odd point is the head's tokens. -/
theorem Φn_open (c : Dev nD) (t : Fin cfg0.N) : Φn m c t.val ⊢
    iprop(∃ d, ⌜¬ k0_cond1 (grid0.coords t) = 1#1 → d = Tn m c t.val⌝ ∗ ΦT c d) := by
  rcases Nat.mod_two_eq_zero_or_one t.val with h | h
  · rw [Φn_even m c _ h]
    refine (ΦA_open c).trans ?_
    iintro ⟨%d, H⟩
    iexists d
    isplitr; swap; · iexact H
    ipureintro; exact fun hn => absurd ((cond_iff t).2 h) hn
  · rw [Φn_odd m c _ h]
    iintro H
    iexists _
    isplitr; swap; · iexact H
    ipureintro; exact fun _ => rfl

/-- After a point the head's tokens in the scratch give the next point's invariant. -/
theorem Φn_close (c : Dev nD) (t : Fin cfg0.N) : ΦT c (Tn m c t.val) ⊢ Φn m c (t.val + 1) := by
  rcases Nat.mod_two_eq_zero_or_one t.val with h | h
  · rw [Φn_odd m c _ (by omega), Tn_succ m c _ h]
  · rw [Φn_even m c _ (by omega)]; exact ΦA_close c _

/-- What the body is called with at point `t`: the invariant, the core's `owes`, the inputs' blocks, the outputs at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))
/-- What the body returns at point `t`: every stage at what `dats` says. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The body at the point: the invariant opened, `body_core`, the invariant closed. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3, before_4, before_5, before_6, before_7, before_8]
  rw [show (dats m 0 c).Φ t.succ = Φn m c (t.val + 1) from rfl,
    show (dats m 0 c).owesAt () t.succ = (dats m 0 c).owesAt () t.castSucc from rfl,
    show (dats m 0 c).Φ t.castSucc = Φn m c t.val from rfl,
    after_0, after_1, after_2, after_3, after_4, after_5, after_6, after_7, after_8, after_9, after_10, after_11, after_12]
  refine (sep_mono (Φn_open m c t) .rfl).trans ?_
  iintro ⟨⟨%d15, %h15, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((body_core m c t d15 h15).trans ((wp frame (wpE (defs₀ (F := Ideal)) Variants.none c none) Set.univ (bodyAt0 t)).mono
    fun _ => sep_mono (Φn_close m c t) .rfl))
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation: the triple restated (Lib/Pipeline/FrameBody.lean `triple_restated`). -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

-- the library theorem's implicit arguments are found by unifying its conclusion with this statement, which unifies only
-- when unification may unfold plain definitions in a metavariable's type
set_option backward.isDefEq.respectTransparency.types false in
/-- From any memory with zero counters every execution of @main ends, with every array as the library computes it from the
    proof data and every other unscoped buffer as the region found it. -/
theorem run_main :
    θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = Φn m c 0 from rfl, Φn_even m c 0 rfl])
    (hout := fun c => by
      rw [show (dats m 0 c).Φ (Fin.last cfg0.N) = Φn m c 12 from rfl, Φn_even m c 12 rfl])

end Cert.KernelIdeal.ValFrame

end
-- ==== Proof.RowSpec.lean ====
/-
  Hand-written, untrusted. The compress layer of one block of tokens as a function of its gathered row: the hidden
  activations and the second layer's sums, with which both programs' results are expressed.
-/
module

public import Idealize.ShloMosaic.Lib.Pointwise
public import Idealize.ShloMosaic.Lib.Pipeline.ValueKit

@[expose] public section

noncomputable section

namespace Cert.RowSpec

open Idealize.ShloMosaic

variable (a : Fin 4096 → EReal) (w : Fin 4096 → Fin 3072 → EReal) (s b : Fin 3072 → EReal)

/-- The first layer before its activation: the sum over the row's first half plus the one over its second half, times the
    column's scale, plus its bias. -/
def pre (j : Fin 3072) : EReal :=
  ((∑ κ : Fin 2048, a ⟨κ.val, by omega⟩ * w ⟨κ.val, by omega⟩ j)
    + ∑ κ : Fin 2048, a ⟨2048 + κ.val, by omega⟩ * w ⟨2048 + κ.val, by omega⟩ j) * s j + b j

/-- The first layer: silu of the above. -/
def hid (j : Fin 3072) : EReal := pre a w s b j * Ideal.div 1 (1 + Ideal.exp (0 - pre a w s b j))

/-- The absolute value over the reals with both infinities. -/
def abs' (x : EReal) : EReal := max x (-x)

theorem abs'_nonneg (x : EReal) : 0 ≤ abs' x := by
  unfold abs'
  rcases le_total 0 x with h | h
  · exact le_max_of_le_left h
  · exact le_max_of_le_right (by simpa using EReal.neg_le_neg_iff.mpr h)

/-- The greatest absolute value of a row. -/
def amax {n : ℕ} (h : Fin n → EReal) : EReal := Finset.univ.sup fun j => abs' (h j)

/-- A reduction by maximum from minus infinity is the supremum. -/
theorem fold_max {ι : Type} [Fintype ι] (f : ι → EReal) :
    Finset.fold max (Ideal.ofBits .f32 0xFF800000#32) f Finset.univ = Finset.univ.sup f := by
  rw [show Ideal.ofBits .f32 0xFF800000#32 = (⊥ : EReal) by simp [Ideal.ofBits, Ideal.ieee]]
  rfl

/-- A reduction by minimum from plus infinity is the infimum. -/
theorem fold_min {ι : Type} [Fintype ι] (f : ι → EReal) :
    Finset.fold min (Ideal.ofBits .f32 0x7F800000#32) f Finset.univ = Finset.univ.inf f := by
  rw [show Ideal.ofBits .f32 0x7F800000#32 = (⊤ : EReal) by simp [Ideal.ofBits, Ideal.ieee]]
  rfl

/-- The running maximum of absolute values after `n` column tiles of 256, in lane `d` of 128. -/
def run (h : ℕ → EReal) (d : ℕ) : ℕ → EReal
  | 0 => 0
  | n + 1 => max (max (run h d n) (abs' (h (256 * n + d)))) (abs' (h (256 * n + 128 + d)))

theorem run_mono (h : ℕ → EReal) (d : ℕ) {m n : ℕ} (hmn : m ≤ n) : run h d m ≤ run h d n := by
  induction hmn with
  | refl => exact le_rfl
  | step _ ih => exact ih.trans (le_max_of_le_left (le_max_left _ _))

theorem run_le (h : ℕ → EReal) (A : EReal) (hA : 0 ≤ A) (N : ℕ) (hN : ∀ j, j < 256 * N → abs' (h j) ≤ A) (d : ℕ) (hd : d < 128) :
    ∀ n, n ≤ N → run h d n ≤ A
  | 0, _ => hA
  | n + 1, hn => max_le (max_le (run_le h A hA N hN d hd n (by omega)) (hN _ (by omega))) (hN _ (by omega))

/-- The greatest lane of the running maximum over twelve tiles is the greatest absolute value of the row. -/
theorem sup_run (g : Fin 3072 → EReal) (h : ℕ → EReal) (hg : ∀ j : Fin 3072, h j.val = g j) :
    (Finset.univ.sup fun d : Fin 128 => run h d.val 12) = amax g := by
  unfold amax
  apply le_antisymm
  · refine Finset.sup_le fun d _ => run_le h _ ?_ 12 (fun j hj => ?_) _ d.isLt 12 le_rfl
    · exact (abs'_nonneg (g 0)).trans (Finset.le_sup (f := fun j => abs' (g j)) (Finset.mem_univ 0))
    · rw [hg ⟨j, by omega⟩]
      exact Finset.le_sup (f := fun j => abs' (g j)) (Finset.mem_univ _)
  · refine Finset.sup_le fun j _ => ?_
    refine le_trans ?_ (Finset.le_sup (f := fun d : Fin 128 => run h d.val 12) (Finset.mem_univ ⟨j.val % 128, by omega⟩))
    refine le_trans ?_ (run_mono h _ (show j.val / 256 + 1 ≤ 12 by omega))
    rw [← hg j]
    show _ ≤ max (max _ _) _
    by_cases hj : j.val % 256 < 128
    · refine le_max_of_le_left (le_max_of_le_right (le_of_eq ?_))
      congr 2; show j.val = 256 * (j.val / 256) + j.val % 128; omega
    · refine le_max_of_le_right (le_of_eq ?_)
      congr 2; show j.val = 256 * (j.val / 256) + 128 + j.val % 128; omega

end Cert.RowSpec
-- ==== Proof.Quantiser.lean ====
/-
  Hand-written, untrusted. The scale of the fp8 quantiser over the reals. The reference states it as the least power of two
  among 2^-126 .. 2^126 that lies strictly above the row's greatest absolute value times the constant 1/448; the kernel finds
  the biased exponent of that product bit by bit and builds the power and its inverse from the exponent's bits. The two agree
  for every value.
-/
module

public import proofs.«01_k».proof.Proof.RowSpec

@[expose] public section

noncomputable section

namespace Cert.RowSpec

open Idealize.ShloMosaic Idealize.ShloMosaic.TcCoe

/-- The power of two with biased exponent `c`. -/
def pw (c : ℕ) : EReal := (((2 : ℝ) ^ ((c : ℤ) - 127) : ℝ) : EReal)

/-- The real arithmetic of an f32 word without mantissa. -/
theorem zpow_word (c : ℕ) : (1 : ℝ) * ((2 ^ 23 + 0 : ℕ) : ℝ) * (2 : ℝ) ^ ((c : ℤ) - (2 ^ (8 - 1) - 1) - ((23 : ℕ) : ℤ)) = (2 : ℝ) ^ ((c : ℤ) - 127) := by
  rw [one_mul, Nat.add_zero, Nat.cast_pow, Nat.cast_ofNat, ← zpow_natCast (2 : ℝ) 23, ← zpow_add₀ (by norm_num)]
  congr 1
  ring

theorem ieee_of {w : ℕ} (b : BitVec w) (c : ℕ) (hn : (b.extractLsb' (8 + 23) 1 == 1#1) = false)
    (he : (b.extractLsb' 23 8).toNat = c) (hf : (b.extractLsb' 0 23).toNat = 0) (h1 : c ≠ 2 ^ 8 - 1) (h2 : c ≠ 0) :
    Ideal.ieee 8 23 b = pw c := by
  unfold Ideal.ieee pw
  rw [← zpow_word]
  simp only [hn, he, hf, if_neg h1, if_neg h2, Bool.false_eq_true, if_false]

/-- The fields of a word that is a multiple of 2^23. -/
theorem word_fields (c : ℕ) (h2 : c ≤ 254) :
    ((BitVec.ofNat 32 (c * 8388608)).extractLsb' (8 + 23) 1 == 1#1) = false
      ∧ ((BitVec.ofNat 32 (c * 8388608)).extractLsb' 23 8).toNat = c
      ∧ ((BitVec.ofNat 32 (c * 8388608)).extractLsb' 0 23).toNat = 0 := by
  have h : ∀ c : Fin 255, ((BitVec.ofNat 32 (c.val * 8388608)).extractLsb' (8 + 23) 1 == 1#1) = false
      ∧ ((BitVec.ofNat 32 (c.val * 8388608)).extractLsb' 23 8).toNat = c.val
      ∧ ((BitVec.ofNat 32 (c.val * 8388608)).extractLsb' 0 23).toNat = 0 := by decide +kernel
  exact h ⟨c, by omega⟩

/-- The f32 word with exponent field `c` and no mantissa is that power. -/
theorem bits_pw (c : ℕ) (h1 : 1 ≤ c) (h2 : c ≤ 254) : Ideal.ofBits .f32 (BitVec.ofNat 32 (c * 8388608)) = pw c := by
  obtain ⟨hn, he, hf⟩ := word_fields c h2
  exact ieee_of _ c hn he hf (by omega) (by omega)

theorem pw_pos (c : ℕ) : 0 < pw c := by
  unfold pw; exact_mod_cast zpow_pos (by norm_num : (0 : ℝ) < 2) _

theorem pw_mono {a b : ℕ} (h : a ≤ b) : pw a ≤ pw b := by
  unfold pw
  exact_mod_cast zpow_le_zpow_right₀ (by norm_num : (1 : ℝ) ≤ 2) (show (a : ℤ) - 127 ≤ (b : ℤ) - 127 by omega)

/-- The inverse of a power, as the division computes it. -/
theorem div_pw (c : ℕ) (h : c ≤ 254) : Ideal.div 1 (pw c) = pw (254 - c) := by
  unfold Ideal.div
  rw [if_neg (pw_pos c).ne', one_mul]
  unfold pw
  rw [← EReal.coe_inv, ← zpow_neg]
  congr 2
  push_cast [Nat.cast_sub h]
  ring

/-- One step of the search: the exponent with `s` added, if the value is at least its power. -/
def step (v : EReal) (s e : ℕ) : ℕ := if pw (e + s) ≤ v then e + s else e

/-- The search of the exponent. -/
def search (v : EReal) : ℕ := step v 1 (step v 2 (step v 4 (step v 8 (step v 16 (step v 32 (step v 63 (step v 126 0)))))))

/-- What the search keeps: the value is at least the found power, if any was found, and less than every power above what the
    remaining steps can still add. -/
def Inv (v : EReal) (k e : ℕ) : Prop :=
  e + k ≤ 252 ∧ (e = 0 ∨ pw e ≤ v) ∧ ∀ c, e + k < c → c ≤ 252 → v < pw c

theorem inv_step (v : EReal) (k s e : ℕ) (hs : 1 ≤ s) (hk : s ≤ k) (h2 : 2 * s ≤ k + 1) (h : Inv v k e) : Inv v (k - s) (step v s e) := by
  obtain ⟨h0, h1, h3⟩ := h
  unfold step
  split
  · next hp => exact ⟨by omega, .inr hp, fun c hc hc' => h3 c (by omega) hc'⟩
  · next hp => exact ⟨by omega, h1, fun c hc hc' => lt_of_lt_of_le (not_le.mp hp) (pw_mono (by omega))⟩

theorem inv_search (v : EReal) : Inv v 0 (search v) := by
  have h : Inv v 252 0 := ⟨by omega, .inl rfl, fun c h h' => by omega⟩
  have h := inv_step v _ 126 _ (by omega) (by omega) (by omega) h
  have h := inv_step v _ 63 _ (by omega) (by omega) (by omega) h
  have h := inv_step v _ 32 _ (by omega) (by omega) (by omega) h
  have h := inv_step v _ 16 _ (by omega) (by omega) (by omega) h
  have h := inv_step v _ 8 _ (by omega) (by omega) (by omega) h
  have h := inv_step v _ 4 _ (by omega) (by omega) (by omega) h
  have h := inv_step v _ 2 _ (by omega) (by omega) (by omega) h
  exact inv_step v _ 1 _ (by omega) (by omega) (by omega) h

/-- The least of the powers 2^-126 .. 2^126 strictly above the value; 2^126 if there is none. -/
def scaleOf (v : EReal) : EReal := Finset.univ.inf fun i : Fin 253 => if v < pw (i.val + 1) then pw (i.val + 1) else pw 253

theorem scaleOf_eq (v : EReal) : scaleOf v = pw (search v + 1) := by
  obtain ⟨h0, h1, h3⟩ := inv_search v
  apply le_antisymm
  · refine (Finset.inf_le (Finset.mem_univ (⟨search v, by omega⟩ : Fin 253))).trans (le_of_eq ?_)
    dsimp only
    split
    · rfl
    · next hn =>
      have : search v = 252 := by
        by_contra hc
        exact hn (h3 _ (by omega) (by omega))
      rw [this]
  · refine Finset.le_inf fun i _ => ?_
    split
    · next hi =>
      refine pw_mono ?_
      by_contra hc
      rcases h1 with h1 | h1
      · omega
      · exact absurd hi (not_lt.mpr ((pw_mono (by omega)).trans h1))
    · exact pw_mono (by omega)

/-- The quantiser's scale for a greatest absolute value `m`: one for a row of zeros. -/
def scale (m : EReal) : EReal := if m = 0 then 1 else scaleOf (m * Ideal.ofBits .f32 0x3B124925#32)

/-- The code of an entry: times the inverse scale, clipped to -448 .. 448. -/
def code (m h : EReal) : EReal :=
  min (Ideal.ofBits .f32 0x43E00000#32) (max (Ideal.ofBits .f32 0xC3E00000#32) (h * Ideal.div 1 (scale m)))

variable (a : Fin 4096 → EReal) (w : Fin 4096 → Fin 3072 → EReal) (s b : Fin 3072 → EReal)
  (w2 : Fin 3072 → Fin 128 → EReal) (s2 b2 : Fin 128 → EReal)

/-- The scale of the first layer's row, and its codes. -/
def hscale : EReal := scale (amax (hid a w s b))
@[inherit_doc hscale]
def hcode (j : Fin 3072) : EReal := code (amax (hid a w s b)) (hid a w s b j)

/-- The second layer: the product with the codes, times the row's scale, times the column's scale, plus the bias. -/
def acc (d : Fin 128) : EReal := (∑ j, hcode a w s b j * w2 j d) * hscale a w s b * s2 d + b2 d

/-- The scale of the second layer's row, and its codes. -/
def cscale : EReal := scale (amax (acc a w s b w2 s2 b2))
@[inherit_doc cscale]
def ccode (d : Fin 128) : EReal := code (amax (acc a w s b w2 s2 b2)) (acc a w s b w2 s2 b2 d)

/-! The kernel's words. -/

/-- One step of the search on words. -/
def stepW (v : EReal) (s e : BitVec 32) : BitVec 32 :=
  Scalar.select (FloatOps.cmpf (F := Ideal) .oge v (Ideal.ofBits .f32 ((e + s) <<< (23 : ℕ)))) (e + s) e

/-- Shifting an exponent into its field. -/
theorem shl_word (c : ℕ) (h : c ≤ 254) : (BitVec.ofNat 32 c) <<< (23 : ℕ) = BitVec.ofNat 32 (c * 8388608) := by
  have h' : ∀ c : Fin 255, (BitVec.ofNat 32 c.val) <<< (23 : ℕ) = BitVec.ofNat 32 (c.val * 8388608) := by decide +kernel
  exact h' ⟨c, by omega⟩

theorem stepW_eq (v : EReal) (s e : ℕ) (h : 1 ≤ e + s) (h' : e + s ≤ 252) :
    stepW v (BitVec.ofNat 32 s) (BitVec.ofNat 32 e) = BitVec.ofNat 32 (step v s e) := by
  unfold stepW step
  rw [show (BitVec.ofNat 32 e + BitVec.ofNat 32 s) = BitVec.ofNat 32 (e + s) from (BitVec.ofNat_add ..).symm, shl_word _ (by omega),
    bits_pw _ h (by omega)]
  by_cases hp : pw (e + s) ≤ v
  · rw [if_pos hp]
    exact if_pos (by show BitVec.ofBool (decide (pw (e + s) ≤ v)) = 1; rw [decide_eq_true hp]; rfl)
  · rw [if_neg hp]
    exact if_neg (by show ¬ BitVec.ofBool (decide (pw (e + s) ≤ v)) = 1; rw [decide_eq_false hp]; decide)

/-- The search on words finds the exponent of the search on naturals. -/
theorem searchW_eq (v : EReal) :
    stepW v 1#32 (stepW v 2#32 (stepW v 4#32 (stepW v 8#32 (stepW v 16#32 (stepW v 32#32 (stepW v 63#32 (stepW v 126#32 0#32)))))))
      = BitVec.ofNat 32 (search v) := by
  have hb : ∀ s e : ℕ, step v s e ≤ e + s := fun s e => by unfold step; split <;> omega
  have h0 := hb 126 0
  have h1 := hb 63 (step v 126 0)
  have h2 := hb 32 (step v 63 (step v 126 0))
  have h3 := hb 16 (step v 32 (step v 63 (step v 126 0)))
  have h4 := hb 8 (step v 16 (step v 32 (step v 63 (step v 126 0))))
  have h5 := hb 4 (step v 8 (step v 16 (step v 32 (step v 63 (step v 126 0)))))
  have h6 := hb 2 (step v 4 (step v 8 (step v 16 (step v 32 (step v 63 (step v 126 0))))))
  unfold search
  rw [stepW_eq v 126 0 (by omega) (by omega), stepW_eq v 63 _ (by omega) (by omega), stepW_eq v 32 _ (by omega) (by omega),
    stepW_eq v 16 _ (by omega) (by omega), stepW_eq v 8 _ (by omega) (by omega), stepW_eq v 4 _ (by omega) (by omega),
    stepW_eq v 2 _ (by omega) (by omega), stepW_eq v 1 _ (by omega) (by omega)]

/-- The word of the power above the found exponent is the scale. -/
theorem bits_scale (v : EReal) : Ideal.ofBits .f32 ((BitVec.ofNat 32 (search v)) <<< (23 : ℕ) + 8388608#32) = scaleOf v := by
  have h := (inv_search v).1
  have h' : ∀ c : Fin 253, (BitVec.ofNat 32 c.val) <<< (23 : ℕ) + 8388608#32 = BitVec.ofNat 32 ((c.val + 1) * 8388608) := by decide +kernel
  rw [scaleOf_eq, h' ⟨search v, by omega⟩, bits_pw _ (by show 1 ≤ search v + 1; omega) (by show search v + 1 ≤ 254; omega)]

/-- The word the kernel subtracts the exponent from gives the inverse of the scale. -/
theorem bits_inv (v : EReal) :
    Ideal.ofBits .f32 (2122317824#32 - (BitVec.ofNat 32 (search v)) <<< (23 : ℕ)) = Ideal.div 1 (scaleOf v) := by
  have h := (inv_search v).1
  have h' : ∀ c : Fin 253, 2122317824#32 - (BitVec.ofNat 32 c.val) <<< (23 : ℕ) = BitVec.ofNat 32 ((253 - c.val) * 8388608) := by decide +kernel
  rw [scaleOf_eq, div_pw _ (by omega), h' ⟨search v, by omega⟩, bits_pw _ (by show 1 ≤ 253 - search v; omega) (by show 253 - search v ≤ 254; omega)]
  congr 1
  show 253 - search v = _
  omega

end Cert.RowSpec
-- ==== Proof.CompressSpec.lean ====
/-
  Hand-written, untrusted. The compress stage over the extended reals as mathematics, from the argument arrays read at their
  coordinates: token `n` of head `g`, the gathered row of block `b` (32 tokens from token `16 b` on, each plus its position's
  entry). The four results are RowSpec.lean's and Quantiser.lean's rows at that gathered row.
-/
module

public import proofs.«01_k».proof.Proof.Quantiser

@[expose] public section

noncomputable section

namespace Cert.RowSpec

variable (a0 : Fin 12288 → Fin 6 → Fin 128 → EReal) (a1 : Fin 12288 → Fin 6 → EReal) (a2 : Fin 32 → Fin 128 → EReal)

/-- Token `n` of head `g`: its codes times its scale; zero past the sequence. -/
def token (g : Fin 6) (n : ℕ) (d : Fin 128) : EReal := if h : n < 12288 then a0 ⟨n, h⟩ g d * a1 ⟨n, h⟩ g else 0

/-- Entry `κ = 128 k + d` of the gathered row of block `b`. -/
def row (g : Fin 6) (b : ℕ) (κ : Fin 4096) : EReal :=
  token a0 a1 g (16 * b + κ.val / 128) ⟨κ.val % 128, by omega⟩ + a2 ⟨κ.val / 128, by omega⟩ ⟨κ.val % 128, by omega⟩

end Cert.RowSpec

end
-- ==== Proof.KernelIdealReads.lean ====
/-
  Hand-written, untrusted. The blocks that the grid points of `KernelIdeal`'s compress call read, entry by entry, as entries
  of the argument arrays: point `t` is head `t / 2`, half `t % 2`.
-/
module

public import proofs.«01_k».proof.Proof.KernelIdealValFrame
public import proofs.«01_k».proof.Proof.CompressSpec
public import proofs.«01_k».proof.Proof.Gen.KernelIdeal.Frame
public import Idealize.ShloMosaic.Lib.Pipeline.ValueKit

@[expose] public section

set_option maxRecDepth 16384

noncomputable section

namespace Cert.KernelIdeal.Reads

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The index maps: head `t / 2`, half `t % 2`. -/
theorem idx : ∀ t : Fin cfg0.N, win0_0.index t = ![t.val / 2, 0, 0] ∧ win0_1.index t = ![t.val / 2, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val / 2, t.val % 2, 0] ∧ win0_10.index t = ![t.val / 2, 0, t.val % 2]
    ∧ win0_11.index t = ![t.val / 2, t.val % 2, 0] ∧ win0_12.index t = ![t.val / 2, 0, t.val % 2] ∧ t.val / 2 < 6 :=
  (by decide +kernel : ∀ t : Fin grid0.N, _)

/-- There are six heads. -/
theorem half (t : Fin cfg0.N) : t.val / 2 < 6 := by
  have h : t.val < 12 := lt_of_lt_of_eq t.isLt N_0
  omega

/-- Input window 0, entry by entry. -/
theorem read0 (t : Fin cfg0.N) (n : Fin 12288) (d : Fin 128) : iblk m c 0 t (ix3 (0 : Fin 1) n d) = m ((c : Thread nD τ).loc main_arg0) (ix4 (0 : Fin 1) n (⟨t.val / 2, half t⟩ : Fin 6) d) := by
  blk_ext! [iblk, V, idx t]
/-- Input window 1, entry by entry. -/
theorem read1 (t : Fin cfg0.N) (n : Fin 12288) : iblk m c 1 t (ix3 (0 : Fin 1) (0 : Fin 1) n) = m ((c : Thread nD τ).loc main_arg1) (ix3 (0 : Fin 1) n (⟨t.val / 2, half t⟩ : Fin 6)) := by
  blk_ext! [iblk, V, idx t]
/-- Input window 2, entry by entry. -/
theorem read2 (t : Fin cfg0.N) (k : Fin 32) (d : Fin 128) : iblk m c 2 t (ix2 k d) = m ((c : Thread nD τ).loc main_arg2) (ix2 k d) := by
  blk_ext! [iblk, V, idx t]
/-- Input window 3, entry by entry. -/
theorem read3 (t : Fin cfg0.N) (k : Fin 4096) (d : Fin 3072) : iblk m c 3 t (ix2 k d) = m ((c : Thread nD τ).loc main_arg3) (ix2 k d) := by
  blk_ext! [iblk, V, idx t]
/-- Input window 4, entry by entry. -/
theorem read4 (t : Fin cfg0.N) (d : Fin 3072) : iblk m c 4 t (ix2 (0 : Fin 1) d) = m ((c : Thread nD τ).loc main_arg4) (ix1 d) := by
  blk_ext! [iblk, V, idx t]
/-- Input window 5, entry by entry. -/
theorem read5 (t : Fin cfg0.N) (d : Fin 3072) : iblk m c 5 t (ix2 (0 : Fin 1) d) = m ((c : Thread nD τ).loc main_arg5) (ix1 d) := by
  blk_ext! [iblk, V, idx t]
/-- Input window 6, entry by entry. -/
theorem read6 (t : Fin cfg0.N) (k : Fin 3072) (d : Fin 128) : iblk m c 6 t (ix2 k d) = m ((c : Thread nD τ).loc main_arg6) (ix2 k d) := by
  blk_ext! [iblk, V, idx t]
/-- Input window 7, entry by entry. -/
theorem read7 (t : Fin cfg0.N) (d : Fin 128) : iblk m c 7 t (ix2 (0 : Fin 1) d) = m ((c : Thread nD τ).loc main_arg7) (ix1 d) := by
  blk_ext! [iblk, V, idx t]
/-- Input window 8, entry by entry. -/
theorem read8 (t : Fin cfg0.N) (d : Fin 128) : iblk m c 8 t (ix2 (0 : Fin 1) d) = m ((c : Thread nD τ).loc main_arg8) (ix1 d) := by
  blk_ext! [iblk, V, idx t]

end Cert.KernelIdeal.Reads

end
-- ==== Proof.KernelIdealRows.lean ====
/-
  Hand-written, untrusted. Over the reals, what the compress body computes up to its hidden activations, in closed form:
  the gathered rows of tokens, the two matrix products of a column of the first layer with their scale, bias and silu, and
  the running maximum of the absolute values over the twelve column tiles.
-/
module

public import proofs.«01_k».proof.Proof.KernelIdealValues
public import proofs.«01_k».proof.Proof.RowSpec
public import Idealize.ShloMosaic.Lib.Pointwise
public import Idealize.ShloMosaic.Lib.Pipeline.ValueKit

@[expose] public section

set_option maxRecDepth 16384

noncomputable section

namespace Cert.KernelIdeal.Pure

open Cert.KernelIdeal Cert.KernelIdeal.Gen
open Idealize.ShloMosaic Idealize.ShloMosaic.TcCoe Idealize.SL.Sem

/-- The first row of a strided token load: the grid's second coordinate times the tile's pitch, plus the word's number. -/
theorem off4_eq (i : grid0.Coords) (k : Fin 16) :
    k0_off4 i (BitVec.ofNat 32 k.val) = ![3072 * (i 1).val + k.val, 0, 0] := by
  have h : ∀ (a : Fin 2) (k : Fin 16),
      (![(Scalar.indexCast (Scalar.addi (Scalar.muli (BitVec.ofNat 32 a.val) 3072#32) (BitVec.ofNat 32 k.val)) : Index).toNat, 0, 0]
        : Fin 3 → ℕ) = ![3072 * a.val + k.val, 0, 0] := by decide +kernel
  exact h (i 1) k

variable (i : grid0.Coords) (v16 : View sig .tc .vmem S384x4096 .bf16) (v17 : View sig .tc .vmem S384x3072 .f32)
  (T : S6152x2x128.Idx → Elt Ideal .bf16) (x2 : S32x128.Idx → Elt Ideal .f32) (x3 : S4096x3072.Idx → Elt Ideal .fp8e4m3)
  (x4 : S1x3072.Idx → Elt Ideal .f32) (x5 : S1x3072.Idx → Elt Ideal .f32) (x6 : S3072x128.Idx → Elt Ideal .fp8e4m3)
  (x7 : S1x128.Idx → Elt Ideal .f32) (x8 : S1x128.Idx → Elt Ideal .f32)

/-- Row `r`, column `128 k + d` of the gathered matrix: entry `d` of token `16 r + k` of the tile, plus the position
    embedding of `k`. -/
def rowA (r : Fin 384) (k : Fin 32) (d : Fin 128) : EReal :=
  T (ix3 ⟨3072 * (i 1).val + k.val / 2 + 8 * r.val, by have := (i 1).isLt; change _ < 2 at this; omega⟩ ⟨k.val % 2, by omega⟩ d)
    + x2 (ix2 k d)

/-- The gathered matrix as a whole. -/
def matA : S384x4096.Idx → EReal := fun y =>
  rowA i T x2 (y 0) ⟨(y 1).val / 128, by have := (y 1).isLt; change _ < 4096 at this; omega⟩ ⟨(y 1).val % 128, by omega⟩

/-- A piece of the gathered matrix that holds the columns of one `k` holds the matrix's values. -/
theorem matA_piece (n : Fin 32) (inb) (f : Vec Ideal S384x128 .bf16)
    (h : ∀ (r : Fin 384) (d : Fin 128), f (ix2 r d) = rowA i T x2 r n d)
    (y : (Rect.unit (s := S384x4096) ![0, 128 * n.val] S384x128.size inb).shape.Idx) :
    f y = matA i T x2 ((Rect.unit (s := S384x4096) ![0, 128 * n.val] S384x128.size inb).emb y) := by
  obtain ⟨r, d, rfl⟩ : ∃ (r : Fin 384) (d : Fin 128), y = ix2 r d := ⟨y 0, y 1, by funext a; fin_cases a <;> rfl⟩
  refine (h r d).trans ?_
  show _ = rowA i T x2 _ _ _
  congr 1
  · ext; show _ = 0 + 1 * r.val; omega
  · ext; show _ = (128 * n.val + 1 * d.val) / 128; omega
  · ext; show _ = (128 * n.val + 1 * d.val) % 128; omega

/-- An entry of the tokens, its first row given by the load's offset. -/
theorem rowA_of (n : Fin 32) (r : Fin 384) (d : Fin 128) (o : Fin 3 → ℕ) (ho : o = ![3072 * (i 1).val + n.val / 2, 0, 0])
    (p : ℕ) (hp : p = n.val % 2) (h0 : o 0 + 8 * r.val < 6152) (h1 : o 1 + p < 2) (h2 : o 2 + d.val < 128) :
    (T (ix3 ⟨o 0 + 8 * r.val, h0⟩ ⟨o 1 + p, h1⟩ ⟨o 2 + d.val, h2⟩) : EReal) + x2 (ix2 n d) = rowA i T x2 r n d := by
  subst ho hp
  unfold rowA
  congr 3
  all_goals (ext; simp)

theorem aPiece0_apply (r : Fin 384) (d : Fin 128) :
    (Val.aPiece0 (F := Ideal) i v16 v17 T x2 x3 x4 x5 x6 x7 x8).2 (ix2 r d) = rowA i T x2 r 0 d := by
  pointwise [Val.aPiece0, k0_pay4, k0_pay3, Val.v8_raw, Val.v4]
  exact rowA_of i T x2 0 r d (k0_off4 i 0#32) (off4_eq i 0) 0 rfl _ _ _

theorem aPiece1_apply (r : Fin 384) (d : Fin 128) :
    (Val.aPiece1 (F := Ideal) i v16 v17 T x2 x3 x4 x5 x6 x7 x8).2 (ix2 r d) = rowA i T x2 r 1 d := by
  pointwise [Val.aPiece1, k0_pay5, k0_pay3, Val.v8_raw, Val.v4]
  exact rowA_of i T x2 1 r d (k0_off4 i 0#32) (off4_eq i 0) 1 rfl _ _ _

theorem aPiece2_apply (r : Fin 384) (d : Fin 128) :
    (Val.aPiece2 (F := Ideal) i v16 v17 T x2 x3 x4 x5 x6 x7 x8).2 (ix2 r d) = rowA i T x2 r 2 d := by
  pointwise [Val.aPiece2, k0_pay8, Val.v35, k0_pay7, Val.v31_raw, Val.v5, k0_pay3, Val.v4]
  exact rowA_of i T x2 2 r d (k0_off4 i 1#32) (off4_eq i 1) 0 rfl _ _ _

theorem aPiece3_apply (r : Fin 384) (d : Fin 128) :
    (Val.aPiece3 (F := Ideal) i v16 v17 T x2 x3 x4 x5 x6 x7 x8).2 (ix2 r d) = rowA i T x2 r 3 d := by
  pointwise [Val.aPiece3, k0_pay9, Val.v31_hi, k0_pay6, Val.v31_raw, Val.v5, k0_pay3, Val.v4]
  exact rowA_of i T x2 3 r d (k0_off4 i 1#32) (off4_eq i 1) 1 rfl _ _ _

theorem aPiece4_apply (r : Fin 384) (d : Fin 128) :
    (Val.aPiece4 (F := Ideal) i v16 v17 T x2 x3 x4 x5 x6 x7 x8).2 (ix2 r d) = rowA i T x2 r 4 d := by
  pointwise [Val.aPiece4, k0_pay10, Val.v54_raw, Val.v5, k0_pay3, Val.v4]
  exact rowA_of i T x2 4 r d (k0_off4 i 2#32) (off4_eq i 2) 0 rfl _ _ _

theorem aPiece5_apply (r : Fin 384) (d : Fin 128) :
    (Val.aPiece5 (F := Ideal) i v16 v17 T x2 x3 x4 x5 x6 x7 x8).2 (ix2 r d) = rowA i T x2 r 5 d := by
  pointwise [Val.aPiece5, k0_pay11, Val.v54_raw, Val.v5, k0_pay3, Val.v4]
  exact rowA_of i T x2 5 r d (k0_off4 i 2#32) (off4_eq i 2) 1 rfl _ _ _

theorem aPiece6_apply (r : Fin 384) (d : Fin 128) :
    (Val.aPiece6 (F := Ideal) i v16 v17 T x2 x3 x4 x5 x6 x7 x8).2 (ix2 r d) = rowA i T x2 r 6 d := by
  pointwise [Val.aPiece6, k0_pay14, Val.v77_lo, k0_pay12, Val.v77_raw, Val.v5, k0_pay3, Val.v4]
  exact rowA_of i T x2 6 r d (k0_off4 i 3#32) (off4_eq i 3) 0 rfl _ _ _

theorem aPiece7_apply (r : Fin 384) (d : Fin 128) :
    (Val.aPiece7 (F := Ideal) i v16 v17 T x2 x3 x4 x5 x6 x7 x8).2 (ix2 r d) = rowA i T x2 r 7 d := by
  pointwise [Val.aPiece7, k0_pay15, Val.v77_hi, k0_pay13, Val.v77_raw, Val.v5, k0_pay3, Val.v4]
  exact rowA_of i T x2 7 r d (k0_off4 i 3#32) (off4_eq i 3) 1 rfl _ _ _

theorem aPiece8_apply (r : Fin 384) (d : Fin 128) :
    (Val.aPiece8 (F := Ideal) i v16 v17 T x2 x3 x4 x5 x6 x7 x8).2 (ix2 r d) = rowA i T x2 r 8 d := by
  pointwise [Val.aPiece8, k0_pay16, Val.v100_raw, Val.v5, k0_pay3, Val.v4]
  exact rowA_of i T x2 8 r d (k0_off4 i 4#32) (off4_eq i 4) 0 rfl _ _ _

theorem aPiece9_apply (r : Fin 384) (d : Fin 128) :
    (Val.aPiece9 (F := Ideal) i v16 v17 T x2 x3 x4 x5 x6 x7 x8).2 (ix2 r d) = rowA i T x2 r 9 d := by
  pointwise [Val.aPiece9, k0_pay17, Val.v100_raw, Val.v5, k0_pay3, Val.v4]
  exact rowA_of i T x2 9 r d (k0_off4 i 4#32) (off4_eq i 4) 1 rfl _ _ _

theorem aPiece10_apply (r : Fin 384) (d : Fin 128) :
    (Val.aPiece10 (F := Ideal) i v16 v17 T x2 x3 x4 x5 x6 x7 x8).2 (ix2 r d) = rowA i T x2 r 10 d := by
  pointwise [Val.aPiece10, k0_pay18, Val.v123_raw, Val.v5, k0_pay3, Val.v4]
  exact rowA_of i T x2 10 r d (k0_off4 i 5#32) (off4_eq i 5) 0 rfl _ _ _

theorem aPiece11_apply (r : Fin 384) (d : Fin 128) :
    (Val.aPiece11 (F := Ideal) i v16 v17 T x2 x3 x4 x5 x6 x7 x8).2 (ix2 r d) = rowA i T x2 r 11 d := by
  pointwise [Val.aPiece11, k0_pay19, Val.v123_raw, Val.v5, k0_pay3, Val.v4]
  exact rowA_of i T x2 11 r d (k0_off4 i 5#32) (off4_eq i 5) 1 rfl _ _ _

theorem aPiece12_apply (r : Fin 384) (d : Fin 128) :
    (Val.aPiece12 (F := Ideal) i v16 v17 T x2 x3 x4 x5 x6 x7 x8).2 (ix2 r d) = rowA i T x2 r 12 d := by
  pointwise [Val.aPiece12, k0_pay20, Val.v146_raw, Val.v5, k0_pay3, Val.v4]
  exact rowA_of i T x2 12 r d (k0_off4 i 6#32) (off4_eq i 6) 0 rfl _ _ _

theorem aPiece13_apply (r : Fin 384) (d : Fin 128) :
    (Val.aPiece13 (F := Ideal) i v16 v17 T x2 x3 x4 x5 x6 x7 x8).2 (ix2 r d) = rowA i T x2 r 13 d := by
  pointwise [Val.aPiece13, k0_pay22, Val.v163, k0_pay21, Val.v146_raw, Val.v5, k0_pay3, Val.v4]
  exact rowA_of i T x2 13 r d (k0_off4 i 6#32) (off4_eq i 6) 1 rfl _ _ _

theorem aPiece14_apply (r : Fin 384) (d : Fin 128) :
    (Val.aPiece14 (F := Ideal) i v16 v17 T x2 x3 x4 x5 x6 x7 x8).2 (ix2 r d) = rowA i T x2 r 14 d := by
  pointwise [Val.aPiece14, k0_pay23, Val.v169_raw, Val.v5, k0_pay3, Val.v4]
  exact rowA_of i T x2 14 r d (k0_off4 i 7#32) (off4_eq i 7) 0 rfl _ _ _

theorem aPiece15_apply (r : Fin 384) (d : Fin 128) :
    (Val.aPiece15 (F := Ideal) i v16 v17 T x2 x3 x4 x5 x6 x7 x8).2 (ix2 r d) = rowA i T x2 r 15 d := by
  pointwise [Val.aPiece15, k0_pay24, Val.v169_raw, Val.v5, k0_pay3, Val.v4]
  exact rowA_of i T x2 15 r d (k0_off4 i 7#32) (off4_eq i 7) 1 rfl _ _ _

theorem aPiece16_apply (r : Fin 384) (d : Fin 128) :
    (Val.aPiece16 (F := Ideal) i v16 v17 T x2 x3 x4 x5 x6 x7 x8).2 (ix2 r d) = rowA i T x2 r 16 d := by
  pointwise [Val.aPiece16, k0_pay27, Val.v203, k0_pay26, Val.v192_raw, Val.v5, k0_pay3, Val.v4]
  exact rowA_of i T x2 16 r d (k0_off4 i 8#32) (off4_eq i 8) 0 rfl _ _ _

theorem aPiece17_apply (r : Fin 384) (d : Fin 128) :
    (Val.aPiece17 (F := Ideal) i v16 v17 T x2 x3 x4 x5 x6 x7 x8).2 (ix2 r d) = rowA i T x2 r 17 d := by
  pointwise [Val.aPiece17, k0_pay28, Val.v200, k0_pay25, Val.v192_raw, Val.v5, k0_pay3, Val.v4]
  exact rowA_of i T x2 17 r d (k0_off4 i 8#32) (off4_eq i 8) 1 rfl _ _ _

theorem aPiece18_apply (r : Fin 384) (d : Fin 128) :
    (Val.aPiece18 (F := Ideal) i v16 v17 T x2 x3 x4 x5 x6 x7 x8).2 (ix2 r d) = rowA i T x2 r 18 d := by
  pointwise [Val.aPiece18, k0_pay29, Val.v215_raw, Val.v5, k0_pay3, Val.v4]
  exact rowA_of i T x2 18 r d (k0_off4 i 9#32) (off4_eq i 9) 0 rfl _ _ _

theorem aPiece19_apply (r : Fin 384) (d : Fin 128) :
    (Val.aPiece19 (F := Ideal) i v16 v17 T x2 x3 x4 x5 x6 x7 x8).2 (ix2 r d) = rowA i T x2 r 19 d := by
  pointwise [Val.aPiece19, k0_pay30, Val.v215_raw, Val.v5, k0_pay3, Val.v4]
  exact rowA_of i T x2 19 r d (k0_off4 i 9#32) (off4_eq i 9) 1 rfl _ _ _

theorem aPiece20_apply (r : Fin 384) (d : Fin 128) :
    (Val.aPiece20 (F := Ideal) i v16 v17 T x2 x3 x4 x5 x6 x7 x8).2 (ix2 r d) = rowA i T x2 r 20 d := by
  pointwise [Val.aPiece20, k0_pay34, Val.v247, k0_pay33, Val.v5, k0_pay3, Val.v4, Val.v242, k0_pay31, Val.v238_raw]
  exact rowA_of i T x2 20 r d (k0_off4 i 10#32) (off4_eq i 10) 0 rfl _ _ _

theorem aPiece21_apply (r : Fin 384) (d : Fin 128) :
    (Val.aPiece21 (F := Ideal) i v16 v17 T x2 x3 x4 x5 x6 x7 x8).2 (ix2 r d) = rowA i T x2 r 21 d := by
  pointwise [Val.aPiece21, k0_pay35, Val.v246, k0_pay32, Val.v238_raw, Val.v5, k0_pay3, Val.v4]
  exact rowA_of i T x2 21 r d (k0_off4 i 10#32) (off4_eq i 10) 1 rfl _ _ _

theorem aPiece22_apply (r : Fin 384) (d : Fin 128) :
    (Val.aPiece22 (F := Ideal) i v16 v17 T x2 x3 x4 x5 x6 x7 x8).2 (ix2 r d) = rowA i T x2 r 22 d := by
  pointwise [Val.aPiece22, k0_pay36, Val.v261_raw, Val.v5, k0_pay3, Val.v4]
  exact rowA_of i T x2 22 r d (k0_off4 i 11#32) (off4_eq i 11) 0 rfl _ _ _

theorem aPiece23_apply (r : Fin 384) (d : Fin 128) :
    (Val.aPiece23 (F := Ideal) i v16 v17 T x2 x3 x4 x5 x6 x7 x8).2 (ix2 r d) = rowA i T x2 r 23 d := by
  pointwise [Val.aPiece23, k0_pay37, Val.v261_raw, Val.v5, k0_pay3, Val.v4]
  exact rowA_of i T x2 23 r d (k0_off4 i 11#32) (off4_eq i 11) 1 rfl _ _ _

theorem aPiece24_apply (r : Fin 384) (d : Fin 128) :
    (Val.aPiece24 (F := Ideal) i v16 v17 T x2 x3 x4 x5 x6 x7 x8).2 (ix2 r d) = rowA i T x2 r 24 d := by
  pointwise [Val.aPiece24, k0_pay40, Val.v287, k0_pay39, Val.v284_raw, Val.v5, k0_pay3, Val.v4]
  exact rowA_of i T x2 24 r d (k0_off4 i 12#32) (off4_eq i 12) 0 rfl _ _ _

theorem aPiece25_apply (r : Fin 384) (d : Fin 128) :
    (Val.aPiece25 (F := Ideal) i v16 v17 T x2 x3 x4 x5 x6 x7 x8).2 (ix2 r d) = rowA i T x2 r 25 d := by
  pointwise [Val.aPiece25, k0_pay41, Val.v284_hi, k0_pay38, Val.v284_raw, Val.v5, k0_pay3, Val.v4]
  exact rowA_of i T x2 25 r d (k0_off4 i 12#32) (off4_eq i 12) 1 rfl _ _ _

theorem aPiece26_apply (r : Fin 384) (d : Fin 128) :
    (Val.aPiece26 (F := Ideal) i v16 v17 T x2 x3 x4 x5 x6 x7 x8).2 (ix2 r d) = rowA i T x2 r 26 d := by
  pointwise [Val.aPiece26, k0_pay42, Val.v307_raw, Val.v5, k0_pay3, Val.v4]
  exact rowA_of i T x2 26 r d (k0_off4 i 13#32) (off4_eq i 13) 0 rfl _ _ _

theorem aPiece27_apply (r : Fin 384) (d : Fin 128) :
    (Val.aPiece27 (F := Ideal) i v16 v17 T x2 x3 x4 x5 x6 x7 x8).2 (ix2 r d) = rowA i T x2 r 27 d := by
  pointwise [Val.aPiece27, k0_pay43, Val.v307_raw, Val.v5, k0_pay3, Val.v4]
  exact rowA_of i T x2 27 r d (k0_off4 i 13#32) (off4_eq i 13) 1 rfl _ _ _

theorem aPiece28_apply (r : Fin 384) (d : Fin 128) :
    (Val.aPiece28 (F := Ideal) i v16 v17 T x2 x3 x4 x5 x6 x7 x8).2 (ix2 r d) = rowA i T x2 r 28 d := by
  pointwise [Val.aPiece28, k0_pay44, Val.v330_raw, Val.v5, k0_pay3, Val.v4]
  exact rowA_of i T x2 28 r d (k0_off4 i 14#32) (off4_eq i 14) 0 rfl _ _ _

theorem aPiece29_apply (r : Fin 384) (d : Fin 128) :
    (Val.aPiece29 (F := Ideal) i v16 v17 T x2 x3 x4 x5 x6 x7 x8).2 (ix2 r d) = rowA i T x2 r 29 d := by
  pointwise [Val.aPiece29, k0_pay45, Val.v330_raw, Val.v5, k0_pay3, Val.v4]
  exact rowA_of i T x2 29 r d (k0_off4 i 14#32) (off4_eq i 14) 1 rfl _ _ _

theorem aPiece30_apply (r : Fin 384) (d : Fin 128) :
    (Val.aPiece30 (F := Ideal) i v16 v17 T x2 x3 x4 x5 x6 x7 x8).2 (ix2 r d) = rowA i T x2 r 30 d := by
  pointwise [Val.aPiece30, k0_pay46, Val.v353_raw, Val.v5, k0_pay3, Val.v4]
  exact rowA_of i T x2 30 r d (k0_off4 i 15#32) (off4_eq i 15) 0 rfl _ _ _

theorem aPiece31_apply (r : Fin 384) (d : Fin 128) :
    (Val.aPiece31 (F := Ideal) i v16 v17 T x2 x3 x4 x5 x6 x7 x8).2 (ix2 r d) = rowA i T x2 r 31 d := by
  pointwise [Val.aPiece31, k0_pay48, Val.v370, k0_pay47, Val.v353_raw, Val.v5, k0_pay3, Val.v4]
  exact rowA_of i T x2 31 r d (k0_off4 i 15#32) (off4_eq i 15) 1 rfl _ _ _

/-- The first half of the columns of the gathered matrix, and the second. -/
def aLo : Vec Ideal S384x2048 .bf16 := fun y => matA i T x2 (ix2 (y 0) ⟨(y 1).val, by have := (y 1).isLt; change _ < 2048 at this; omega⟩)
@[inherit_doc aLo]
def aHi : Vec Ideal S384x2048 .bf16 :=
  fun y => matA i T x2 (ix2 (y 0) ⟨2048 + (y 1).val, by have := (y 1).isLt; change _ < 2048 at this; omega⟩)

/-- What the pieces stored into the gathered scratch leave in it. -/
theorem aPieces_canon (y : S384x4096.Idx) : View.canon (Val.aPieces (F := Ideal) i v16 v17 T x2 x3 x4 x5 x6 x7 x8) y = matA i T x2 y := by
  refine View.canon_apply_of_pieces (matA i T x2) _ ?_ y (View.cover_of_tiledL (Val.aPieces (F := Ideal) i v16 v17 T x2 x3 x4 x5 x6 x7 x8) ![384, 128] (by rfl) y)
  intro p hp
  unfold Val.aPieces at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl

  · exact matA_piece i T x2 31 inb_S384x4096_S384x128_0_3968 _ (aPiece31_apply i v16 v17 T x2 x3 x4 x5 x6 x7 x8)
  · exact matA_piece i T x2 30 inb_S384x4096_S384x128_0_3840 _ (aPiece30_apply i v16 v17 T x2 x3 x4 x5 x6 x7 x8)
  · exact matA_piece i T x2 29 inb_S384x4096_S384x128_0_3712 _ (aPiece29_apply i v16 v17 T x2 x3 x4 x5 x6 x7 x8)
  · exact matA_piece i T x2 28 inb_S384x4096_S384x128_0_3584 _ (aPiece28_apply i v16 v17 T x2 x3 x4 x5 x6 x7 x8)
  · exact matA_piece i T x2 27 inb_S384x4096_S384x128_0_3456 _ (aPiece27_apply i v16 v17 T x2 x3 x4 x5 x6 x7 x8)
  · exact matA_piece i T x2 26 inb_S384x4096_S384x128_0_3328 _ (aPiece26_apply i v16 v17 T x2 x3 x4 x5 x6 x7 x8)
  · exact matA_piece i T x2 25 inb_S384x4096_S384x128_0_3200 _ (aPiece25_apply i v16 v17 T x2 x3 x4 x5 x6 x7 x8)
  · exact matA_piece i T x2 24 inb_S384x4096_S384x128_0_3072 _ (aPiece24_apply i v16 v17 T x2 x3 x4 x5 x6 x7 x8)
  · exact matA_piece i T x2 23 inb_S384x4096_S384x128_0_2944 _ (aPiece23_apply i v16 v17 T x2 x3 x4 x5 x6 x7 x8)
  · exact matA_piece i T x2 22 inb_S384x4096_S384x128_0_2816 _ (aPiece22_apply i v16 v17 T x2 x3 x4 x5 x6 x7 x8)
  · exact matA_piece i T x2 21 inb_S384x4096_S384x128_0_2688 _ (aPiece21_apply i v16 v17 T x2 x3 x4 x5 x6 x7 x8)
  · exact matA_piece i T x2 20 inb_S384x4096_S384x128_0_2560 _ (aPiece20_apply i v16 v17 T x2 x3 x4 x5 x6 x7 x8)
  · exact matA_piece i T x2 19 inb_S384x4096_S384x128_0_2432 _ (aPiece19_apply i v16 v17 T x2 x3 x4 x5 x6 x7 x8)
  · exact matA_piece i T x2 18 inb_S384x4096_S384x128_0_2304 _ (aPiece18_apply i v16 v17 T x2 x3 x4 x5 x6 x7 x8)
  · exact matA_piece i T x2 17 inb_S384x4096_S384x128_0_2176 _ (aPiece17_apply i v16 v17 T x2 x3 x4 x5 x6 x7 x8)
  · exact matA_piece i T x2 16 inb_S384x4096_S384x128_0_2048 _ (aPiece16_apply i v16 v17 T x2 x3 x4 x5 x6 x7 x8)
  · exact matA_piece i T x2 15 inb_S384x4096_S384x128_0_1920 _ (aPiece15_apply i v16 v17 T x2 x3 x4 x5 x6 x7 x8)
  · exact matA_piece i T x2 14 inb_S384x4096_S384x128_0_1792 _ (aPiece14_apply i v16 v17 T x2 x3 x4 x5 x6 x7 x8)
  · exact matA_piece i T x2 13 inb_S384x4096_S384x128_0_1664 _ (aPiece13_apply i v16 v17 T x2 x3 x4 x5 x6 x7 x8)
  · exact matA_piece i T x2 12 inb_S384x4096_S384x128_0_1536 _ (aPiece12_apply i v16 v17 T x2 x3 x4 x5 x6 x7 x8)
  · exact matA_piece i T x2 11 inb_S384x4096_S384x128_0_1408 _ (aPiece11_apply i v16 v17 T x2 x3 x4 x5 x6 x7 x8)
  · exact matA_piece i T x2 10 inb_S384x4096_S384x128_0_1280 _ (aPiece10_apply i v16 v17 T x2 x3 x4 x5 x6 x7 x8)
  · exact matA_piece i T x2 9 inb_S384x4096_S384x128_0_1152 _ (aPiece9_apply i v16 v17 T x2 x3 x4 x5 x6 x7 x8)
  · exact matA_piece i T x2 8 inb_S384x4096_S384x128_0_1024 _ (aPiece8_apply i v16 v17 T x2 x3 x4 x5 x6 x7 x8)
  · exact matA_piece i T x2 7 inb_S384x4096_S384x128_0_896 _ (aPiece7_apply i v16 v17 T x2 x3 x4 x5 x6 x7 x8)
  · exact matA_piece i T x2 6 inb_S384x4096_S384x128_0_768 _ (aPiece6_apply i v16 v17 T x2 x3 x4 x5 x6 x7 x8)
  · exact matA_piece i T x2 5 inb_S384x4096_S384x128_0_640 _ (aPiece5_apply i v16 v17 T x2 x3 x4 x5 x6 x7 x8)
  · exact matA_piece i T x2 4 inb_S384x4096_S384x128_0_512 _ (aPiece4_apply i v16 v17 T x2 x3 x4 x5 x6 x7 x8)
  · exact matA_piece i T x2 3 inb_S384x4096_S384x128_0_384 _ (aPiece3_apply i v16 v17 T x2 x3 x4 x5 x6 x7 x8)
  · exact matA_piece i T x2 2 inb_S384x4096_S384x128_0_256 _ (aPiece2_apply i v16 v17 T x2 x3 x4 x5 x6 x7 x8)
  · exact matA_piece i T x2 1 inb_S384x4096_S384x128_0_128 _ (aPiece1_apply i v16 v17 T x2 x3 x4 x5 x6 x7 x8)
  · exact matA_piece i T x2 0 inb_S384x4096_S384x128_0_0 _ (aPiece0_apply i v16 v17 T x2 x3 x4 x5 x6 x7 x8)

/-- The two loads of the gathered scratch. -/
theorem load_lo : v16.readCov (Val.aPieces (F := Ideal) i v16 v17 T x2 x3 x4 x5 x6 x7 x8)
    (Rect.unit (s := S384x4096) ![0, 0] S384x2048.size inb_S384x4096_S384x2048_0_0).toLoadRect = aLo i T x2 := by
  rw [View.readCov_eq_canon']
  funext y
  rw [aPieces_canon]
  unfold aLo
  congr 1
  funext a; fin_cases a
  · ext; show 0 + 1 * (y 0).val = _; simp
  · ext; show 0 + 1 * (y 1).val = _; simp
@[inherit_doc load_lo]
theorem load_hi : v16.readCov (Val.aPieces (F := Ideal) i v16 v17 T x2 x3 x4 x5 x6 x7 x8)
    (Rect.unit (s := S384x4096) ![0, 2048] S384x2048.size inb_S384x4096_S384x2048_0_2048).toLoadRect = aHi i T x2 := by
  rw [View.readCov_eq_canon']
  funext y
  rw [aPieces_canon]
  unfold aHi
  congr 1
  funext a; fin_cases a
  · ext; show 0 + 1 * (y 0).val = _; simp
  · ext; show 2048 + 1 * (y 1).val = _; simp

/-- The first layer of row `r` of the tile. -/
def hid (r : Fin 384) (j : Fin 3072) : EReal :=
  RowSpec.hid (fun κ => matA i T x2 (ix2 r κ)) (fun κ j => x3 (ix2 κ j)) (fun j => x4 (ix2 0 j)) (fun j => x5 (ix2 0 j)) j

/-- The program's own form of a column tile, at one entry. -/
theorem pay49_apply (a1 : Vec Ideal S384x2048 .bf16) (w1 : Vec Ideal S2048x256 .fp8e4m3) (a2 : Vec Ideal S384x2048 .bf16)
    (w2 : Vec Ideal S2048x256 .fp8e4m3) (s b : Vec Ideal S1x256 .f32) (r : Fin 384) (d : Fin 256) :
    k0_pay49 (F := Ideal) a1 w1 a2 w2 s b (ix2 r d)
      = (((∑ x, a1 (ix2 r x) * w1 (ix2 x d)) + ∑ x, a2 (ix2 r x) * w2 (ix2 x d)) * s (ix2 0 d) + b (ix2 0 d))
        * Ideal.div 1 (1 + Ideal.exp (0 - (((∑ x, a1 (ix2 r x) * w1 (ix2 x d)) + ∑ x, a2 (ix2 r x) * w2 (ix2 x d)) * s (ix2 0 d) + b (ix2 0 d)))) := by
  pointwise [k0_pay49]

/-- A load at one entry: the block at the load's offset plus the entry's place. -/
theorem ld_apply {e : EltTy} {m n : ℕ} (x : (⟨2, ![m, n]⟩ : Shape).Idx → Elt Ideal e) (R : Rect (⟨2, ![m, n]⟩ : Shape))
    (y : R.shape.Idx) (r : Fin m) (d : Fin n) (hr : (R.idx y 0).val = r.val) (hd : (R.idx y 1).val = d.val) :
    View.ld x R y = x (ix2 r d) := by
  show x (R.idx y) = _
  congr 1
  funext a; fin_cases a
  · exact Fin.ext hr
  · exact Fin.ext hd

/-- The tile's entry from its operands' entries. -/
theorem hid_of (n : Fin 12) (r : Fin 384) (d : Fin 256) (w1 w2 : Fin 2048 → EReal) (s b : EReal)
    (h1 : ∀ κ : Fin 2048, w1 κ = x3 (ix2 ⟨κ.val, by omega⟩ ⟨256 * n.val + d.val, by omega⟩))
    (h2 : ∀ κ : Fin 2048, w2 κ = x3 (ix2 ⟨2048 + κ.val, by omega⟩ ⟨256 * n.val + d.val, by omega⟩))
    (hs : s = x4 (ix2 0 ⟨256 * n.val + d.val, by omega⟩)) (hb : b = x5 (ix2 0 ⟨256 * n.val + d.val, by omega⟩)) :
    (((∑ x, aLo i T x2 (ix2 r x) * w1 x) + ∑ x, aHi i T x2 (ix2 r x) * w2 x) * s + b)
        * Ideal.div 1 (1 + Ideal.exp (0 - (((∑ x, aLo i T x2 (ix2 r x) * w1 x) + ∑ x, aHi i T x2 (ix2 r x) * w2 x) * s + b)))
      = hid i T x2 x3 x4 x5 r ⟨256 * n.val + d.val, by omega⟩ := by
  obtain rfl : w1 = _ := funext h1
  obtain rfl : w2 = _ := funext h2
  subst hs hb
  rfl

/-- Column tile 0 of the first layer. -/
theorem tile0_apply (r : Fin 384) (d : Fin 256) :
    (k0_pay49 (Val.v375 (F := Ideal) i v16 v17 T x2 x3 x4 x5 x6 x7 x8) (Val.v376 (F := Ideal) i v16 v17 T x2 x3 x4 x5 x6 x7 x8) (Val.v378 (F := Ideal) i v16 v17 T x2 x3 x4 x5 x6 x7 x8) (Val.v379 (F := Ideal) i v16 v17 T x2 x3 x4 x5 x6 x7 x8) (Val.v382 (F := Ideal) i v16 v17 T x2 x3 x4 x5 x6 x7 x8) (Val.v386 (F := Ideal) i v16 v17 T x2 x3 x4 x5 x6 x7 x8)) (ix2 r d) = hid i T x2 x3 x4 x5 r ⟨0 + d.val, by omega⟩ := by
  have h : k0_pay49 (Val.v375 (F := Ideal) i v16 v17 T x2 x3 x4 x5 x6 x7 x8) (Val.v376 (F := Ideal) i v16 v17 T x2 x3 x4 x5 x6 x7 x8) (Val.v378 (F := Ideal) i v16 v17 T x2 x3 x4 x5 x6 x7 x8) (Val.v379 (F := Ideal) i v16 v17 T x2 x3 x4 x5 x6 x7 x8) (Val.v382 (F := Ideal) i v16 v17 T x2 x3 x4 x5 x6 x7 x8) (Val.v386 (F := Ideal) i v16 v17 T x2 x3 x4 x5 x6 x7 x8) = k0_pay49 (F := Ideal) (Val.v375 i v16 v17 T x2 x3 x4 x5 x6 x7 x8) (Val.v376 i v16 v17 T x2 x3 x4 x5 x6 x7 x8) (Val.v378 i v16 v17 T x2 x3 x4 x5 x6 x7 x8) (Val.v379 i v16 v17 T x2 x3 x4 x5 x6 x7 x8) (Val.v382 i v16 v17 T x2 x3 x4 x5 x6 x7 x8) (Val.v386 i v16 v17 T x2 x3 x4 x5 x6 x7 x8) := rfl
  have e1 : Val.v375 (F := Ideal) i v16 v17 T x2 x3 x4 x5 x6 x7 x8 = aLo i T x2 := load_lo i v16 v17 T x2 x3 x4 x5 x6 x7 x8
  have e2 : Val.v378 (F := Ideal) i v16 v17 T x2 x3 x4 x5 x6 x7 x8 = aHi i T x2 := load_hi i v16 v17 T x2 x3 x4 x5 x6 x7 x8
  rw [h, e1, e2, pay49_apply]
  exact hid_of i T x2 x3 x4 x5 0 r d _ _ _ _ (fun κ => ld_apply x3 _ _ _ _ (show 0 + 1 * κ.val = κ.val by omega) (show 0 + 1 * d.val = 256 * 0 + d.val by omega))
    (fun κ => ld_apply x3 _ _ _ _ (show 2048 + 1 * κ.val = 2048 + κ.val by omega) (show 0 + 1 * d.val = 256 * 0 + d.val by omega))
    (ld_apply x4 _ _ _ _ rfl (show 0 + 1 * d.val = 256 * 0 + d.val by omega)) (ld_apply x5 _ _ _ _ rfl (show 0 + 1 * d.val = 256 * 0 + d.val by omega))

/-- Column tile 1 of the first layer. -/
theorem tile1_apply (r : Fin 384) (d : Fin 256) :
    (k0_pay52 (Val.v407 (F := Ideal) i v16 v17 T x2 x3 x4 x5 x6 x7 x8) (Val.v408 (F := Ideal) i v16 v17 T x2 x3 x4 x5 x6 x7 x8) (Val.v410 (F := Ideal) i v16 v17 T x2 x3 x4 x5 x6 x7 x8) (Val.v411 (F := Ideal) i v16 v17 T x2 x3 x4 x5 x6 x7 x8) (Val.v414 (F := Ideal) i v16 v17 T x2 x3 x4 x5 x6 x7 x8) (Val.v418 (F := Ideal) i v16 v17 T x2 x3 x4 x5 x6 x7 x8)) (ix2 r d) = hid i T x2 x3 x4 x5 r ⟨256 + d.val, by omega⟩ := by
  have h : k0_pay52 (Val.v407 (F := Ideal) i v16 v17 T x2 x3 x4 x5 x6 x7 x8) (Val.v408 (F := Ideal) i v16 v17 T x2 x3 x4 x5 x6 x7 x8) (Val.v410 (F := Ideal) i v16 v17 T x2 x3 x4 x5 x6 x7 x8) (Val.v411 (F := Ideal) i v16 v17 T x2 x3 x4 x5 x6 x7 x8) (Val.v414 (F := Ideal) i v16 v17 T x2 x3 x4 x5 x6 x7 x8) (Val.v418 (F := Ideal) i v16 v17 T x2 x3 x4 x5 x6 x7 x8) = k0_pay49 (F := Ideal) (Val.v407 i v16 v17 T x2 x3 x4 x5 x6 x7 x8) (Val.v408 i v16 v17 T x2 x3 x4 x5 x6 x7 x8) (Val.v410 i v16 v17 T x2 x3 x4 x5 x6 x7 x8) (Val.v411 i v16 v17 T x2 x3 x4 x5 x6 x7 x8) (Val.v414 i v16 v17 T x2 x3 x4 x5 x6 x7 x8) (Val.v418 i v16 v17 T x2 x3 x4 x5 x6 x7 x8) := rfl
  have e1 : Val.v407 (F := Ideal) i v16 v17 T x2 x3 x4 x5 x6 x7 x8 = aLo i T x2 := load_lo i v16 v17 T x2 x3 x4 x5 x6 x7 x8
  have e2 : Val.v410 (F := Ideal) i v16 v17 T x2 x3 x4 x5 x6 x7 x8 = aHi i T x2 := load_hi i v16 v17 T x2 x3 x4 x5 x6 x7 x8
  rw [h, e1, e2, pay49_apply]
  exact hid_of i T x2 x3 x4 x5 1 r d _ _ _ _ (fun κ => ld_apply x3 _ _ _ _ (show 0 + 1 * κ.val = κ.val by omega) (show 256 + 1 * d.val = 256 * 1 + d.val by omega))
    (fun κ => ld_apply x3 _ _ _ _ (show 2048 + 1 * κ.val = 2048 + κ.val by omega) (show 256 + 1 * d.val = 256 * 1 + d.val by omega))
    (ld_apply x4 _ _ _ _ rfl (show 256 + 1 * d.val = 256 * 1 + d.val by omega)) (ld_apply x5 _ _ _ _ rfl (show 256 + 1 * d.val = 256 * 1 + d.val by omega))

/-- Column tile 2 of the first layer. -/
theorem tile2_apply (r : Fin 384) (d : Fin 256) :
    (k0_pay56 (Val.v441 (F := Ideal) i v16 v17 T x2 x3 x4 x5 x6 x7 x8) (Val.v442 (F := Ideal) i v16 v17 T x2 x3 x4 x5 x6 x7 x8) (Val.v443 (F := Ideal) i v16 v17 T x2 x3 x4 x5 x6 x7 x8) (Val.v446 (F := Ideal) i v16 v17 T x2 x3 x4 x5 x6 x7 x8) (Val.v450 (F := Ideal) i v16 v17 T x2 x3 x4 x5 x6 x7 x8)) (ix2 r d) = hid i T x2 x3 x4 x5 r ⟨512 + d.val, by omega⟩ := by
  have h : k0_pay56 (Val.v441 (F := Ideal) i v16 v17 T x2 x3 x4 x5 x6 x7 x8) (Val.v442 (F := Ideal) i v16 v17 T x2 x3 x4 x5 x6 x7 x8) (Val.v443 (F := Ideal) i v16 v17 T x2 x3 x4 x5 x6 x7 x8) (Val.v446 (F := Ideal) i v16 v17 T x2 x3 x4 x5 x6 x7 x8) (Val.v450 (F := Ideal) i v16 v17 T x2 x3 x4 x5 x6 x7 x8) = k0_pay49 (F := Ideal) (Val.v439 i v16 v17 T x2 x3 x4 x5 x6 x7 x8) (Val.v440 i v16 v17 T x2 x3 x4 x5 x6 x7 x8) (Val.v442 i v16 v17 T x2 x3 x4 x5 x6 x7 x8) (Val.v443 i v16 v17 T x2 x3 x4 x5 x6 x7 x8) (Val.v446 i v16 v17 T x2 x3 x4 x5 x6 x7 x8) (Val.v450 i v16 v17 T x2 x3 x4 x5 x6 x7 x8) := rfl
  have e1 : Val.v439 (F := Ideal) i v16 v17 T x2 x3 x4 x5 x6 x7 x8 = aLo i T x2 := load_lo i v16 v17 T x2 x3 x4 x5 x6 x7 x8
  have e2 : Val.v442 (F := Ideal) i v16 v17 T x2 x3 x4 x5 x6 x7 x8 = aHi i T x2 := load_hi i v16 v17 T x2 x3 x4 x5 x6 x7 x8
  rw [h, e1, e2, pay49_apply]
  exact hid_of i T x2 x3 x4 x5 2 r d _ _ _ _ (fun κ => ld_apply x3 _ _ _ _ (show 0 + 1 * κ.val = κ.val by omega) (show 512 + 1 * d.val = 256 * 2 + d.val by omega))
    (fun κ => ld_apply x3 _ _ _ _ (show 2048 + 1 * κ.val = 2048 + κ.val by omega) (show 512 + 1 * d.val = 256 * 2 + d.val by omega))
    (ld_apply x4 _ _ _ _ rfl (show 512 + 1 * d.val = 256 * 2 + d.val by omega)) (ld_apply x5 _ _ _ _ rfl (show 512 + 1 * d.val = 256 * 2 + d.val by omega))

/-- Column tile 3 of the first layer. -/
theorem tile3_apply (r : Fin 384) (d : Fin 256) :
    (k0_pay60 (Val.v477 (F := Ideal) i v16 v17 T x2 x3 x4 x5 x6 x7 x8) (Val.v478 (F := Ideal) i v16 v17 T x2 x3 x4 x5 x6 x7 x8) (Val.v482 (F := Ideal) i v16 v17 T x2 x3 x4 x5 x6 x7 x8)) (ix2 r d) = hid i T x2 x3 x4 x5 r ⟨768 + d.val, by omega⟩ := by
  have h : k0_pay60 (Val.v477 (F := Ideal) i v16 v17 T x2 x3 x4 x5 x6 x7 x8) (Val.v478 (F := Ideal) i v16 v17 T x2 x3 x4 x5 x6 x7 x8) (Val.v482 (F := Ideal) i v16 v17 T x2 x3 x4 x5 x6 x7 x8) = k0_pay49 (F := Ideal) (Val.v471 i v16 v17 T x2 x3 x4 x5 x6 x7 x8) (Val.v472 i v16 v17 T x2 x3 x4 x5 x6 x7 x8) (Val.v474 i v16 v17 T x2 x3 x4 x5 x6 x7 x8) (Val.v475 i v16 v17 T x2 x3 x4 x5 x6 x7 x8) (Val.v478 i v16 v17 T x2 x3 x4 x5 x6 x7 x8) (Val.v482 i v16 v17 T x2 x3 x4 x5 x6 x7 x8) := rfl
  have e1 : Val.v471 (F := Ideal) i v16 v17 T x2 x3 x4 x5 x6 x7 x8 = aLo i T x2 := load_lo i v16 v17 T x2 x3 x4 x5 x6 x7 x8
  have e2 : Val.v474 (F := Ideal) i v16 v17 T x2 x3 x4 x5 x6 x7 x8 = aHi i T x2 := load_hi i v16 v17 T x2 x3 x4 x5 x6 x7 x8
  rw [h, e1, e2, pay49_apply]
  exact hid_of i T x2 x3 x4 x5 3 r d _ _ _ _ (fun κ => ld_apply x3 _ _ _ _ (show 0 + 1 * κ.val = κ.val by omega) (show 768 + 1 * d.val = 256 * 3 + d.val by omega))
    (fun κ => ld_apply x3 _ _ _ _ (show 2048 + 1 * κ.val = 2048 + κ.val by omega) (show 768 + 1 * d.val = 256 * 3 + d.val by omega))
    (ld_apply x4 _ _ _ _ rfl (show 768 + 1 * d.val = 256 * 3 + d.val by omega)) (ld_apply x5 _ _ _ _ rfl (show 768 + 1 * d.val = 256 * 3 + d.val by omega))

/-- Column tile 4 of the first layer. -/
theorem tile4_apply (r : Fin 384) (d : Fin 256) :
    (k0_pay65 (Val.v513 (F := Ideal) i v16 v17 T x2 x3 x4 x5 x6 x7 x8) (Val.v516 (F := Ideal) i v16 v17 T x2 x3 x4 x5 x6 x7 x8)) (ix2 r d) = hid i T x2 x3 x4 x5 r ⟨1024 + d.val, by omega⟩ := by
  have h : k0_pay65 (Val.v513 (F := Ideal) i v16 v17 T x2 x3 x4 x5 x6 x7 x8) (Val.v516 (F := Ideal) i v16 v17 T x2 x3 x4 x5 x6 x7 x8) = k0_pay49 (F := Ideal) (Val.v503 i v16 v17 T x2 x3 x4 x5 x6 x7 x8) (Val.v504 i v16 v17 T x2 x3 x4 x5 x6 x7 x8) (Val.v506 i v16 v17 T x2 x3 x4 x5 x6 x7 x8) (Val.v507 i v16 v17 T x2 x3 x4 x5 x6 x7 x8) (Val.v510 i v16 v17 T x2 x3 x4 x5 x6 x7 x8) (Val.v514 i v16 v17 T x2 x3 x4 x5 x6 x7 x8) := rfl
  have e1 : Val.v503 (F := Ideal) i v16 v17 T x2 x3 x4 x5 x6 x7 x8 = aLo i T x2 := load_lo i v16 v17 T x2 x3 x4 x5 x6 x7 x8
  have e2 : Val.v506 (F := Ideal) i v16 v17 T x2 x3 x4 x5 x6 x7 x8 = aHi i T x2 := load_hi i v16 v17 T x2 x3 x4 x5 x6 x7 x8
  rw [h, e1, e2, pay49_apply]
  exact hid_of i T x2 x3 x4 x5 4 r d _ _ _ _ (fun κ => ld_apply x3 _ _ _ _ (show 0 + 1 * κ.val = κ.val by omega) (show 1024 + 1 * d.val = 256 * 4 + d.val by omega))
    (fun κ => ld_apply x3 _ _ _ _ (show 2048 + 1 * κ.val = 2048 + κ.val by omega) (show 1024 + 1 * d.val = 256 * 4 + d.val by omega))
    (ld_apply x4 _ _ _ _ rfl (show 1024 + 1 * d.val = 256 * 4 + d.val by omega)) (ld_apply x5 _ _ _ _ rfl (show 1024 + 1 * d.val = 256 * 4 + d.val by omega))

/-- Column tile 5 of the first layer. -/
theorem tile5_apply (r : Fin 384) (d : Fin 256) :
    (k0_pay70 (Val.v549 (F := Ideal) i v16 v17 T x2 x3 x4 x5 x6 x7 x8) (Val.v554 (F := Ideal) i v16 v17 T x2 x3 x4 x5 x6 x7 x8)) (ix2 r d) = hid i T x2 x3 x4 x5 r ⟨1280 + d.val, by omega⟩ := by
  have h : k0_pay70 (Val.v549 (F := Ideal) i v16 v17 T x2 x3 x4 x5 x6 x7 x8) (Val.v554 (F := Ideal) i v16 v17 T x2 x3 x4 x5 x6 x7 x8) = k0_pay49 (F := Ideal) (Val.v535 i v16 v17 T x2 x3 x4 x5 x6 x7 x8) (Val.v536 i v16 v17 T x2 x3 x4 x5 x6 x7 x8) (Val.v538 i v16 v17 T x2 x3 x4 x5 x6 x7 x8) (Val.v539 i v16 v17 T x2 x3 x4 x5 x6 x7 x8) (Val.v542 i v16 v17 T x2 x3 x4 x5 x6 x7 x8) (Val.v546 i v16 v17 T x2 x3 x4 x5 x6 x7 x8) := rfl
  have e1 : Val.v535 (F := Ideal) i v16 v17 T x2 x3 x4 x5 x6 x7 x8 = aLo i T x2 := load_lo i v16 v17 T x2 x3 x4 x5 x6 x7 x8
  have e2 : Val.v538 (F := Ideal) i v16 v17 T x2 x3 x4 x5 x6 x7 x8 = aHi i T x2 := load_hi i v16 v17 T x2 x3 x4 x5 x6 x7 x8
  rw [h, e1, e2, pay49_apply]
  exact hid_of i T x2 x3 x4 x5 5 r d _ _ _ _ (fun κ => ld_apply x3 _ _ _ _ (show 0 + 1 * κ.val = κ.val by omega) (show 1280 + 1 * d.val = 256 * 5 + d.val by omega))
    (fun κ => ld_apply x3 _ _ _ _ (show 2048 + 1 * κ.val = 2048 + κ.val by omega) (show 1280 + 1 * d.val = 256 * 5 + d.val by omega))
    (ld_apply x4 _ _ _ _ rfl (show 1280 + 1 * d.val = 256 * 5 + d.val by omega)) (ld_apply x5 _ _ _ _ rfl (show 1280 + 1 * d.val = 256 * 5 + d.val by omega))

/-- Column tile 6 of the first layer. -/
theorem tile6_apply (r : Fin 384) (d : Fin 256) :
    (Val.v589 (F := Ideal) i v16 v17 T x2 x3 x4 x5 x6 x7 x8) (ix2 r d) = hid i T x2 x3 x4 x5 r ⟨1536 + d.val, by omega⟩ := by
  have h : Val.v589 (F := Ideal) i v16 v17 T x2 x3 x4 x5 x6 x7 x8 = k0_pay49 (F := Ideal) (Val.v567 i v16 v17 T x2 x3 x4 x5 x6 x7 x8) (Val.v568 i v16 v17 T x2 x3 x4 x5 x6 x7 x8) (Val.v570 i v16 v17 T x2 x3 x4 x5 x6 x7 x8) (Val.v571 i v16 v17 T x2 x3 x4 x5 x6 x7 x8) (Val.v574 i v16 v17 T x2 x3 x4 x5 x6 x7 x8) (Val.v578 i v16 v17 T x2 x3 x4 x5 x6 x7 x8) := rfl
  have e1 : Val.v567 (F := Ideal) i v16 v17 T x2 x3 x4 x5 x6 x7 x8 = aLo i T x2 := load_lo i v16 v17 T x2 x3 x4 x5 x6 x7 x8
  have e2 : Val.v570 (F := Ideal) i v16 v17 T x2 x3 x4 x5 x6 x7 x8 = aHi i T x2 := load_hi i v16 v17 T x2 x3 x4 x5 x6 x7 x8
  rw [h, e1, e2, pay49_apply]
  exact hid_of i T x2 x3 x4 x5 6 r d _ _ _ _ (fun κ => ld_apply x3 _ _ _ _ (show 0 + 1 * κ.val = κ.val by omega) (show 1536 + 1 * d.val = 256 * 6 + d.val by omega))
    (fun κ => ld_apply x3 _ _ _ _ (show 2048 + 1 * κ.val = 2048 + κ.val by omega) (show 1536 + 1 * d.val = 256 * 6 + d.val by omega))
    (ld_apply x4 _ _ _ _ rfl (show 1536 + 1 * d.val = 256 * 6 + d.val by omega)) (ld_apply x5 _ _ _ _ rfl (show 1536 + 1 * d.val = 256 * 6 + d.val by omega))

/-- Column tile 7 of the first layer. -/
theorem tile7_apply (r : Fin 384) (d : Fin 256) :
    (k0_pay75 (Val.v599 (F := Ideal) i v16 v17 T x2 x3 x4 x5 x6 x7 x8) (Val.v600 (F := Ideal) i v16 v17 T x2 x3 x4 x5 x6 x7 x8) (Val.v602 (F := Ideal) i v16 v17 T x2 x3 x4 x5 x6 x7 x8) (Val.v603 (F := Ideal) i v16 v17 T x2 x3 x4 x5 x6 x7 x8) (Val.v606 (F := Ideal) i v16 v17 T x2 x3 x4 x5 x6 x7 x8) (Val.v610 (F := Ideal) i v16 v17 T x2 x3 x4 x5 x6 x7 x8)) (ix2 r d) = hid i T x2 x3 x4 x5 r ⟨1792 + d.val, by omega⟩ := by
  have h : k0_pay75 (Val.v599 (F := Ideal) i v16 v17 T x2 x3 x4 x5 x6 x7 x8) (Val.v600 (F := Ideal) i v16 v17 T x2 x3 x4 x5 x6 x7 x8) (Val.v602 (F := Ideal) i v16 v17 T x2 x3 x4 x5 x6 x7 x8) (Val.v603 (F := Ideal) i v16 v17 T x2 x3 x4 x5 x6 x7 x8) (Val.v606 (F := Ideal) i v16 v17 T x2 x3 x4 x5 x6 x7 x8) (Val.v610 (F := Ideal) i v16 v17 T x2 x3 x4 x5 x6 x7 x8) = k0_pay49 (F := Ideal) (Val.v599 i v16 v17 T x2 x3 x4 x5 x6 x7 x8) (Val.v600 i v16 v17 T x2 x3 x4 x5 x6 x7 x8) (Val.v602 i v16 v17 T x2 x3 x4 x5 x6 x7 x8) (Val.v603 i v16 v17 T x2 x3 x4 x5 x6 x7 x8) (Val.v606 i v16 v17 T x2 x3 x4 x5 x6 x7 x8) (Val.v610 i v16 v17 T x2 x3 x4 x5 x6 x7 x8) := rfl
  have e1 : Val.v599 (F := Ideal) i v16 v17 T x2 x3 x4 x5 x6 x7 x8 = aLo i T x2 := load_lo i v16 v17 T x2 x3 x4 x5 x6 x7 x8
  have e2 : Val.v602 (F := Ideal) i v16 v17 T x2 x3 x4 x5 x6 x7 x8 = aHi i T x2 := load_hi i v16 v17 T x2 x3 x4 x5 x6 x7 x8
  rw [h, e1, e2, pay49_apply]
  exact hid_of i T x2 x3 x4 x5 7 r d _ _ _ _ (fun κ => ld_apply x3 _ _ _ _ (show 0 + 1 * κ.val = κ.val by omega) (show 1792 + 1 * d.val = 256 * 7 + d.val by omega))
    (fun κ => ld_apply x3 _ _ _ _ (show 2048 + 1 * κ.val = 2048 + κ.val by omega) (show 1792 + 1 * d.val = 256 * 7 + d.val by omega))
    (ld_apply x4 _ _ _ _ rfl (show 1792 + 1 * d.val = 256 * 7 + d.val by omega)) (ld_apply x5 _ _ _ _ rfl (show 1792 + 1 * d.val = 256 * 7 + d.val by omega))

/-- Column tile 8 of the first layer. -/
theorem tile8_apply (r : Fin 384) (d : Fin 256) :
    (k0_pay78 (Val.v631 (F := Ideal) i v16 v17 T x2 x3 x4 x5 x6 x7 x8) (Val.v632 (F := Ideal) i v16 v17 T x2 x3 x4 x5 x6 x7 x8) (Val.v634 (F := Ideal) i v16 v17 T x2 x3 x4 x5 x6 x7 x8) (Val.v635 (F := Ideal) i v16 v17 T x2 x3 x4 x5 x6 x7 x8) (Val.v638 (F := Ideal) i v16 v17 T x2 x3 x4 x5 x6 x7 x8) (Val.v642 (F := Ideal) i v16 v17 T x2 x3 x4 x5 x6 x7 x8)) (ix2 r d) = hid i T x2 x3 x4 x5 r ⟨2048 + d.val, by omega⟩ := by
  have h : k0_pay78 (Val.v631 (F := Ideal) i v16 v17 T x2 x3 x4 x5 x6 x7 x8) (Val.v632 (F := Ideal) i v16 v17 T x2 x3 x4 x5 x6 x7 x8) (Val.v634 (F := Ideal) i v16 v17 T x2 x3 x4 x5 x6 x7 x8) (Val.v635 (F := Ideal) i v16 v17 T x2 x3 x4 x5 x6 x7 x8) (Val.v638 (F := Ideal) i v16 v17 T x2 x3 x4 x5 x6 x7 x8) (Val.v642 (F := Ideal) i v16 v17 T x2 x3 x4 x5 x6 x7 x8) = k0_pay49 (F := Ideal) (Val.v631 i v16 v17 T x2 x3 x4 x5 x6 x7 x8) (Val.v632 i v16 v17 T x2 x3 x4 x5 x6 x7 x8) (Val.v634 i v16 v17 T x2 x3 x4 x5 x6 x7 x8) (Val.v635 i v16 v17 T x2 x3 x4 x5 x6 x7 x8) (Val.v638 i v16 v17 T x2 x3 x4 x5 x6 x7 x8) (Val.v642 i v16 v17 T x2 x3 x4 x5 x6 x7 x8) := rfl
  have e1 : Val.v631 (F := Ideal) i v16 v17 T x2 x3 x4 x5 x6 x7 x8 = aLo i T x2 := load_lo i v16 v17 T x2 x3 x4 x5 x6 x7 x8
  have e2 : Val.v634 (F := Ideal) i v16 v17 T x2 x3 x4 x5 x6 x7 x8 = aHi i T x2 := load_hi i v16 v17 T x2 x3 x4 x5 x6 x7 x8
  rw [h, e1, e2, pay49_apply]
  exact hid_of i T x2 x3 x4 x5 8 r d _ _ _ _ (fun κ => ld_apply x3 _ _ _ _ (show 0 + 1 * κ.val = κ.val by omega) (show 2048 + 1 * d.val = 256 * 8 + d.val by omega))
    (fun κ => ld_apply x3 _ _ _ _ (show 2048 + 1 * κ.val = 2048 + κ.val by omega) (show 2048 + 1 * d.val = 256 * 8 + d.val by omega))
    (ld_apply x4 _ _ _ _ rfl (show 2048 + 1 * d.val = 256 * 8 + d.val by omega)) (ld_apply x5 _ _ _ _ rfl (show 2048 + 1 * d.val = 256 * 8 + d.val by omega))

/-- Column tile 9 of the first layer. -/
theorem tile9_apply (r : Fin 384) (d : Fin 256) :
    (k0_pay82 (Val.v665 (F := Ideal) i v16 v17 T x2 x3 x4 x5 x6 x7 x8) (Val.v666 (F := Ideal) i v16 v17 T x2 x3 x4 x5 x6 x7 x8) (Val.v667 (F := Ideal) i v16 v17 T x2 x3 x4 x5 x6 x7 x8) (Val.v670 (F := Ideal) i v16 v17 T x2 x3 x4 x5 x6 x7 x8) (Val.v674 (F := Ideal) i v16 v17 T x2 x3 x4 x5 x6 x7 x8)) (ix2 r d) = hid i T x2 x3 x4 x5 r ⟨2304 + d.val, by omega⟩ := by
  have h : k0_pay82 (Val.v665 (F := Ideal) i v16 v17 T x2 x3 x4 x5 x6 x7 x8) (Val.v666 (F := Ideal) i v16 v17 T x2 x3 x4 x5 x6 x7 x8) (Val.v667 (F := Ideal) i v16 v17 T x2 x3 x4 x5 x6 x7 x8) (Val.v670 (F := Ideal) i v16 v17 T x2 x3 x4 x5 x6 x7 x8) (Val.v674 (F := Ideal) i v16 v17 T x2 x3 x4 x5 x6 x7 x8) = k0_pay49 (F := Ideal) (Val.v663 i v16 v17 T x2 x3 x4 x5 x6 x7 x8) (Val.v664 i v16 v17 T x2 x3 x4 x5 x6 x7 x8) (Val.v666 i v16 v17 T x2 x3 x4 x5 x6 x7 x8) (Val.v667 i v16 v17 T x2 x3 x4 x5 x6 x7 x8) (Val.v670 i v16 v17 T x2 x3 x4 x5 x6 x7 x8) (Val.v674 i v16 v17 T x2 x3 x4 x5 x6 x7 x8) := rfl
  have e1 : Val.v663 (F := Ideal) i v16 v17 T x2 x3 x4 x5 x6 x7 x8 = aLo i T x2 := load_lo i v16 v17 T x2 x3 x4 x5 x6 x7 x8
  have e2 : Val.v666 (F := Ideal) i v16 v17 T x2 x3 x4 x5 x6 x7 x8 = aHi i T x2 := load_hi i v16 v17 T x2 x3 x4 x5 x6 x7 x8
  rw [h, e1, e2, pay49_apply]
  exact hid_of i T x2 x3 x4 x5 9 r d _ _ _ _ (fun κ => ld_apply x3 _ _ _ _ (show 0 + 1 * κ.val = κ.val by omega) (show 2304 + 1 * d.val = 256 * 9 + d.val by omega))
    (fun κ => ld_apply x3 _ _ _ _ (show 2048 + 1 * κ.val = 2048 + κ.val by omega) (show 2304 + 1 * d.val = 256 * 9 + d.val by omega))
    (ld_apply x4 _ _ _ _ rfl (show 2304 + 1 * d.val = 256 * 9 + d.val by omega)) (ld_apply x5 _ _ _ _ rfl (show 2304 + 1 * d.val = 256 * 9 + d.val by omega))

/-- Column tile 10 of the first layer. -/
theorem tile10_apply (r : Fin 384) (d : Fin 256) :
    (k0_pay87 (Val.v697 (F := Ideal) i v16 v17 T x2 x3 x4 x5 x6 x7 x8) (Val.v700 (F := Ideal) i v16 v17 T x2 x3 x4 x5 x6 x7 x8) (Val.v702 (F := Ideal) i v16 v17 T x2 x3 x4 x5 x6 x7 x8) (Val.v706 (F := Ideal) i v16 v17 T x2 x3 x4 x5 x6 x7 x8)) (ix2 r d) = hid i T x2 x3 x4 x5 r ⟨2560 + d.val, by omega⟩ := by
  have h : k0_pay87 (Val.v697 (F := Ideal) i v16 v17 T x2 x3 x4 x5 x6 x7 x8) (Val.v700 (F := Ideal) i v16 v17 T x2 x3 x4 x5 x6 x7 x8) (Val.v702 (F := Ideal) i v16 v17 T x2 x3 x4 x5 x6 x7 x8) (Val.v706 (F := Ideal) i v16 v17 T x2 x3 x4 x5 x6 x7 x8) = k0_pay49 (F := Ideal) (Val.v695 i v16 v17 T x2 x3 x4 x5 x6 x7 x8) (Val.v696 i v16 v17 T x2 x3 x4 x5 x6 x7 x8) (Val.v698 i v16 v17 T x2 x3 x4 x5 x6 x7 x8) (Val.v699 i v16 v17 T x2 x3 x4 x5 x6 x7 x8) (Val.v702 i v16 v17 T x2 x3 x4 x5 x6 x7 x8) (Val.v706 i v16 v17 T x2 x3 x4 x5 x6 x7 x8) := rfl
  have e1 : Val.v695 (F := Ideal) i v16 v17 T x2 x3 x4 x5 x6 x7 x8 = aLo i T x2 := load_lo i v16 v17 T x2 x3 x4 x5 x6 x7 x8
  have e2 : Val.v698 (F := Ideal) i v16 v17 T x2 x3 x4 x5 x6 x7 x8 = aHi i T x2 := load_hi i v16 v17 T x2 x3 x4 x5 x6 x7 x8
  rw [h, e1, e2, pay49_apply]
  exact hid_of i T x2 x3 x4 x5 10 r d _ _ _ _ (fun κ => ld_apply x3 _ _ _ _ (show 0 + 1 * κ.val = κ.val by omega) (show 2560 + 1 * d.val = 256 * 10 + d.val by omega))
    (fun κ => ld_apply x3 _ _ _ _ (show 2048 + 1 * κ.val = 2048 + κ.val by omega) (show 2560 + 1 * d.val = 256 * 10 + d.val by omega))
    (ld_apply x4 _ _ _ _ rfl (show 2560 + 1 * d.val = 256 * 10 + d.val by omega)) (ld_apply x5 _ _ _ _ rfl (show 2560 + 1 * d.val = 256 * 10 + d.val by omega))

/-- Column tile 11 of the first layer. -/
theorem tile11_apply (r : Fin 384) (d : Fin 256) :
    (k0_pay91 (Val.v737 (F := Ideal) i v16 v17 T x2 x3 x4 x5 x6 x7 x8) (Val.v738 (F := Ideal) i v16 v17 T x2 x3 x4 x5 x6 x7 x8)) (ix2 r d) = hid i T x2 x3 x4 x5 r ⟨2816 + d.val, by omega⟩ := by
  have h : k0_pay91 (Val.v737 (F := Ideal) i v16 v17 T x2 x3 x4 x5 x6 x7 x8) (Val.v738 (F := Ideal) i v16 v17 T x2 x3 x4 x5 x6 x7 x8) = k0_pay49 (F := Ideal) (Val.v727 i v16 v17 T x2 x3 x4 x5 x6 x7 x8) (Val.v728 i v16 v17 T x2 x3 x4 x5 x6 x7 x8) (Val.v730 i v16 v17 T x2 x3 x4 x5 x6 x7 x8) (Val.v731 i v16 v17 T x2 x3 x4 x5 x6 x7 x8) (Val.v734 i v16 v17 T x2 x3 x4 x5 x6 x7 x8) (Val.v738 i v16 v17 T x2 x3 x4 x5 x6 x7 x8) := rfl
  have e1 : Val.v727 (F := Ideal) i v16 v17 T x2 x3 x4 x5 x6 x7 x8 = aLo i T x2 := load_lo i v16 v17 T x2 x3 x4 x5 x6 x7 x8
  have e2 : Val.v730 (F := Ideal) i v16 v17 T x2 x3 x4 x5 x6 x7 x8 = aHi i T x2 := load_hi i v16 v17 T x2 x3 x4 x5 x6 x7 x8
  rw [h, e1, e2, pay49_apply]
  exact hid_of i T x2 x3 x4 x5 11 r d _ _ _ _ (fun κ => ld_apply x3 _ _ _ _ (show 0 + 1 * κ.val = κ.val by omega) (show 2816 + 1 * d.val = 256 * 11 + d.val by omega))
    (fun κ => ld_apply x3 _ _ _ _ (show 2048 + 1 * κ.val = 2048 + κ.val by omega) (show 2816 + 1 * d.val = 256 * 11 + d.val by omega))
    (ld_apply x4 _ _ _ _ rfl (show 2816 + 1 * d.val = 256 * 11 + d.val by omega)) (ld_apply x5 _ _ _ _ rfl (show 2816 + 1 * d.val = 256 * 11 + d.val by omega))

end Cert.KernelIdeal.Pure
-- ==== Proof.KernelIdealMax.lean ====
/-
  Hand-written, untrusted. Over the reals, the first quantiser of the compress body: the running maximum of the absolute
  values of the hidden activations over the twelve column tiles, and the hidden scratch read back whole.
-/
module

public import proofs.«01_k».proof.Proof.KernelIdealRows
public import proofs.«01_k».proof.Proof.Quantiser

@[expose] public section

set_option maxRecDepth 16384

noncomputable section

namespace Cert.KernelIdeal.Pure

open Cert.KernelIdeal Cert.KernelIdeal.Gen
open Idealize.ShloMosaic Idealize.ShloMosaic.TcCoe Idealize.SL.Sem

/-- One tile's contribution to the running maximum: its two halves of 128 lanes. -/
def mx (p : FVec Ideal S384x128 .f32) (t : FVec Ideal S384x256 .f32) : FVec Ideal S384x128 .f32 :=
  maximumf (maximumf p (absf (extractStridedSlice S384x128 ![0, 0] t slices_S384x256_o0_0_S384x128)))
    (absf (extractStridedSlice S384x128 ![0, 128] t slices_S384x256_o0_128_S384x128))

theorem mx_apply (p : FVec Ideal S384x128 .f32) (t : FVec Ideal S384x256 .f32) (r : Fin 384) (d : Fin 128) :
    mx p t (ix2 r d) = max (max (p (ix2 r d)) (RowSpec.abs' (t (ix2 r ⟨d.val, by omega⟩)))) (RowSpec.abs' (t (ix2 r ⟨128 + d.val, by omega⟩))) := by
  pointwise [mx]
  rfl

/-- The row maximum of a lane-wise maximum. -/
theorem rowmax_apply (x : FVec Ideal S384x128 .f32) (r : Fin 384) :
    shapeCast S384x1 (multiReduction .maximumf [1] S384 x 0xFF800000#32 reduces_S384x128_S384 (.inl rfl) rfl) shapeCasts_S384_S384x1 (ix2 r (0 : Fin 1))
      = Finset.univ.sup fun d : Fin 128 => (x (ix2 r d) : EReal) := by
  pointwise
  exact RowSpec.fold_max _

variable (i : grid0.Coords) (v16 : View sig .tc .vmem S384x4096 .bf16) (v17 : View sig .tc .vmem S384x3072 .f32)
  (T : S6152x2x128.Idx → Elt Ideal .bf16) (x2 : S32x128.Idx → Elt Ideal .f32) (x3 : S4096x3072.Idx → Elt Ideal .fp8e4m3)
  (x4 : S1x3072.Idx → Elt Ideal .f32) (x5 : S1x3072.Idx → Elt Ideal .f32) (x6 : S3072x128.Idx → Elt Ideal .fp8e4m3)
  (x7 : S1x128.Idx → Elt Ideal .f32) (x8 : S1x128.Idx → Elt Ideal .f32)

/-- The first layer's row over all naturals. -/
def hidN (r : Fin 384) (j : ℕ) : EReal := if h : j < 3072 then hid i T x2 x3 x4 x5 r ⟨j, h⟩ else 0

theorem hidN_eq (r : Fin 384) (j : Fin 3072) : hidN i T x2 x3 x4 x5 r j.val = hid i T x2 x3 x4 x5 r j := dif_pos j.isLt

/-- A tile takes the running maximum one tile further. -/
theorem mx_run (p : FVec Ideal S384x128 .f32) (t : FVec Ideal S384x256 .f32) (n : Fin 12)
    (hp : ∀ r d, p (ix2 r d) = RowSpec.run (hidN i T x2 x3 x4 x5 r) d.val n.val)
    (ht : ∀ r (d : Fin 256), t (ix2 r d) = hid i T x2 x3 x4 x5 r ⟨256 * n.val + d.val, by omega⟩) (r : Fin 384) (d : Fin 128) :
    mx p t (ix2 r d) = RowSpec.run (hidN i T x2 x3 x4 x5 r) d.val (n.val + 1) := by
  rw [mx_apply, hp, ht, ht, ← hidN_eq, ← hidN_eq]
  show _ = max (max _ _) _
  congr 3
  show 256 * n.val + (128 + d.val) = _
  omega

theorem run0 (r : Fin 384) (d : Fin 128) : Val.v406 (F := Ideal) i v16 v17 T x2 x3 x4 x5 x6 x7 x8 (ix2 r d) = RowSpec.run (hidN i T x2 x3 x4 x5 r) d.val 1 := by
  have h : Val.v406 (F := Ideal) i v16 v17 T x2 x3 x4 x5 x6 x7 x8 = mx (broadcast S384x128 (Scalar.ofBits .f32 0x00000000#32)) (k0_pay49 (Val.v375 (F := Ideal) i v16 v17 T x2 x3 x4 x5 x6 x7 x8) (Val.v376 (F := Ideal) i v16 v17 T x2 x3 x4 x5 x6 x7 x8) (Val.v378 (F := Ideal) i v16 v17 T x2 x3 x4 x5 x6 x7 x8) (Val.v379 (F := Ideal) i v16 v17 T x2 x3 x4 x5 x6 x7 x8) (Val.v382 (F := Ideal) i v16 v17 T x2 x3 x4 x5 x6 x7 x8) (Val.v386 (F := Ideal) i v16 v17 T x2 x3 x4 x5 x6 x7 x8)) := rfl
  rw [h]
  exact mx_run i T x2 x3 x4 x5 _ _ 0 (fun r d => Ideal.ofBits_zero_f32) (tile0_apply i v16 v17 T x2 x3 x4 x5 x6 x7 x8) r d

theorem run1 (r : Fin 384) (d : Fin 128) : Val.v438 (F := Ideal) i v16 v17 T x2 x3 x4 x5 x6 x7 x8 (ix2 r d) = RowSpec.run (hidN i T x2 x3 x4 x5 r) d.val 2 := by
  have h : Val.v438 (F := Ideal) i v16 v17 T x2 x3 x4 x5 x6 x7 x8 = mx (Val.v406 (F := Ideal) i v16 v17 T x2 x3 x4 x5 x6 x7 x8) (k0_pay52 (Val.v407 (F := Ideal) i v16 v17 T x2 x3 x4 x5 x6 x7 x8) (Val.v408 (F := Ideal) i v16 v17 T x2 x3 x4 x5 x6 x7 x8) (Val.v410 (F := Ideal) i v16 v17 T x2 x3 x4 x5 x6 x7 x8) (Val.v411 (F := Ideal) i v16 v17 T x2 x3 x4 x5 x6 x7 x8) (Val.v414 (F := Ideal) i v16 v17 T x2 x3 x4 x5 x6 x7 x8) (Val.v418 (F := Ideal) i v16 v17 T x2 x3 x4 x5 x6 x7 x8)) := rfl
  rw [h]
  exact mx_run i T x2 x3 x4 x5 _ _ 1 (run0 i v16 v17 T x2 x3 x4 x5 x6 x7 x8) (tile1_apply i v16 v17 T x2 x3 x4 x5 x6 x7 x8) r d

theorem run2 (r : Fin 384) (d : Fin 128) : Val.v470 (F := Ideal) i v16 v17 T x2 x3 x4 x5 x6 x7 x8 (ix2 r d) = RowSpec.run (hidN i T x2 x3 x4 x5 r) d.val 3 := by
  have h : Val.v470 (F := Ideal) i v16 v17 T x2 x3 x4 x5 x6 x7 x8 = mx (Val.v438 (F := Ideal) i v16 v17 T x2 x3 x4 x5 x6 x7 x8) (k0_pay56 (Val.v441 (F := Ideal) i v16 v17 T x2 x3 x4 x5 x6 x7 x8) (Val.v442 (F := Ideal) i v16 v17 T x2 x3 x4 x5 x6 x7 x8) (Val.v443 (F := Ideal) i v16 v17 T x2 x3 x4 x5 x6 x7 x8) (Val.v446 (F := Ideal) i v16 v17 T x2 x3 x4 x5 x6 x7 x8) (Val.v450 (F := Ideal) i v16 v17 T x2 x3 x4 x5 x6 x7 x8)) := rfl
  rw [h]
  exact mx_run i T x2 x3 x4 x5 _ _ 2 (run1 i v16 v17 T x2 x3 x4 x5 x6 x7 x8) (tile2_apply i v16 v17 T x2 x3 x4 x5 x6 x7 x8) r d

theorem run3 (r : Fin 384) (d : Fin 128) : Val.v502 (F := Ideal) i v16 v17 T x2 x3 x4 x5 x6 x7 x8 (ix2 r d) = RowSpec.run (hidN i T x2 x3 x4 x5 r) d.val 4 := by
  have h : Val.v502 (F := Ideal) i v16 v17 T x2 x3 x4 x5 x6 x7 x8 = mx (Val.v470 (F := Ideal) i v16 v17 T x2 x3 x4 x5 x6 x7 x8) (k0_pay60 (Val.v477 (F := Ideal) i v16 v17 T x2 x3 x4 x5 x6 x7 x8) (Val.v478 (F := Ideal) i v16 v17 T x2 x3 x4 x5 x6 x7 x8) (Val.v482 (F := Ideal) i v16 v17 T x2 x3 x4 x5 x6 x7 x8)) := rfl
  rw [h]
  exact mx_run i T x2 x3 x4 x5 _ _ 3 (run2 i v16 v17 T x2 x3 x4 x5 x6 x7 x8) (tile3_apply i v16 v17 T x2 x3 x4 x5 x6 x7 x8) r d

theorem run4 (r : Fin 384) (d : Fin 128) : Val.v534 (F := Ideal) i v16 v17 T x2 x3 x4 x5 x6 x7 x8 (ix2 r d) = RowSpec.run (hidN i T x2 x3 x4 x5 r) d.val 5 := by
  have h : Val.v534 (F := Ideal) i v16 v17 T x2 x3 x4 x5 x6 x7 x8 = mx (Val.v502 (F := Ideal) i v16 v17 T x2 x3 x4 x5 x6 x7 x8) (k0_pay65 (Val.v513 (F := Ideal) i v16 v17 T x2 x3 x4 x5 x6 x7 x8) (Val.v516 (F := Ideal) i v16 v17 T x2 x3 x4 x5 x6 x7 x8)) := rfl
  rw [h]
  exact mx_run i T x2 x3 x4 x5 _ _ 4 (run3 i v16 v17 T x2 x3 x4 x5 x6 x7 x8) (tile4_apply i v16 v17 T x2 x3 x4 x5 x6 x7 x8) r d

theorem run5 (r : Fin 384) (d : Fin 128) : Val.v566 (F := Ideal) i v16 v17 T x2 x3 x4 x5 x6 x7 x8 (ix2 r d) = RowSpec.run (hidN i T x2 x3 x4 x5 r) d.val 6 := by
  have h : Val.v566 (F := Ideal) i v16 v17 T x2 x3 x4 x5 x6 x7 x8 = mx (Val.v534 (F := Ideal) i v16 v17 T x2 x3 x4 x5 x6 x7 x8) (k0_pay70 (Val.v549 (F := Ideal) i v16 v17 T x2 x3 x4 x5 x6 x7 x8) (Val.v554 (F := Ideal) i v16 v17 T x2 x3 x4 x5 x6 x7 x8)) := rfl
  rw [h]
  exact mx_run i T x2 x3 x4 x5 _ _ 5 (run4 i v16 v17 T x2 x3 x4 x5 x6 x7 x8) (tile5_apply i v16 v17 T x2 x3 x4 x5 x6 x7 x8) r d

theorem run6 (r : Fin 384) (d : Fin 128) : mx (Val.v566 (F := Ideal) i v16 v17 T x2 x3 x4 x5 x6 x7 x8) (Val.v589 (F := Ideal) i v16 v17 T x2 x3 x4 x5 x6 x7 x8) (ix2 r d) = RowSpec.run (hidN i T x2 x3 x4 x5 r) d.val 7 :=
  mx_run i T x2 x3 x4 x5 _ _ 6 (run5 i v16 v17 T x2 x3 x4 x5 x6 x7 x8) (tile6_apply i v16 v17 T x2 x3 x4 x5 x6 x7 x8) r d

theorem run7 (r : Fin 384) (d : Fin 128) : Val.v630 (F := Ideal) i v16 v17 T x2 x3 x4 x5 x6 x7 x8 (ix2 r d) = RowSpec.run (hidN i T x2 x3 x4 x5 r) d.val 8 := by
  have h : Val.v630 (F := Ideal) i v16 v17 T x2 x3 x4 x5 x6 x7 x8 = mx (mx (Val.v566 (F := Ideal) i v16 v17 T x2 x3 x4 x5 x6 x7 x8) (Val.v589 (F := Ideal) i v16 v17 T x2 x3 x4 x5 x6 x7 x8)) (k0_pay75 (Val.v599 (F := Ideal) i v16 v17 T x2 x3 x4 x5 x6 x7 x8) (Val.v600 (F := Ideal) i v16 v17 T x2 x3 x4 x5 x6 x7 x8) (Val.v602 (F := Ideal) i v16 v17 T x2 x3 x4 x5 x6 x7 x8) (Val.v603 (F := Ideal) i v16 v17 T x2 x3 x4 x5 x6 x7 x8) (Val.v606 (F := Ideal) i v16 v17 T x2 x3 x4 x5 x6 x7 x8) (Val.v610 (F := Ideal) i v16 v17 T x2 x3 x4 x5 x6 x7 x8)) := rfl
  rw [h]
  exact mx_run i T x2 x3 x4 x5 _ _ 7 (run6 i v16 v17 T x2 x3 x4 x5 x6 x7 x8) (tile7_apply i v16 v17 T x2 x3 x4 x5 x6 x7 x8) r d

theorem run8 (r : Fin 384) (d : Fin 128) : Val.v662 (F := Ideal) i v16 v17 T x2 x3 x4 x5 x6 x7 x8 (ix2 r d) = RowSpec.run (hidN i T x2 x3 x4 x5 r) d.val 9 := by
  have h : Val.v662 (F := Ideal) i v16 v17 T x2 x3 x4 x5 x6 x7 x8 = mx (Val.v630 (F := Ideal) i v16 v17 T x2 x3 x4 x5 x6 x7 x8) (k0_pay78 (Val.v631 (F := Ideal) i v16 v17 T x2 x3 x4 x5 x6 x7 x8) (Val.v632 (F := Ideal) i v16 v17 T x2 x3 x4 x5 x6 x7 x8) (Val.v634 (F := Ideal) i v16 v17 T x2 x3 x4 x5 x6 x7 x8) (Val.v635 (F := Ideal) i v16 v17 T x2 x3 x4 x5 x6 x7 x8) (Val.v638 (F := Ideal) i v16 v17 T x2 x3 x4 x5 x6 x7 x8) (Val.v642 (F := Ideal) i v16 v17 T x2 x3 x4 x5 x6 x7 x8)) := rfl
  rw [h]
  exact mx_run i T x2 x3 x4 x5 _ _ 8 (run7 i v16 v17 T x2 x3 x4 x5 x6 x7 x8) (tile8_apply i v16 v17 T x2 x3 x4 x5 x6 x7 x8) r d

theorem run9 (r : Fin 384) (d : Fin 128) : Val.v694 (F := Ideal) i v16 v17 T x2 x3 x4 x5 x6 x7 x8 (ix2 r d) = RowSpec.run (hidN i T x2 x3 x4 x5 r) d.val 10 := by
  have h : Val.v694 (F := Ideal) i v16 v17 T x2 x3 x4 x5 x6 x7 x8 = mx (Val.v662 (F := Ideal) i v16 v17 T x2 x3 x4 x5 x6 x7 x8) (k0_pay82 (Val.v665 (F := Ideal) i v16 v17 T x2 x3 x4 x5 x6 x7 x8) (Val.v666 (F := Ideal) i v16 v17 T x2 x3 x4 x5 x6 x7 x8) (Val.v667 (F := Ideal) i v16 v17 T x2 x3 x4 x5 x6 x7 x8) (Val.v670 (F := Ideal) i v16 v17 T x2 x3 x4 x5 x6 x7 x8) (Val.v674 (F := Ideal) i v16 v17 T x2 x3 x4 x5 x6 x7 x8)) := rfl
  rw [h]
  exact mx_run i T x2 x3 x4 x5 _ _ 9 (run8 i v16 v17 T x2 x3 x4 x5 x6 x7 x8) (tile9_apply i v16 v17 T x2 x3 x4 x5 x6 x7 x8) r d

theorem run10 (r : Fin 384) (d : Fin 128) : Val.v726 (F := Ideal) i v16 v17 T x2 x3 x4 x5 x6 x7 x8 (ix2 r d) = RowSpec.run (hidN i T x2 x3 x4 x5 r) d.val 11 := by
  have h : Val.v726 (F := Ideal) i v16 v17 T x2 x3 x4 x5 x6 x7 x8 = mx (Val.v694 (F := Ideal) i v16 v17 T x2 x3 x4 x5 x6 x7 x8) (k0_pay87 (Val.v697 (F := Ideal) i v16 v17 T x2 x3 x4 x5 x6 x7 x8) (Val.v700 (F := Ideal) i v16 v17 T x2 x3 x4 x5 x6 x7 x8) (Val.v702 (F := Ideal) i v16 v17 T x2 x3 x4 x5 x6 x7 x8) (Val.v706 (F := Ideal) i v16 v17 T x2 x3 x4 x5 x6 x7 x8)) := rfl
  rw [h]
  exact mx_run i T x2 x3 x4 x5 _ _ 10 (run9 i v16 v17 T x2 x3 x4 x5 x6 x7 x8) (tile10_apply i v16 v17 T x2 x3 x4 x5 x6 x7 x8) r d

/-- The greatest absolute value of a row of the first layer. -/
theorem v760_apply (r : Fin 384) : Val.v760 (F := Ideal) i v16 v17 T x2 x3 x4 x5 x6 x7 x8 (ix2 r (0 : Fin 1)) = RowSpec.amax (hid i T x2 x3 x4 x5 r) := by
  have h : Val.v760 (F := Ideal) i v16 v17 T x2 x3 x4 x5 x6 x7 x8 = shapeCast S384x1 (multiReduction .maximumf [1] S384 (mx (Val.v726 (F := Ideal) i v16 v17 T x2 x3 x4 x5 x6 x7 x8) (k0_pay91 (Val.v737 (F := Ideal) i v16 v17 T x2 x3 x4 x5 x6 x7 x8) (Val.v738 (F := Ideal) i v16 v17 T x2 x3 x4 x5 x6 x7 x8))) 0xFF800000#32 reduces_S384x128_S384 (.inl rfl) rfl) shapeCasts_S384_S384x1 := rfl
  rw [h, rowmax_apply, ← RowSpec.sup_run _ (hidN i T x2 x3 x4 x5 r) (hidN_eq i T x2 x3 x4 x5 r)]
  refine Finset.sup_congr rfl fun d _ => ?_
  exact mx_run i T x2 x3 x4 x5 _ _ 11 (run10 i v16 v17 T x2 x3 x4 x5 x6 x7 x8) (tile11_apply i v16 v17 T x2 x3 x4 x5 x6 x7 x8) r d

/-- The first layer of every row of the tile. -/
def matH : S384x3072.Idx → EReal := fun y => hid i T x2 x3 x4 x5 (y 0) (y 1)

/-- A piece of the hidden scratch that holds one column tile holds the first layer's values. -/
theorem matH_piece (n : Fin 12) (inb) (f : Vec Ideal S384x256 .f32)
    (h : ∀ (r : Fin 384) (d : Fin 256), f (ix2 r d) = hid i T x2 x3 x4 x5 r ⟨256 * n.val + d.val, by omega⟩)
    (y : (Rect.unit (s := S384x3072) ![0, 256 * n.val] S384x256.size inb).shape.Idx) :
    f y = matH i T x2 x3 x4 x5 ((Rect.unit (s := S384x3072) ![0, 256 * n.val] S384x256.size inb).emb y) := by
  obtain ⟨r, d, rfl⟩ : ∃ (r : Fin 384) (d : Fin 256), y = ix2 r d := ⟨y 0, y 1, by funext a; fin_cases a <;> rfl⟩
  refine (h r d).trans ?_
  show _ = hid i T x2 x3 x4 x5 _ _
  congr 1
  · ext; show _ = 0 + 1 * r.val; omega
  · ext; show 256 * n.val + d.val = 256 * n.val + 1 * d.val; omega

/-- A shape cast to the same shape changes nothing. -/
theorem cast_apply (x : FVec Ideal S384x256 .f32) (r : Fin 384) (d : Fin 256) :
    shapeCast S384x256 x shapeCasts_S384x256_S384x256 (ix2 r d) = x (ix2 r d) := by
  pointwise

theorem hPiece0_apply (r : Fin 384) (d : Fin 256) :
    (Val.hPiece0 (F := Ideal) i v16 v17 T x2 x3 x4 x5 x6 x7 x8).2 (ix2 r d) = hid i T x2 x3 x4 x5 r ⟨0 + d.val, by omega⟩ := by
  have h : (Val.hPiece0 (F := Ideal) i v16 v17 T x2 x3 x4 x5 x6 x7 x8).2 = shapeCast S384x256 (k0_pay49 (Val.v375 (F := Ideal) i v16 v17 T x2 x3 x4 x5 x6 x7 x8) (Val.v376 (F := Ideal) i v16 v17 T x2 x3 x4 x5 x6 x7 x8) (Val.v378 (F := Ideal) i v16 v17 T x2 x3 x4 x5 x6 x7 x8) (Val.v379 (F := Ideal) i v16 v17 T x2 x3 x4 x5 x6 x7 x8) (Val.v382 (F := Ideal) i v16 v17 T x2 x3 x4 x5 x6 x7 x8) (Val.v386 (F := Ideal) i v16 v17 T x2 x3 x4 x5 x6 x7 x8)) shapeCasts_S384x256_S384x256 := rfl
  rw [h, cast_apply]
  exact tile0_apply i v16 v17 T x2 x3 x4 x5 x6 x7 x8 r d

theorem hPiece1_apply (r : Fin 384) (d : Fin 256) :
    (Val.hPiece1 (F := Ideal) i v16 v17 T x2 x3 x4 x5 x6 x7 x8).2 (ix2 r d) = hid i T x2 x3 x4 x5 r ⟨256 + d.val, by omega⟩ := by
  have h : (Val.hPiece1 (F := Ideal) i v16 v17 T x2 x3 x4 x5 x6 x7 x8).2 = shapeCast S384x256 (k0_pay52 (Val.v407 (F := Ideal) i v16 v17 T x2 x3 x4 x5 x6 x7 x8) (Val.v408 (F := Ideal) i v16 v17 T x2 x3 x4 x5 x6 x7 x8) (Val.v410 (F := Ideal) i v16 v17 T x2 x3 x4 x5 x6 x7 x8) (Val.v411 (F := Ideal) i v16 v17 T x2 x3 x4 x5 x6 x7 x8) (Val.v414 (F := Ideal) i v16 v17 T x2 x3 x4 x5 x6 x7 x8) (Val.v418 (F := Ideal) i v16 v17 T x2 x3 x4 x5 x6 x7 x8)) shapeCasts_S384x256_S384x256 := rfl
  rw [h, cast_apply]
  exact tile1_apply i v16 v17 T x2 x3 x4 x5 x6 x7 x8 r d

theorem hPiece2_apply (r : Fin 384) (d : Fin 256) :
    (Val.hPiece2 (F := Ideal) i v16 v17 T x2 x3 x4 x5 x6 x7 x8).2 (ix2 r d) = hid i T x2 x3 x4 x5 r ⟨512 + d.val, by omega⟩ := by
  have h : (Val.hPiece2 (F := Ideal) i v16 v17 T x2 x3 x4 x5 x6 x7 x8).2 = shapeCast S384x256 (k0_pay56 (Val.v441 (F := Ideal) i v16 v17 T x2 x3 x4 x5 x6 x7 x8) (Val.v442 (F := Ideal) i v16 v17 T x2 x3 x4 x5 x6 x7 x8) (Val.v443 (F := Ideal) i v16 v17 T x2 x3 x4 x5 x6 x7 x8) (Val.v446 (F := Ideal) i v16 v17 T x2 x3 x4 x5 x6 x7 x8) (Val.v450 (F := Ideal) i v16 v17 T x2 x3 x4 x5 x6 x7 x8)) shapeCasts_S384x256_S384x256 := rfl
  rw [h, cast_apply]
  exact tile2_apply i v16 v17 T x2 x3 x4 x5 x6 x7 x8 r d

theorem hPiece3_apply (r : Fin 384) (d : Fin 256) :
    (Val.hPiece3 (F := Ideal) i v16 v17 T x2 x3 x4 x5 x6 x7 x8).2 (ix2 r d) = hid i T x2 x3 x4 x5 r ⟨768 + d.val, by omega⟩ := by
  have h : (Val.hPiece3 (F := Ideal) i v16 v17 T x2 x3 x4 x5 x6 x7 x8).2 = shapeCast S384x256 (k0_pay60 (Val.v477 (F := Ideal) i v16 v17 T x2 x3 x4 x5 x6 x7 x8) (Val.v478 (F := Ideal) i v16 v17 T x2 x3 x4 x5 x6 x7 x8) (Val.v482 (F := Ideal) i v16 v17 T x2 x3 x4 x5 x6 x7 x8)) shapeCasts_S384x256_S384x256 := rfl
  rw [h, cast_apply]
  exact tile3_apply i v16 v17 T x2 x3 x4 x5 x6 x7 x8 r d

theorem hPiece4_apply (r : Fin 384) (d : Fin 256) :
    (Val.hPiece4 (F := Ideal) i v16 v17 T x2 x3 x4 x5 x6 x7 x8).2 (ix2 r d) = hid i T x2 x3 x4 x5 r ⟨1024 + d.val, by omega⟩ := by
  have h : (Val.hPiece4 (F := Ideal) i v16 v17 T x2 x3 x4 x5 x6 x7 x8).2 = shapeCast S384x256 (k0_pay65 (Val.v513 (F := Ideal) i v16 v17 T x2 x3 x4 x5 x6 x7 x8) (Val.v516 (F := Ideal) i v16 v17 T x2 x3 x4 x5 x6 x7 x8)) shapeCasts_S384x256_S384x256 := rfl
  rw [h, cast_apply]
  exact tile4_apply i v16 v17 T x2 x3 x4 x5 x6 x7 x8 r d

theorem hPiece5_apply (r : Fin 384) (d : Fin 256) :
    (Val.hPiece5 (F := Ideal) i v16 v17 T x2 x3 x4 x5 x6 x7 x8).2 (ix2 r d) = hid i T x2 x3 x4 x5 r ⟨1280 + d.val, by omega⟩ := by
  have h : (Val.hPiece5 (F := Ideal) i v16 v17 T x2 x3 x4 x5 x6 x7 x8).2 = shapeCast S384x256 (k0_pay70 (Val.v549 (F := Ideal) i v16 v17 T x2 x3 x4 x5 x6 x7 x8) (Val.v554 (F := Ideal) i v16 v17 T x2 x3 x4 x5 x6 x7 x8)) shapeCasts_S384x256_S384x256 := rfl
  rw [h, cast_apply]
  exact tile5_apply i v16 v17 T x2 x3 x4 x5 x6 x7 x8 r d

theorem hPiece6_apply (r : Fin 384) (d : Fin 256) :
    (Val.hPiece6 (F := Ideal) i v16 v17 T x2 x3 x4 x5 x6 x7 x8).2 (ix2 r d) = hid i T x2 x3 x4 x5 r ⟨1536 + d.val, by omega⟩ := by
  have h : (Val.hPiece6 (F := Ideal) i v16 v17 T x2 x3 x4 x5 x6 x7 x8).2 = shapeCast S384x256 (Val.v589 (F := Ideal) i v16 v17 T x2 x3 x4 x5 x6 x7 x8) shapeCasts_S384x256_S384x256 := rfl
  rw [h, cast_apply]
  exact tile6_apply i v16 v17 T x2 x3 x4 x5 x6 x7 x8 r d

theorem hPiece7_apply (r : Fin 384) (d : Fin 256) :
    (Val.hPiece7 (F := Ideal) i v16 v17 T x2 x3 x4 x5 x6 x7 x8).2 (ix2 r d) = hid i T x2 x3 x4 x5 r ⟨1792 + d.val, by omega⟩ := by
  have h : (Val.hPiece7 (F := Ideal) i v16 v17 T x2 x3 x4 x5 x6 x7 x8).2 = shapeCast S384x256 (k0_pay75 (Val.v599 (F := Ideal) i v16 v17 T x2 x3 x4 x5 x6 x7 x8) (Val.v600 (F := Ideal) i v16 v17 T x2 x3 x4 x5 x6 x7 x8) (Val.v602 (F := Ideal) i v16 v17 T x2 x3 x4 x5 x6 x7 x8) (Val.v603 (F := Ideal) i v16 v17 T x2 x3 x4 x5 x6 x7 x8) (Val.v606 (F := Ideal) i v16 v17 T x2 x3 x4 x5 x6 x7 x8) (Val.v610 (F := Ideal) i v16 v17 T x2 x3 x4 x5 x6 x7 x8)) shapeCasts_S384x256_S384x256 := rfl
  rw [h, cast_apply]
  exact tile7_apply i v16 v17 T x2 x3 x4 x5 x6 x7 x8 r d

theorem hPiece8_apply (r : Fin 384) (d : Fin 256) :
    (Val.hPiece8 (F := Ideal) i v16 v17 T x2 x3 x4 x5 x6 x7 x8).2 (ix2 r d) = hid i T x2 x3 x4 x5 r ⟨2048 + d.val, by omega⟩ := by
  have h : (Val.hPiece8 (F := Ideal) i v16 v17 T x2 x3 x4 x5 x6 x7 x8).2 = shapeCast S384x256 (k0_pay78 (Val.v631 (F := Ideal) i v16 v17 T x2 x3 x4 x5 x6 x7 x8) (Val.v632 (F := Ideal) i v16 v17 T x2 x3 x4 x5 x6 x7 x8) (Val.v634 (F := Ideal) i v16 v17 T x2 x3 x4 x5 x6 x7 x8) (Val.v635 (F := Ideal) i v16 v17 T x2 x3 x4 x5 x6 x7 x8) (Val.v638 (F := Ideal) i v16 v17 T x2 x3 x4 x5 x6 x7 x8) (Val.v642 (F := Ideal) i v16 v17 T x2 x3 x4 x5 x6 x7 x8)) shapeCasts_S384x256_S384x256 := rfl
  rw [h, cast_apply]
  exact tile8_apply i v16 v17 T x2 x3 x4 x5 x6 x7 x8 r d

theorem hPiece9_apply (r : Fin 384) (d : Fin 256) :
    (Val.hPiece9 (F := Ideal) i v16 v17 T x2 x3 x4 x5 x6 x7 x8).2 (ix2 r d) = hid i T x2 x3 x4 x5 r ⟨2304 + d.val, by omega⟩ := by
  have h : (Val.hPiece9 (F := Ideal) i v16 v17 T x2 x3 x4 x5 x6 x7 x8).2 = shapeCast S384x256 (k0_pay82 (Val.v665 (F := Ideal) i v16 v17 T x2 x3 x4 x5 x6 x7 x8) (Val.v666 (F := Ideal) i v16 v17 T x2 x3 x4 x5 x6 x7 x8) (Val.v667 (F := Ideal) i v16 v17 T x2 x3 x4 x5 x6 x7 x8) (Val.v670 (F := Ideal) i v16 v17 T x2 x3 x4 x5 x6 x7 x8) (Val.v674 (F := Ideal) i v16 v17 T x2 x3 x4 x5 x6 x7 x8)) shapeCasts_S384x256_S384x256 := rfl
  rw [h, cast_apply]
  exact tile9_apply i v16 v17 T x2 x3 x4 x5 x6 x7 x8 r d

theorem hPiece10_apply (r : Fin 384) (d : Fin 256) :
    (Val.hPiece10 (F := Ideal) i v16 v17 T x2 x3 x4 x5 x6 x7 x8).2 (ix2 r d) = hid i T x2 x3 x4 x5 r ⟨2560 + d.val, by omega⟩ := by
  have h : (Val.hPiece10 (F := Ideal) i v16 v17 T x2 x3 x4 x5 x6 x7 x8).2 = shapeCast S384x256 (k0_pay87 (Val.v697 (F := Ideal) i v16 v17 T x2 x3 x4 x5 x6 x7 x8) (Val.v700 (F := Ideal) i v16 v17 T x2 x3 x4 x5 x6 x7 x8) (Val.v702 (F := Ideal) i v16 v17 T x2 x3 x4 x5 x6 x7 x8) (Val.v706 (F := Ideal) i v16 v17 T x2 x3 x4 x5 x6 x7 x8)) shapeCasts_S384x256_S384x256 := rfl
  rw [h, cast_apply]
  exact tile10_apply i v16 v17 T x2 x3 x4 x5 x6 x7 x8 r d

theorem hPiece11_apply (r : Fin 384) (d : Fin 256) :
    (Val.hPiece11 (F := Ideal) i v16 v17 T x2 x3 x4 x5 x6 x7 x8).2 (ix2 r d) = hid i T x2 x3 x4 x5 r ⟨2816 + d.val, by omega⟩ := by
  have h : (Val.hPiece11 (F := Ideal) i v16 v17 T x2 x3 x4 x5 x6 x7 x8).2 = shapeCast S384x256 (k0_pay91 (Val.v737 (F := Ideal) i v16 v17 T x2 x3 x4 x5 x6 x7 x8) (Val.v738 (F := Ideal) i v16 v17 T x2 x3 x4 x5 x6 x7 x8)) shapeCasts_S384x256_S384x256 := rfl
  rw [h, cast_apply]
  exact tile11_apply i v16 v17 T x2 x3 x4 x5 x6 x7 x8 r d

/-- The hidden scratch read back whole. -/
theorem v834_apply (r : Fin 384) (j : Fin 3072) : Val.v834 (F := Ideal) i v16 v17 T x2 x3 x4 x5 x6 x7 x8 (ix2 r j) = hid i T x2 x3 x4 x5 r j := by
  unfold Val.v834
  rw [View.readCov_eq_canon']
  have e : ∀ y, View.canon (Val.hPieces (F := Ideal) i v16 v17 T x2 x3 x4 x5 x6 x7 x8) y = matH i T x2 x3 x4 x5 y := fun y => by
    refine View.canon_apply_of_pieces (matH i T x2 x3 x4 x5) _ ?_ y (View.cover_of_tiledL (Val.hPieces (F := Ideal) i v16 v17 T x2 x3 x4 x5 x6 x7 x8) ![384, 256] (by rfl) y)
    intro p hp
    unfold Val.hPieces at hp
    simp only [List.mem_cons, List.not_mem_nil, or_false] at hp
    rcases hp with rfl | rfl | rfl | rfl | rfl | rfl | rfl | rfl | rfl | rfl | rfl | rfl

    · exact matH_piece i T x2 x3 x4 x5 11 inb_S384x3072_S384x256_0_2816 _ (hPiece11_apply i v16 v17 T x2 x3 x4 x5 x6 x7 x8)
    · exact matH_piece i T x2 x3 x4 x5 10 inb_S384x3072_S384x256_0_2560 _ (hPiece10_apply i v16 v17 T x2 x3 x4 x5 x6 x7 x8)
    · exact matH_piece i T x2 x3 x4 x5 9 inb_S384x3072_S384x256_0_2304 _ (hPiece9_apply i v16 v17 T x2 x3 x4 x5 x6 x7 x8)
    · exact matH_piece i T x2 x3 x4 x5 8 inb_S384x3072_S384x256_0_2048 _ (hPiece8_apply i v16 v17 T x2 x3 x4 x5 x6 x7 x8)
    · exact matH_piece i T x2 x3 x4 x5 7 inb_S384x3072_S384x256_0_1792 _ (hPiece7_apply i v16 v17 T x2 x3 x4 x5 x6 x7 x8)
    · exact matH_piece i T x2 x3 x4 x5 6 inb_S384x3072_S384x256_0_1536 _ (hPiece6_apply i v16 v17 T x2 x3 x4 x5 x6 x7 x8)
    · exact matH_piece i T x2 x3 x4 x5 5 inb_S384x3072_S384x256_0_1280 _ (hPiece5_apply i v16 v17 T x2 x3 x4 x5 x6 x7 x8)
    · exact matH_piece i T x2 x3 x4 x5 4 inb_S384x3072_S384x256_0_1024 _ (hPiece4_apply i v16 v17 T x2 x3 x4 x5 x6 x7 x8)
    · exact matH_piece i T x2 x3 x4 x5 3 inb_S384x3072_S384x256_0_768 _ (hPiece3_apply i v16 v17 T x2 x3 x4 x5 x6 x7 x8)
    · exact matH_piece i T x2 x3 x4 x5 2 inb_S384x3072_S384x256_0_512 _ (hPiece2_apply i v16 v17 T x2 x3 x4 x5 x6 x7 x8)
    · exact matH_piece i T x2 x3 x4 x5 1 inb_S384x3072_S384x256_0_256 _ (hPiece1_apply i v16 v17 T x2 x3 x4 x5 x6 x7 x8)
    · exact matH_piece i T x2 x3 x4 x5 0 inb_S384x3072_S384x256_0_0 _ (hPiece0_apply i v16 v17 T x2 x3 x4 x5 x6 x7 x8)
  show View.canon _ _ = _
  rw [e]
  show hid i T x2 x3 x4 x5 _ _ = _
  congr 1
  · ext; show 0 + 1 * r.val = r.val; omega
  · ext; show 0 + 1 * j.val = j.val; omega

end Cert.KernelIdeal.Pure
-- ==== Proof.KernelIdealQuant.lean ====
/-
  Hand-written, untrusted. Over the reals, the four results of the compress body at each of their entries, by the layer's
  functions of the gathered row.
-/
module

public import proofs.«01_k».proof.Proof.KernelIdealMax

@[expose] public section

set_option maxRecDepth 16384

noncomputable section

namespace Cert.KernelIdeal.Pure

open Cert.KernelIdeal Cert.KernelIdeal.Gen
open Idealize.ShloMosaic Idealize.ShloMosaic.TcCoe Idealize.SL.Sem

/-- One step of the exponent search, on a column of rows. -/
def stepV (v : FVec Ideal S384x1 .f32) (s : BitVec 32) (e : IVec S384x1 32) : IVec S384x1 32 :=
  select (cmpf .oge v (bitcastToFloat .f32 (shli (addi e (broadcast S384x1 s)) (broadcast S384x1 23#32)))) (addi e (broadcast S384x1 s)) e

theorem stepV_apply (v : FVec Ideal S384x1 .f32) (s : BitVec 32) (e : IVec S384x1 32) (y : S384x1.Idx) :
    stepV v s e y = RowSpec.stepW (v y) s (e y) := rfl

/-- The exponent search. -/
def searchV (v : FVec Ideal S384x1 .f32) : IVec S384x1 32 :=
  stepV v 1#32 (stepV v 2#32 (stepV v 4#32 (stepV v 8#32 (stepV v 16#32 (stepV v 32#32 (stepV v 63#32 (stepV v 126#32 (broadcast S384x1 0#32))))))))

theorem searchV_apply (v : FVec Ideal S384x1 .f32) (y : S384x1.Idx) : searchV v y = BitVec.ofNat 32 (RowSpec.search (v y)) := by
  rw [← RowSpec.searchW_eq]
  simp only [searchV, stepV_apply]
  rfl

/-- The inverse scale and the scale of a column of rows. -/
def invV (v : FVec Ideal S384x1 .f32) : FVec Ideal S384x1 .f32 :=
  bitcastToFloat .f32 (subi (broadcast S384x1 2122317824#32) (shli (searchV v) (broadcast S384x1 23#32)))
@[inherit_doc invV]
def scaleV (v : FVec Ideal S384x1 .f32) : FVec Ideal S384x1 .f32 :=
  bitcastToFloat .f32 (addi (shli (searchV v) (broadcast S384x1 23#32)) (broadcast S384x1 8388608#32))

theorem invV_apply (v : FVec Ideal S384x1 .f32) (y : S384x1.Idx) : invV v y = Ideal.div 1 (RowSpec.scaleOf (v y)) := by
  rw [← RowSpec.bits_inv, ← searchV_apply]
  rfl

theorem scaleV_apply (v : FVec Ideal S384x1 .f32) (y : S384x1.Idx) : scaleV v y = RowSpec.scaleOf (v y) := by
  rw [← RowSpec.bits_scale, ← searchV_apply]
  rfl

/-- The row maximum times the constant 1/448. -/
def scaledV (m : FVec Ideal S384x1 .f32) : FVec Ideal S384x1 .f32 := mulf m (broadcast S384x1 (Scalar.ofBits .f32 0x3B124925#32))

/-- The scale and the inverse scale of a column of rows, one for a row of zeros. -/
def fullScale (m : FVec Ideal S384x1 .f32) : FVec Ideal S384x1 .f32 :=
  select (cmpf .oeq m (broadcast S384x1 (Scalar.ofBits .f32 0x00000000#32))) (broadcast S384x1 (Scalar.ofBits .f32 0x3F800000#32)) (scaleV (scaledV m))
@[inherit_doc fullScale]
def fullInv (m : FVec Ideal S384x1 .f32) : FVec Ideal S384x1 .f32 :=
  select (cmpf .oeq m (broadcast S384x1 (Scalar.ofBits .f32 0x00000000#32))) (broadcast S384x1 (Scalar.ofBits .f32 0x3F800000#32)) (invV (scaledV m))

theorem select_zero (m x y : FVec Ideal S384x1 .f32) (r : Fin 384) :
    select (cmpf .oeq m (broadcast S384x1 (Scalar.ofBits .f32 0x00000000#32))) x y (ix2 r (0 : Fin 1))
      = (if (m (ix2 r 0) : EReal) = 0 then x (ix2 r 0) else y (ix2 r 0) : EReal) := by
  pointwise

theorem fullScale_apply (m : FVec Ideal S384x1 .f32) (r : Fin 384) : fullScale m (ix2 r (0 : Fin 1)) = RowSpec.scale (m (ix2 r 0)) := by
  unfold fullScale RowSpec.scale
  rw [select_zero, scaleV_apply]
  congr 1
  exact Ideal.ofBits_one_f32

theorem fullInv_apply (m : FVec Ideal S384x1 .f32) (r : Fin 384) :
    fullInv m (ix2 r (0 : Fin 1)) = Ideal.div 1 (RowSpec.scale (m (ix2 r 0))) := by
  unfold fullInv RowSpec.scale
  rw [select_zero, invV_apply]
  split
  · show Ideal.ofBits .f32 0x3F800000#32 = _
    rw [Ideal.ofBits_one_f32]
    unfold Ideal.div
    rw [if_neg one_ne_zero, inv_one, one_mul]
  · rfl

/-- The codes of a block of rows under a column of inverse scales. -/
def codesH (x : FVec Ideal S384x1 .f32) (h : FVec Ideal S384x3072 .f32) : FVec Ideal S384x3072 .fp8e4m3 :=
  truncf .fp8e4m3 (minimumf (broadcast S384x3072 (Scalar.ofBits .f32 0x43E00000#32)) (maximumf (broadcast S384x3072 (Scalar.ofBits .f32 0xC3E00000#32))
    (mulf h (broadcastTo S384x3072 x broadcasts_S384x1_S384x3072)))) bitsLt_fp8e4m3_f32
@[inherit_doc codesH]
def codesC (x : FVec Ideal S384x1 .f32) (h : FVec Ideal S384x128 .f32) : FVec Ideal S384x128 .fp8e4m3 :=
  truncf .fp8e4m3 (minimumf (broadcast S384x128 (Scalar.ofBits .f32 0x43E00000#32)) (maximumf (broadcast S384x128 (Scalar.ofBits .f32 0xC3E00000#32))
    (mulf h (broadcastTo S384x128 x broadcasts_S384x1_S384x128)))) bitsLt_fp8e4m3_f32

theorem codesH_apply (x : FVec Ideal S384x1 .f32) (h : FVec Ideal S384x3072 .f32) (r : Fin 384) (j : Fin 3072) :
    codesH x h (ix2 r j) = min (Ideal.ofBits .f32 0x43E00000#32) (max (Ideal.ofBits .f32 0xC3E00000#32) (h (ix2 r j) * x (ix2 r 0))) := by
  pointwise [codesH]

theorem codesC_apply (x : FVec Ideal S384x1 .f32) (h : FVec Ideal S384x128 .f32) (r : Fin 384) (j : Fin 128) :
    codesC x h (ix2 r j) = min (Ideal.ofBits .f32 0x43E00000#32) (max (Ideal.ofBits .f32 0xC3E00000#32) (h (ix2 r j) * x (ix2 r 0))) := by
  pointwise [codesC]

theorem castH_apply (x : FVec Ideal S384x3072 .fp8e4m3) (r : Fin 384) (j : Fin 3072) :
    shapeCast S1x384x3072 x shapeCasts_S384x3072_S1x384x3072 (ix3 (0 : Fin 1) r j) = x (ix2 r j) := by
  pointwise

theorem castC_apply (x : FVec Ideal S384x128 .fp8e4m3) (r : Fin 384) (j : Fin 128) :
    shapeCast S1x384x128 x shapeCasts_S384x128_S1x384x128 (ix3 (0 : Fin 1) r j) = x (ix2 r j) := by
  pointwise

/-- A column of scales laid along a row. -/
def rowOf (x : FVec Ideal S384x1 .f32) : FVec Ideal S1x1x384 .f32 :=
  shapeCast S1x1x384 (extractStridedSlice S1x384 ![0, 0] (transpose S128x384 [1, 0]
    (broadcastTo S384x128 (shapeCast S384x1 x shapeCasts_S384x1_S384x1) broadcasts_S384x1_S384x128) transposes_S384x128_p1_0_S128x384)
    slices_S128x384_o0_0_S1x384) shapeCasts_S1x384_S1x1x384

theorem rowOf_apply (x : FVec Ideal S384x1 .f32) (r : Fin 384) : rowOf x (ix3 (0 : Fin 1) (0 : Fin 1) r) = x (ix2 r 0) := by
  pointwise [rowOf]

/-- The second layer of a block of rows. -/
def accV (q : FVec Ideal S384x3072 .fp8e4m3) (y : FVec Ideal S384x1 .f32) (w : Vec Ideal S3072x128 .fp8e4m3) (s b : Vec Ideal S1x128 .f32) :
    FVec Ideal S384x128 .f32 :=
  addf (mulf (mulf (matmul (φ₂ := .fp8e4m3) dot_S384x3072_S3072x128_S384x128_1_0_0_1_n_n none q w (constant S384x128 .f32 0x00000000#32))
    (broadcastTo S384x128 y broadcasts_S384x1_S384x128))
    (broadcastTo S384x128 (shapeCast S1x128 s shapeCasts_S1x128_S1x128) broadcasts_S1x128_S384x128))
    (broadcastTo S384x128 (shapeCast S1x128 b shapeCasts_S1x128_S1x128) broadcasts_S1x128_S384x128)

theorem accV_apply (q : FVec Ideal S384x3072 .fp8e4m3) (y : FVec Ideal S384x1 .f32) (w : Vec Ideal S3072x128 .fp8e4m3) (s b : Vec Ideal S1x128 .f32)
    (r : Fin 384) (d : Fin 128) :
    accV q y w s b (ix2 r d) = (∑ j, q (ix2 r j) * w (ix2 j d)) * y (ix2 r 0) * s (ix2 0 d) + b (ix2 0 d) := by
  pointwise [accV]

/-- The greatest absolute value of each row of the second layer. -/
def amaxC (x : FVec Ideal S384x128 .f32) : FVec Ideal S384x1 .f32 :=
  shapeCast S384x1 (multiReduction .maximumf [1] S384 (absf x) 0xFF800000#32 reduces_S384x128_S384 (.inl rfl) rfl) shapeCasts_S384_S384x1

theorem amaxC_apply (x : FVec Ideal S384x128 .f32) (r : Fin 384) : amaxC x (ix2 r (0 : Fin 1)) = RowSpec.amax fun d : Fin 128 => (x (ix2 r d) : EReal) := by
  unfold amaxC
  rw [rowmax_apply]
  rfl

variable (i : grid0.Coords) (v16 : View sig .tc .vmem S384x4096 .bf16) (v17 : View sig .tc .vmem S384x3072 .f32)
  (T : S6152x2x128.Idx → Elt Ideal .bf16) (x2 : S32x128.Idx → Elt Ideal .f32) (x3 : S4096x3072.Idx → Elt Ideal .fp8e4m3)
  (x4 : S1x3072.Idx → Elt Ideal .f32) (x5 : S1x3072.Idx → Elt Ideal .f32) (x6 : S3072x128.Idx → Elt Ideal .fp8e4m3)
  (x7 : S1x128.Idx → Elt Ideal .f32) (x8 : S1x128.Idx → Elt Ideal .f32)

/-- The codes of the first layer as the body has them, their scale, and the second layer. -/
theorem hq_apply (r : Fin 384) (j : Fin 3072) : codesH (fullInv (Val.v760 (F := Ideal) i v16 v17 T x2 x3 x4 x5 x6 x7 x8)) (Val.v834 (F := Ideal) i v16 v17 T x2 x3 x4 x5 x6 x7 x8) (ix2 r j)
    = RowSpec.hcode (fun κ => matA i T x2 (ix2 r κ)) (fun κ j => x3 (ix2 κ j)) (fun j => x4 (ix2 0 j)) (fun j => x5 (ix2 0 j)) j := by
  rw [codesH_apply, fullInv_apply, v760_apply, v834_apply]
  rfl

theorem hs_apply (r : Fin 384) : fullScale (Val.v760 (F := Ideal) i v16 v17 T x2 x3 x4 x5 x6 x7 x8) (ix2 r (0 : Fin 1))
    = RowSpec.hscale (fun κ => matA i T x2 (ix2 r κ)) (fun κ j => x3 (ix2 κ j)) (fun j => x4 (ix2 0 j)) (fun j => x5 (ix2 0 j)) := by
  rw [fullScale_apply, v760_apply]
  rfl

theorem v863_eq : Val.v863 (F := Ideal) i v16 v17 T x2 x3 x4 x5 x6 x7 x8 = accV (codesH (fullInv (Val.v760 (F := Ideal) i v16 v17 T x2 x3 x4 x5 x6 x7 x8)) (Val.v834 (F := Ideal) i v16 v17 T x2 x3 x4 x5 x6 x7 x8))
    (fullScale (Val.v760 (F := Ideal) i v16 v17 T x2 x3 x4 x5 x6 x7 x8)) (Val.v852 (F := Ideal) i v16 v17 T x2 x3 x4 x5 x6 x7 x8) (Val.v856 (F := Ideal) i v16 v17 T x2 x3 x4 x5 x6 x7 x8) (Val.v860 (F := Ideal) i v16 v17 T x2 x3 x4 x5 x6 x7 x8) := rfl

theorem v863_apply (r : Fin 384) (d : Fin 128) : Val.v863 (F := Ideal) i v16 v17 T x2 x3 x4 x5 x6 x7 x8 (ix2 r d)
    = RowSpec.acc (fun κ => matA i T x2 (ix2 r κ)) (fun κ j => x3 (ix2 κ j)) (fun j => x4 (ix2 0 j)) (fun j => x5 (ix2 0 j))
      (fun j d => x6 (ix2 j d)) (fun d => x7 (ix2 0 d)) (fun d => x8 (ix2 0 d)) d := by
  rw [v863_eq, accV_apply, hs_apply]
  simp only [hq_apply]
  have e6 : ∀ j, Val.v852 (F := Ideal) i v16 v17 T x2 x3 x4 x5 x6 x7 x8 (ix2 j d) = x6 (ix2 j d) := fun j =>
    ld_apply x6 _ _ _ _ (show 0 + 1 * j.val = j.val by omega) (show 0 + 1 * d.val = d.val by omega)
  have e7 : Val.v856 (F := Ideal) i v16 v17 T x2 x3 x4 x5 x6 x7 x8 (ix2 0 d) = x7 (ix2 0 d) := ld_apply x7 _ _ _ _ rfl (show 0 + 1 * d.val = d.val by omega)
  have e8 : Val.v860 (F := Ideal) i v16 v17 T x2 x3 x4 x5 x6 x7 x8 (ix2 0 d) = x8 (ix2 0 d) := ld_apply x8 _ _ _ _ rfl (show 0 + 1 * d.val = d.val by omega)
  rw [e7, e8]
  simp only [e6]
  rfl

/-- Result 1: the codes of the first layer. -/
theorem out9_apply (r : Fin 384) (j : Fin 3072) : Val.out9 (F := Ideal) i v16 v17 T x2 x3 x4 x5 x6 x7 x8 (ix3 (0 : Fin 1) r j)
    = RowSpec.hcode (fun κ => matA i T x2 (ix2 r κ)) (fun κ j => x3 (ix2 κ j)) (fun j => x4 (ix2 0 j)) (fun j => x5 (ix2 0 j)) j := by
  have h : Val.out9 (F := Ideal) i v16 v17 T x2 x3 x4 x5 x6 x7 x8 = shapeCast S1x384x3072 (codesH (fullInv (Val.v760 (F := Ideal) i v16 v17 T x2 x3 x4 x5 x6 x7 x8)) (Val.v834 (F := Ideal) i v16 v17 T x2 x3 x4 x5 x6 x7 x8)) shapeCasts_S384x3072_S1x384x3072 :=
    View.canon_unit_zero (by funext a; fin_cases a <;> rfl) _ _
  rw [h, castH_apply, hq_apply]

/-- Result 2: their scales. -/
theorem out10_apply (r : Fin 384) : Val.out10 (F := Ideal) i v16 v17 T x2 x3 x4 x5 x6 x7 x8 (ix3 (0 : Fin 1) (0 : Fin 1) r)
    = RowSpec.hscale (fun κ => matA i T x2 (ix2 r κ)) (fun κ j => x3 (ix2 κ j)) (fun j => x4 (ix2 0 j)) (fun j => x5 (ix2 0 j)) := by
  have h : Val.out10 (F := Ideal) i v16 v17 T x2 x3 x4 x5 x6 x7 x8 = rowOf (fullScale (Val.v760 (F := Ideal) i v16 v17 T x2 x3 x4 x5 x6 x7 x8)) :=
    View.canon_unit_zero (by funext a; fin_cases a <;> rfl) _ _
  rw [h, rowOf_apply, hs_apply]

/-- Result 3: the codes of the second layer. -/
theorem out11_apply (r : Fin 384) (d : Fin 128) : Val.out11 (F := Ideal) i v16 v17 T x2 x3 x4 x5 x6 x7 x8 (ix3 (0 : Fin 1) r d)
    = RowSpec.ccode (fun κ => matA i T x2 (ix2 r κ)) (fun κ j => x3 (ix2 κ j)) (fun j => x4 (ix2 0 j)) (fun j => x5 (ix2 0 j))
      (fun j d => x6 (ix2 j d)) (fun d => x7 (ix2 0 d)) (fun d => x8 (ix2 0 d)) d := by
  have h : Val.out11 (F := Ideal) i v16 v17 T x2 x3 x4 x5 x6 x7 x8 = shapeCast S1x384x128 (codesC (fullInv (amaxC (Val.v863 (F := Ideal) i v16 v17 T x2 x3 x4 x5 x6 x7 x8))) (Val.v863 (F := Ideal) i v16 v17 T x2 x3 x4 x5 x6 x7 x8)) shapeCasts_S384x128_S1x384x128 :=
    View.canon_unit_zero (by funext a; fin_cases a <;> rfl) _ _
  rw [h, castC_apply, codesC_apply, fullInv_apply, amaxC_apply]
  simp only [v863_apply]
  rfl

/-- Result 4: their scales. -/
theorem out12_apply (r : Fin 384) : Val.out12 (F := Ideal) i v16 v17 T x2 x3 x4 x5 x6 x7 x8 (ix3 (0 : Fin 1) (0 : Fin 1) r)
    = RowSpec.cscale (fun κ => matA i T x2 (ix2 r κ)) (fun κ j => x3 (ix2 κ j)) (fun j => x4 (ix2 0 j)) (fun j => x5 (ix2 0 j))
      (fun j d => x6 (ix2 j d)) (fun d => x7 (ix2 0 d)) (fun d => x8 (ix2 0 d)) := by
  have h : Val.out12 (F := Ideal) i v16 v17 T x2 x3 x4 x5 x6 x7 x8 = rowOf (fullScale (amaxC (Val.v863 (F := Ideal) i v16 v17 T x2 x3 x4 x5 x6 x7 x8))) :=
    View.canon_unit_zero (by funext a; fin_cases a <;> rfl) _ _
  rw [h, rowOf_apply, fullScale_apply, amaxC_apply]
  simp only [v863_apply]
  rfl

end Cert.KernelIdeal.Pure
-- ==== Proof.KernelIdealFinal.lean ====
/-
  Hand-written, untrusted. The final arrays of `KernelIdeal`'s compress call: each result element is the specification's
  function of the argument arrays, and every execution ends with those arrays.
-/
module

public import proofs.«01_k».proof.Proof.KernelIdealReads
public import proofs.«01_k».proof.Proof.KernelIdealQuant

@[expose] public section

set_option maxRecDepth 16384

noncomputable section

namespace Cert.KernelIdeal.Final

open Cert.KernelIdeal Cert.KernelIdeal.Gen Cert.KernelIdeal.ValFrame Cert.KernelIdeal.Reads
open Idealize.ShloMosaic Idealize.ShloMosaic.TcCoe Idealize.SL.Sem

variable (m : (ℓ : Loc nD τ sig) → Buf (Elt Ideal) ℓ) (c : Dev nD)

/-- The argument arrays, read at their coordinates. -/
abbrev A0 : Fin 12288 → Fin 6 → Fin 128 → EReal := fun n g d => m ((c : Thread nD τ).loc main_arg0) (ix4 (0 : Fin 1) n g d)
@[inherit_doc A0] abbrev A1 : Fin 12288 → Fin 6 → EReal := fun n g => m ((c : Thread nD τ).loc main_arg1) (ix3 (0 : Fin 1) n g)
@[inherit_doc A0] abbrev A2 : Fin 32 → Fin 128 → EReal := fun k d => m ((c : Thread nD τ).loc main_arg2) (ix2 k d)
@[inherit_doc A0] abbrev A3 : Fin 4096 → Fin 3072 → EReal := fun κ j => m ((c : Thread nD τ).loc main_arg3) (ix2 κ j)
@[inherit_doc A0] abbrev A4 : Fin 3072 → EReal := fun j => m ((c : Thread nD τ).loc main_arg4) (ix1 j)
@[inherit_doc A0] abbrev A5 : Fin 3072 → EReal := fun j => m ((c : Thread nD τ).loc main_arg5) (ix1 j)
@[inherit_doc A0] abbrev A6 : Fin 3072 → Fin 128 → EReal := fun j d => m ((c : Thread nD τ).loc main_arg6) (ix2 j d)
@[inherit_doc A0] abbrev A7 : Fin 128 → EReal := fun d => m ((c : Thread nD τ).loc main_arg7) (ix1 d)
@[inherit_doc A0] abbrev A8 : Fin 128 → EReal := fun d => m ((c : Thread nD τ).loc main_arg8) (ix1 d)

/-- The gathered row of a block, from the argument arrays. -/
abbrev rowOf (g : Fin 6) (b : ℕ) : Fin 4096 → EReal := RowSpec.row (A0 m c) (A1 m c) (A2 m c) g b

/-- The second grid coordinate of a point is its parity. -/
theorem coord1 : ∀ t : Fin cfg0.N, (grid0.coords t 1).val = t.val % 2 := (by decide +kernel : ∀ t : Fin grid0.N, _)

/-- The point that fills the token scratch belongs to the same head. -/
theorem ept_half : ∀ t : Fin cfg0.N, (ept t.val).val / 2 = t.val / 2 := (by decide +kernel : ∀ t : Fin grid0.N, _)

/-- The row which point `t` gathers is the row of the specification. -/
theorem row_eq (t : Fin cfg0.N) (r : Fin 384) :
    (fun κ : Fin 4096 => Pure.matA (grid0.coords t) (Tn m c t.val) (iblk m c 2 t) (ix2 r κ))
      = rowOf m c ⟨t.val / 2, half t⟩ (384 * (t.val % 2) + r.val) := by
  funext κ
  have h1 := coord1 t
  show Pure.rowA (grid0.coords t) (Tn m c t.val) (iblk m c 2 t) r ⟨κ.val / 128, _⟩ ⟨κ.val % 128, _⟩ = _
  unfold Pure.rowA rowOf RowSpec.row RowSpec.token
  refine congrArg₂ (· + ·) ?_ (read2 m c t _ _)
  have hk := κ.isLt
  have hr := r.isLt
  have hm := Nat.mod_lt t.val (show 0 < 2 by decide)
  unfold Tn Pure.tok
  have hn : 2 * (3072 * (grid0.coords t 1).val + κ.val / 128 / 2 + 8 * r.val) + κ.val / 128 % 2
      = 16 * (384 * (t.val % 2) + r.val) + κ.val / 128 := by omega
  by_cases hlt : 16 * (384 * (t.val % 2) + r.val) + κ.val / 128 < 12288
  · rw [dif_pos hlt]
    refine (dif_pos (show 3072 * (grid0.coords t 1).val + κ.val / 128 / 2 + 8 * r.val < 6144 by omega)).trans ?_
    have hg : (⟨(ept t.val).val / 2, half (ept t.val)⟩ : Fin 6) = ⟨t.val / 2, half t⟩ := Fin.ext (ept_half t)
    refine congrArg₂ (· * ·) ((read0 m c (ept t.val) _ _).trans ?_) ((read1 m c (ept t.val) _).trans ?_)
    · rw [hg]
      refine congrArg (fun n : Fin 12288 => m ((c : Thread nD τ).loc main_arg0) (ix4 (0 : Fin 1) n _ _)) (Fin.ext hn)
    · rw [hg]
      refine congrArg (fun n : Fin 12288 => m ((c : Thread nD τ).loc main_arg1) (ix3 (0 : Fin 1) n _)) (Fin.ext hn)
  · rw [dif_neg hlt]
    exact dif_neg (show ¬ 3072 * (grid0.coords t 1).val + κ.val / 128 / 2 + 8 * r.val < 6144 by omega)

/-- Input window 3 is the whole argument. -/
theorem w3 (t : Fin cfg0.N) : (fun (κ : Fin 4096) (j : Fin 3072) => (iblk m c 3 t (ix2 κ j) : EReal)) = A3 m c := by
  funext κ j; exact read3 m c t κ j
/-- Input window 4 is the whole argument. -/
theorem w4 (t : Fin cfg0.N) : (fun (j : Fin 3072) => (iblk m c 4 t (ix2 (0 : Fin 1) j) : EReal)) = A4 m c := by
  funext j; exact read4 m c t j
/-- Input window 5 is the whole argument. -/
theorem w5 (t : Fin cfg0.N) : (fun (j : Fin 3072) => (iblk m c 5 t (ix2 (0 : Fin 1) j) : EReal)) = A5 m c := by
  funext j; exact read5 m c t j
/-- Input window 6 is the whole argument. -/
theorem w6 (t : Fin cfg0.N) : (fun (j : Fin 3072) (d : Fin 128) => (iblk m c 6 t (ix2 j d) : EReal)) = A6 m c := by
  funext j d; exact read6 m c t j d
/-- Input window 7 is the whole argument. -/
theorem w7 (t : Fin cfg0.N) : (fun (d : Fin 128) => (iblk m c 7 t (ix2 (0 : Fin 1) d) : EReal)) = A7 m c := by
  funext d; exact read7 m c t d
/-- Input window 8 is the whole argument. -/
theorem w8 (t : Fin cfg0.N) : (fun (d : Fin 128) => (iblk m c 8 t (ix2 (0 : Fin 1) d) : EReal)) = A8 m c := by
  funext d; exact read8 m c t d

/-- Result array 1, the hidden codes. -/
def fin9 : S6x768x3072.Idx → EReal := fun y => RowSpec.hcode (rowOf m c (y 0) (y 1).val) (A3 m c) (A4 m c) (A5 m c) (y 2)

/-- Result array 2, the hidden scales. -/
def fin10 : S6x1x768.Idx → EReal := fun y => RowSpec.hscale (rowOf m c (y 0) (y 2).val) (A3 m c) (A4 m c) (A5 m c)

/-- Result array 3, the compressed codes. -/
def fin11 : S6x768x128.Idx → EReal := fun y => RowSpec.ccode (rowOf m c (y 0) (y 1).val) (A3 m c) (A4 m c) (A5 m c) (A6 m c) (A7 m c) (A8 m c) (y 2)

/-- Result array 4, the compressed scales. -/
def fin12 : S6x1x768.Idx → EReal := fun y => RowSpec.cscale (rowOf m c (y 0) (y 2).val) (A3 m c) (A4 m c) (A5 m c) (A6 m c) (A7 m c) (A8 m c)

/-- The value that point `t` stores for output window 9, element by element. -/
theorem point9 (t : Fin cfg0.N) (r : Fin 384) (j : Fin 3072) : o9 m c t (ix3 (0 : Fin 1) r j) = fin9 m c (ix3 (⟨t.val / 2, half t⟩ : Fin 6) (⟨384 * (t.val % 2) + r.val, by omega⟩ : Fin 768) j) := by
  unfold o9
  refine (Pure.out9_apply (grid0.coords t) (Memref.whole cc0_scratch1).view (Memref.whole cc0_scratch2).view (Tn m c t.val) (iblk m c 2 t) (iblk m c 3 t) (iblk m c 4 t) (iblk m c 5 t) (iblk m c 6 t) (iblk m c 7 t) (iblk m c 8 t) r j).trans ?_
  unfold fin9
  rw [row_eq, w3 m c t, w4 m c t, w5 m c t]
  rfl

/-- The value that point `t` stores for output window 10, element by element. -/
theorem point10 (t : Fin cfg0.N) (r : Fin 384) : o10 m c t (ix3 (0 : Fin 1) (0 : Fin 1) r) = fin10 m c (ix3 (⟨t.val / 2, half t⟩ : Fin 6) (0 : Fin 1) (⟨384 * (t.val % 2) + r.val, by omega⟩ : Fin 768)) := by
  unfold o10
  refine (Pure.out10_apply (grid0.coords t) (Memref.whole cc0_scratch1).view (Memref.whole cc0_scratch2).view (Tn m c t.val) (iblk m c 2 t) (iblk m c 3 t) (iblk m c 4 t) (iblk m c 5 t) (iblk m c 6 t) (iblk m c 7 t) (iblk m c 8 t) r).trans ?_
  unfold fin10
  rw [row_eq, w3 m c t, w4 m c t, w5 m c t]
  rfl

/-- The value that point `t` stores for output window 11, element by element. -/
theorem point11 (t : Fin cfg0.N) (r : Fin 384) (j : Fin 128) : o11 m c t (ix3 (0 : Fin 1) r j) = fin11 m c (ix3 (⟨t.val / 2, half t⟩ : Fin 6) (⟨384 * (t.val % 2) + r.val, by omega⟩ : Fin 768) j) := by
  unfold o11
  refine (Pure.out11_apply (grid0.coords t) (Memref.whole cc0_scratch1).view (Memref.whole cc0_scratch2).view (Tn m c t.val) (iblk m c 2 t) (iblk m c 3 t) (iblk m c 4 t) (iblk m c 5 t) (iblk m c 6 t) (iblk m c 7 t) (iblk m c 8 t) r j).trans ?_
  unfold fin11
  rw [row_eq, w3 m c t, w4 m c t, w5 m c t, w6 m c t, w7 m c t, w8 m c t]
  rfl

/-- The value that point `t` stores for output window 12, element by element. -/
theorem point12 (t : Fin cfg0.N) (r : Fin 384) : o12 m c t (ix3 (0 : Fin 1) (0 : Fin 1) r) = fin12 m c (ix3 (⟨t.val / 2, half t⟩ : Fin 6) (0 : Fin 1) (⟨384 * (t.val % 2) + r.val, by omega⟩ : Fin 768)) := by
  unfold o12
  refine (Pure.out12_apply (grid0.coords t) (Memref.whole cc0_scratch1).view (Memref.whole cc0_scratch2).view (Tn m c t.val) (iblk m c 2 t) (iblk m c 3 t) (iblk m c 4 t) (iblk m c 5 t) (iblk m c 6 t) (iblk m c 7 t) (iblk m c 8 t) r).trans ?_
  unfold fin12
  rw [row_eq, w3 m c t, w4 m c t, w5 m c t, w6 m c t, w7 m c t, w8 m c t]
  rfl

/-- The final array of output window 9. -/
theorem final9 : (dats m 0 c).arrAt 9 cfg0.N = fin9 m c := by
  refine (dats m 0 c).arrAt_eq_of_covers 9 (fin9 m c) (by decide +kernel) fun t _ y => ?_
  blk_simp
  rw [after_9]
  obtain ⟨r, j, rfl⟩ : ∃ (r : Fin 384) (j : Fin 3072), y = ix3 (0 : Fin 1) r j :=
    ⟨y 1, y 2, by funext a; fin_cases a <;> first | rfl | exact Subsingleton.elim (α := Fin 1) _ _⟩
  refine (point9 m c t r j).trans (congrArg (fin9 m c) (funext fun a => Fin.ext ?_))
  fin_cases a <;> blk_simp [(idx t)] <;>
    first | rfl | (show 384 * (t.val % 2) + r.val = t.val % 2 * 384 + r.val; omega)

/-- The final array of output window 10. -/
theorem final10 : (dats m 0 c).arrAt 10 cfg0.N = fin10 m c := by
  refine (dats m 0 c).arrAt_eq_of_covers 10 (fin10 m c) (by decide +kernel) fun t _ y => ?_
  blk_simp
  rw [after_10]
  obtain ⟨r, rfl⟩ : ∃ (r : Fin 384), y = ix3 (0 : Fin 1) (0 : Fin 1) r :=
    ⟨y 2, by funext a; fin_cases a <;> first | rfl | exact Subsingleton.elim (α := Fin 1) _ _⟩
  refine (point10 m c t r).trans (congrArg (fin10 m c) (funext fun a => Fin.ext ?_))
  fin_cases a <;> blk_simp [(idx t)] <;>
    first | rfl | (show 384 * (t.val % 2) + r.val = t.val % 2 * 384 + r.val; omega)

/-- The final array of output window 11. -/
theorem final11 : (dats m 0 c).arrAt 11 cfg0.N = fin11 m c := by
  refine (dats m 0 c).arrAt_eq_of_covers 11 (fin11 m c) (by decide +kernel) fun t _ y => ?_
  blk_simp
  rw [after_11]
  obtain ⟨r, j, rfl⟩ : ∃ (r : Fin 384) (j : Fin 128), y = ix3 (0 : Fin 1) r j :=
    ⟨y 1, y 2, by funext a; fin_cases a <;> first | rfl | exact Subsingleton.elim (α := Fin 1) _ _⟩
  refine (point11 m c t r j).trans (congrArg (fin11 m c) (funext fun a => Fin.ext ?_))
  fin_cases a <;> blk_simp [(idx t)] <;>
    first | rfl | (show 384 * (t.val % 2) + r.val = t.val % 2 * 384 + r.val; omega)

/-- The final array of output window 12. -/
theorem final12 : (dats m 0 c).arrAt 12 cfg0.N = fin12 m c := by
  refine (dats m 0 c).arrAt_eq_of_covers 12 (fin12 m c) (by decide +kernel) fun t _ y => ?_
  blk_simp
  rw [after_12]
  obtain ⟨r, rfl⟩ : ∃ (r : Fin 384), y = ix3 (0 : Fin 1) (0 : Fin 1) r :=
    ⟨y 2, by funext a; fin_cases a <;> first | rfl | exact Subsingleton.elim (α := Fin 1) _ _⟩
  refine (point12 m c t r).trans (congrArg (fin12 m c) (funext fun a => Fin.ext ?_))
  fin_cases a <;> blk_simp [(idx t)] <;>
    first | rfl | (show 384 * (t.val % 2) + r.val = t.val % 2 * 384 + r.val; omega)

/-- Every execution ends with the four results at these arrays and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v7_0) = fin9 m c
      ∧ r.2.mem ((c.tc : Thread nD τ).loc main_v7_1) = fin10 m c
      ∧ r.2.mem ((c.tc : Thread nD τ).loc main_v7_2) = fin11 m c
      ∧ r.2.mem ((c.tc : Thread nD τ).loc main_v7_3) = fin12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 9).trans (final9 m c),
      ((h c).1 10).trans (final10 m c),
      ((h c).1 11).trans (final11 m c),
      ((h c).1 12).trans (final12 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans ((dats m 0 c).arrAt_in 2 rfl _ |>.trans ((A_eq m c 2).trans (V_main_arg2 m c))),
      ((h c).1 3).trans ((dats m 0 c).arrAt_in 3 rfl _ |>.trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans ((dats m 0 c).arrAt_in 6 rfl _ |>.trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.KernelIdeal.Final

end
-- ==== Proof.ReferenceIdealRows.lean ====
/-
  Hand-written, untrusted. The payloads of `ReferenceIdeal`'s body over the extended reals, entry by entry, in the words of
  RowSpec.lean and Quantiser.lean: row `r = 768 g + b` of the 4608 rows is block `b` of head `g`. Every lemma is stated over
  variables and carried to the payloads by definition.
-/
module

public import proofs.«01_k».proof.Proof.Quantiser
public import proofs.«01_k».proof.Proof.Gen.ReferenceIdeal.Skeleton
public import Idealize.ShloMosaic.Lib.Pointwise

@[expose] public section

set_option maxRecDepth 16384

noncomputable section

namespace Cert.ReferenceIdeal.Pure

open Cert.ReferenceIdeal Cert.ReferenceIdeal.Gen
open Idealize.ShloMosaic Idealize.ShloMosaic.TcCoe Idealize.SL.Sem

/-! ## The quantiser -/

/-- A row's maximum of absolute values, of 3072 entries and of 128. -/
theorem rowMax (h : FVec Ideal S4608x3072 .f32) (r : Fin 4608) :
    (multiReduction .maximumf [1] S4608 (absf h) 0xFF800000#32 reduces_S4608x3072_S4608 (.inl rfl) rfl : FVec Ideal S4608 .f32) (ix1 r)
      = RowSpec.amax (fun j => h (ix2 r j)) := by
  have e : (multiReduction .maximumf [1] S4608 (absf h) 0xFF800000#32 reduces_S4608x3072_S4608 (.inl rfl) rfl : FVec Ideal S4608 .f32) (ix1 r)
      = Finset.fold max (Ideal.ofBits .f32 0xFF800000#32) (fun x : Fin 3072 => RowSpec.abs' (h (ix2 r x))) Finset.univ := by
    pointwise
    rfl
  rw [e, RowSpec.fold_max]; rfl
@[inherit_doc rowMax]
theorem rowMax' (h : FVec Ideal S4608x128 .f32) (r : Fin 4608) :
    (multiReduction .maximumf [1] S4608 (absf h) 0xFF800000#32 reduces_S4608x128_S4608 (.inl rfl) rfl : FVec Ideal S4608 .f32) (ix1 r)
      = RowSpec.amax (fun j => h (ix2 r j)) := by
  have e : (multiReduction .maximumf [1] S4608 (absf h) 0xFF800000#32 reduces_S4608x128_S4608 (.inl rfl) rfl : FVec Ideal S4608 .f32) (ix1 r)
      = Finset.fold max (Ideal.ofBits .f32 0xFF800000#32) (fun x : Fin 128 => RowSpec.abs' (h (ix2 r x))) Finset.univ := by
    pointwise
    rfl
  rw [e, RowSpec.fold_max]; rfl

/-- A column read off a vector of rows. -/
theorem column (v : FVec Ideal S4608 .f32) (r : Fin 4608) :
    (shapeCast S4608x1 v shapeCasts_S4608_S4608x1 : FVec Ideal S4608x1 .f32) (ix2 r (0 : Fin 1)) = v (ix1 r) := by
  pointwise

/-- The candidate powers of two, from 2 to the minus 126 to 2 to the 126. -/
def powers : FVec Ideal S1x253 .f32 :=
  exp2 (subf (sitofp .f32 (iota .tc S1x253 32 [1] iota_S1x253_d1_w32)) (broadcast S1x253 (Scalar.ofBits (F := Ideal) .f32 0x42FC0000#32)))

theorem toInt_small : ∀ x : Fin 253, (BitVec.ofNat 32 x.val).toInt = (x.val : ℤ) := by decide +kernel

theorem bits_126 : Ideal.ofBits .f32 0x42FC0000#32 = ((126 : ℝ) : EReal) := by
  simp [Ideal.ofBits, Ideal.ieee]
  rw [← EReal.coe_mul]
  norm_num

theorem rpow_zpow (x : ℕ) : (2 : ℝ) ^ ((x : ℝ) - 126) = (2 : ℝ) ^ (((x + 1 : ℕ) : ℤ) - 127) := by
  rw [show ((x : ℝ) - 126) = ((((x + 1 : ℕ) : ℤ) - 127 : ℤ) : ℝ) by push_cast; ring, Real.rpow_intCast]

theorem rpow_pw (x : ℕ) : (((2 : ℝ) ^ ((x : ℝ) - 126) : ℝ) : EReal) = RowSpec.pw (x + 1) := by
  unfold RowSpec.pw
  rw [rpow_zpow]

theorem powers_apply (x : Fin 253) : powers (ix2 (0 : Fin 1) x) = RowSpec.pw (x.val + 1) := by
  have e : powers (ix2 (0 : Fin 1) x)
      = Ideal.exp2 ((((BitVec.ofNat 32 x.val).toInt : ℝ) : EReal) - Ideal.ofBits .f32 0x42FC0000#32) := by
    pointwise [powers]
    rfl
  rw [e, toInt_small, bits_126, ← rpow_pw, ← EReal.coe_sub]
  rfl

/-- The scale as the reference spells it: one where the maximum is zero, else the least of the candidate powers above the
    maximum over 448, the others counted as the largest. -/
def scaleV (a : FVec Ideal S4608x1 .f32) (p : FVec Ideal S1x253 .f32) : FVec Ideal S4608x1 .f32 :=
  select (cmpf .oeq a (broadcast S4608x1 (Scalar.ofBits (F := Ideal) .f32 0x00000000#32))) (broadcast S4608x1 (Scalar.ofBits (F := Ideal) .f32 0x3F800000#32))
    (shapeCast S4608x1 (multiReduction .minimumf [1] S4608
      (select (cmpf .olt (broadcastTo S4608x253 (mulf a (broadcast S4608x1 (Scalar.ofBits (F := Ideal) .f32 0x3B124925#32))) broadcasts_S4608x1_S4608x253)
          (broadcastTo S4608x253 p broadcasts_S1x253_S4608x253))
        (broadcastTo S4608x253 (shapeCast S1x253 p shapeCasts_S1x253_S1x253) broadcasts_S1x253_S4608x253)
        (broadcast S4608x253 (Scalar.ofBits (F := Ideal) .f32 0x7E800000#32))) 0x7F800000#32 reduces_S4608x253_S4608 (.inl rfl) rfl) shapeCasts_S4608_S4608x1)

theorem scaleV_fold (a : FVec Ideal S4608x1 .f32) (p : FVec Ideal S1x253 .f32) (r : Fin 4608) :
    scaleV a p (ix2 r (0 : Fin 1)) = if a (ix2 r (0 : Fin 1)) = 0 then 1 else
      Finset.fold min (Ideal.ofBits .f32 0x7F800000#32) (fun x : Fin 253 =>
        if a (ix2 r (0 : Fin 1)) * Ideal.ofBits .f32 0x3B124925#32 < p (ix2 (0 : Fin 1) x) then p (ix2 (0 : Fin 1) x)
        else Ideal.ofBits .f32 0x7E800000#32) Finset.univ := by
  pointwise [scaleV]

theorem bits_max : Ideal.ofBits .f32 0x7E800000#32 = RowSpec.pw 253 := RowSpec.bits_pw 253 (by decide) (by decide)

theorem scaleV_apply (a : FVec Ideal S4608x1 .f32) (r : Fin 4608) :
    scaleV a powers (ix2 r (0 : Fin 1)) = RowSpec.scale (a (ix2 r (0 : Fin 1))) := by
  rw [scaleV_fold, RowSpec.fold_min]
  unfold RowSpec.scale RowSpec.scaleOf
  simp only [powers_apply, bits_max]

/-- The codes: times the inverse scale, clipped. -/
theorem codeV (h : FVec Ideal S4608x3072 .f32) (x : FVec Ideal S4608x1 .f32) (r : Fin 4608) (j : Fin 3072) :
    (truncf .fp8e4m3 (minimumf (broadcast S4608x3072 (Scalar.ofBits (F := Ideal) .f32 0x43E00000#32)) (maximumf (broadcast S4608x3072 (Scalar.ofBits (F := Ideal) .f32 0xC3E00000#32))
      (mulf h (broadcastTo S4608x3072 (divf (broadcast S4608x1 (Scalar.ofBits (F := Ideal) .f32 0x3F800000#32)) x) broadcasts_S4608x1_S4608x3072)))) bitsLt_fp8e4m3_f32 : FVec Ideal S4608x3072 .fp8e4m3) (ix2 r j)
      = min (Ideal.ofBits .f32 0x43E00000#32) (max (Ideal.ofBits .f32 0xC3E00000#32) (h (ix2 r j) * Ideal.div 1 (x (ix2 r (0 : Fin 1))))) := by
  pointwise
@[inherit_doc codeV]
theorem codeV' (h : FVec Ideal S4608x128 .f32) (x : FVec Ideal S4608x1 .f32) (r : Fin 4608) (j : Fin 128) :
    (truncf .fp8e4m3 (minimumf (broadcast S4608x128 (Scalar.ofBits (F := Ideal) .f32 0x43E00000#32)) (maximumf (broadcast S4608x128 (Scalar.ofBits (F := Ideal) .f32 0xC3E00000#32))
      (mulf h (broadcastTo S4608x128 (divf (broadcast S4608x1 (Scalar.ofBits (F := Ideal) .f32 0x3F800000#32)) x) broadcasts_S4608x1_S4608x128)))) bitsLt_fp8e4m3_f32 : FVec Ideal S4608x128 .fp8e4m3) (ix2 r j)
      = min (Ideal.ofBits .f32 0x43E00000#32) (max (Ideal.ofBits .f32 0xC3E00000#32) (h (ix2 r j) * Ideal.div 1 (x (ix2 r (0 : Fin 1))))) := by
  pointwise

/-! ## The first layer -/

/-- The hidden value: the gate times its logistic. -/
theorem pay4_apply (v42 : FVec Ideal S4608x3072 .f32) (v43 : Vec Ideal S1x3072 .f32) (r : Fin 4608) (j : Fin 3072) :
    k0_pay4 (F := Ideal) v42 v43 (ix2 r j)
      = (v42 (ix2 r j) + v43 (ix2 (0 : Fin 1) j)) * Ideal.div 1 (1 + Ideal.exp (0 - (v42 (ix2 r j) + v43 (ix2 (0 : Fin 1) j)))) := by
  have e : k0_pay4 (F := Ideal) v42 v43 (ix2 r j)
      = (v42 (ix2 r j) + v43 (ix2 (0 : Fin 1) j)) * Ideal.logistic (v42 (ix2 r j) + v43 (ix2 (0 : Fin 1) j)) := by
    pointwise [k0_pay4]
  rw [e, sub_eq_add_neg, zero_add]
  rfl

theorem pay5_apply (v42 : FVec Ideal S4608x3072 .f32) (v43 : Vec Ideal S1x3072 .f32) (r : Fin 4608) :
    k0_pay5 (F := Ideal) v42 v43 (ix2 r (0 : Fin 1)) = RowSpec.scale (RowSpec.amax (fun j => k0_pay4 (F := Ideal) v42 v43 (ix2 r j))) := by
  have e : k0_pay5 (F := Ideal) v42 v43 = scaleV (shapeCast S4608x1 (multiReduction .maximumf [1] S4608 (absf (k0_pay4 v42 v43)) 0xFF800000#32 reduces_S4608x3072_S4608 (.inl rfl) rfl) shapeCasts_S4608_S4608x1) powers := rfl
  rw [e, scaleV_apply, column, rowMax]

theorem pay6_apply (v42 : FVec Ideal S4608x3072 .f32) (v43 : Vec Ideal S1x3072 .f32) (r : Fin 4608) (j : Fin 3072) :
    k0_pay6 (F := Ideal) v42 v43 (ix2 r j)
      = RowSpec.code (RowSpec.amax (fun j => k0_pay4 (F := Ideal) v42 v43 (ix2 r j))) (k0_pay4 (F := Ideal) v42 v43 (ix2 r j)) := by
  refine (codeV (k0_pay4 (F := Ideal) v42 v43) (k0_pay5 (F := Ideal) v42 v43) r j).trans ?_
  rw [pay5_apply]
  rfl

/-! ## The second layer -/

theorem secondV (q : FVec Ideal S4608x3072 .fp8e4m3) (x : FVec Ideal S4608x1 .f32) (v81 : Vec Ideal S3072x128 .fp8e4m3) (v85 : Vec Ideal S1x128 .f32) (r : Fin 4608) (d : Fin 128) :
    (mulf (mulf (matmul (φ₂ := .fp8e4m3) dot_S4608x3072_S3072x128_S4608x128_1_0_0_1_n_n none q v81 (constant S4608x128 .f32 0x00000000#32)) (broadcastTo S4608x128 x broadcasts_S4608x1_S4608x128))
      (broadcastTo S4608x128 (shapeCast S1x128 v85 shapeCasts_S1x128_S1x128) broadcasts_S1x128_S4608x128) : FVec Ideal S4608x128 .f32) (ix2 r d)
      = (∑ j : Fin 3072, q (ix2 r j) * v81 (ix2 j d)) * x (ix2 r (0 : Fin 1)) * v85 (ix2 (0 : Fin 1) d) := by
  pointwise

theorem pay8_apply (v88 : FVec Ideal S4608x128 .f32) (v89 : Vec Ideal S1x128 .f32) (r : Fin 4608) (d : Fin 128) :
    k0_pay8 (F := Ideal) v88 v89 (ix2 r d) = v88 (ix2 r d) + v89 (ix2 (0 : Fin 1) d) := by
  pointwise [k0_pay8]

theorem pay9_apply (v88 : FVec Ideal S4608x128 .f32) (v89 : Vec Ideal S1x128 .f32) (r : Fin 4608) :
    k0_pay9 (F := Ideal) v88 v89 (ix2 r (0 : Fin 1)) = RowSpec.scale (RowSpec.amax (fun d => k0_pay8 (F := Ideal) v88 v89 (ix2 r d))) := by
  have e : k0_pay9 (F := Ideal) v88 v89 = scaleV (shapeCast S4608x1 (multiReduction .maximumf [1] S4608 (absf (k0_pay8 v88 v89)) 0xFF800000#32 reduces_S4608x128_S4608 (.inl rfl) rfl) shapeCasts_S4608_S4608x1) powers := rfl
  rw [e, scaleV_apply, column, rowMax']

theorem pay10_apply (v88 : FVec Ideal S4608x128 .f32) (v89 : Vec Ideal S1x128 .f32) (r : Fin 4608) (d : Fin 128) :
    k0_pay10 (F := Ideal) v88 v89 (ix2 r d)
      = RowSpec.code (RowSpec.amax (fun d => k0_pay8 (F := Ideal) v88 v89 (ix2 r d))) (k0_pay8 (F := Ideal) v88 v89 (ix2 r d)) := by
  refine (codeV' (k0_pay8 (F := Ideal) v88 v89) (k0_pay9 (F := Ideal) v88 v89) r d).trans ?_
  rw [pay9_apply]
  rfl

theorem pay7_apply (v42 : FVec Ideal S4608x3072 .f32) (v43 : Vec Ideal S1x3072 .f32) (v81 : Vec Ideal S3072x128 .fp8e4m3) (v85 : Vec Ideal S1x128 .f32) (r : Fin 4608) (d : Fin 128) :
    k0_pay7 (F := Ideal) v42 v43 v81 v85 (ix2 r d)
      = (∑ j : Fin 3072, k0_pay6 (F := Ideal) v42 v43 (ix2 r j) * v81 (ix2 j d)) * k0_pay5 (F := Ideal) v42 v43 (ix2 r (0 : Fin 1)) * v85 (ix2 (0 : Fin 1) d) :=
  secondV (k0_pay6 (F := Ideal) v42 v43) (k0_pay5 (F := Ideal) v42 v43) v81 v85 r d

/-! ## The gathered row -/

/-- Token `n` of head `g`, zero past the sequence. -/
def tokG (v0 : S6x12288x128.Idx → EReal) (v3 : S6x12288.Idx → EReal) (g : Fin 6) (n : ℕ) (d : Fin 128) : EReal :=
  if h : n < 12288 then v0 (ix3 g (⟨n, h⟩ : Fin 12288) d) * v3 (ix2 g (⟨n, h⟩ : Fin 12288)) else 0

/-- Entry `κ = 128 k + d` of the gathered row of block `b`: token `16 b + k` plus the position's entry. -/
def gath (v0 : S6x12288x128.Idx → EReal) (v3 : S6x12288.Idx → EReal) (v12 : S32x128.Idx → EReal) (g : Fin 6) (b : ℕ) (κ : Fin 4096) : EReal :=
  tokG v0 v3 g (16 * b + κ.val / 128) (⟨κ.val % 128, by omega⟩ : Fin 128)
    + v12 (ix2 (⟨κ.val / 128, by omega⟩ : Fin 32) (⟨κ.val % 128, by omega⟩ : Fin 128))

/-- The tokens with the zero rows appended. -/
def tokV (v0 : Vec Ideal S6x12288x128 .fp8e4m3) (v3 : Vec Ideal S6x12288 .f32) : FVec Ideal S6x12304x128 .bf16 :=
  concatenate S6x12304x128 1 [⟨S6x12288x128, mulf (extf .bf16 (shapeCast S6x12288x128 v0 shapeCasts_S6x12288x128_S6x12288x128) bitsLt_fp8e4m3_bf16)
      (broadcastTo S6x12288x128 (shapeCast S6x12288x1 (truncf .bf16 (shapeCast S6x12288 v3 shapeCasts_S6x12288_S6x12288) bitsLt_bf16_f32) shapeCasts_S6x12288_S6x12288x1) broadcasts_S6x12288x1_S6x12288x128)⟩,
    ⟨S6x16x128, broadcast S6x16x128 (Scalar.ofBits (F := Ideal) .bf16 0x0000#16)⟩] concatenates_S6x12288x128_S6x16x128_S6x12304x128_d1

theorem mulTok (v0 : Vec Ideal S6x12288x128 .fp8e4m3) (v3 : Vec Ideal S6x12288 .f32) (g : Fin 6) (n : Fin 12288) (d : Fin 128) :
    (mulf (extf .bf16 (shapeCast S6x12288x128 v0 shapeCasts_S6x12288x128_S6x12288x128) bitsLt_fp8e4m3_bf16)
      (broadcastTo S6x12288x128 (shapeCast S6x12288x1 (truncf .bf16 (shapeCast S6x12288 v3 shapeCasts_S6x12288_S6x12288) bitsLt_bf16_f32) shapeCasts_S6x12288_S6x12288x1) broadcasts_S6x12288x1_S6x12288x128) : FVec Ideal S6x12288x128 .bf16) (ix3 g n d)
      = v0 (ix3 g n d) * v3 (ix2 g n) := by
  pointwise

theorem catTok (v8 : FVec Ideal S6x12288x128 .bf16) (g : Fin 6) (n : Fin 12304) (d : Fin 128) :
    (concatenate S6x12304x128 1 [⟨S6x12288x128, v8⟩, ⟨S6x16x128, broadcast S6x16x128 (Scalar.ofBits (F := Ideal) .bf16 0x0000#16)⟩] concatenates_S6x12288x128_S6x16x128_S6x12304x128_d1 : FVec Ideal S6x12304x128 .bf16) (ix3 g n d)
      = if h : n.val < 12288 then v8 (ix3 g ⟨n.val, h⟩ d) else 0 := by
  pointwise

theorem tokV_apply (v0 : Vec Ideal S6x12288x128 .fp8e4m3) (v3 : Vec Ideal S6x12288 .f32) (g : Fin 6) (n : Fin 12304) (d : Fin 128) :
    tokV v0 v3 (ix3 g n d) = tokG v0 v3 g n.val d := by
  refine (catTok _ g n d).trans ?_
  unfold tokG
  split
  · exact mulTok v0 v3 g _ d
  · rfl

theorem loV (v10 : FVec Ideal S6x12304x128 .bf16) (v13 : FVec Ideal S32x128 .bf16) (r : Fin 4608) (k : Fin 2048) :
    (shapeCast S4608x2048 (addf (extractStridedSlice S6x768x16x128 ![0, 0, 0, 0] (shapeCast S6x769x16x128 v10 shapeCasts_S6x12304x128_S6x769x16x128) slices_S6x769x16x128_o0_0_0_0_S6x768x16x128)
      (broadcastTo S6x768x16x128 (shapeCast S1x1x16x128 (shapeCast S16x128 (extractStridedSlice S1x16x128 ![0, 0, 0] (shapeCast S2x16x128 v13 shapeCasts_S32x128_S2x16x128) slices_S2x16x128_o0_0_0_S1x16x128) shapeCasts_S1x16x128_S16x128) shapeCasts_S16x128_S1x1x16x128) broadcasts_S1x1x16x128_S6x768x16x128)) shapeCasts_S6x768x16x128_S4608x2048 : FVec Ideal S4608x2048 .bf16) (ix2 r k)
      = v10 (ix3 (⟨r.val / 768, by omega⟩ : Fin 6) (⟨r.val % 768 * 16 + k.val / 128, by omega⟩ : Fin 12304) (⟨k.val % 128, by omega⟩ : Fin 128))
        + v13 (ix2 (⟨k.val / 128, by omega⟩ : Fin 32) (⟨k.val % 128, by omega⟩ : Fin 128)) := by
  pointwise

theorem hiV (v10 : FVec Ideal S6x12304x128 .bf16) (v13 : FVec Ideal S32x128 .bf16) (r : Fin 4608) (k : Fin 2048) :
    (shapeCast S4608x2048 (addf (extractStridedSlice S6x768x16x128 ![0, 1, 0, 0] (shapeCast S6x769x16x128 v10 shapeCasts_S6x12304x128_S6x769x16x128) slices_S6x769x16x128_o0_1_0_0_S6x768x16x128)
      (broadcastTo S6x768x16x128 (shapeCast S1x1x16x128 (shapeCast S16x128 (extractStridedSlice S1x16x128 ![1, 0, 0] (shapeCast S2x16x128 v13 shapeCasts_S32x128_S2x16x128) slices_S2x16x128_o1_0_0_S1x16x128) shapeCasts_S1x16x128_S16x128) shapeCasts_S16x128_S1x1x16x128) broadcasts_S1x1x16x128_S6x768x16x128)) shapeCasts_S6x768x16x128_S4608x2048 : FVec Ideal S4608x2048 .bf16) (ix2 r k)
      = v10 (ix3 (⟨r.val / 768, by omega⟩ : Fin 6) (⟨(1 + r.val % 768) * 16 + k.val / 128, by omega⟩ : Fin 12304) (⟨k.val % 128, by omega⟩ : Fin 128))
        + v13 (ix2 (⟨16 + k.val / 128, by omega⟩ : Fin 32) (⟨k.val % 128, by omega⟩ : Fin 128)) := by
  pointwise

theorem wlo (v29 : Vec Ideal S4096x3072 .fp8e4m3) (κ : Fin 2048) (j : Fin 3072) :
    (shapeCast S2048x3072 (extractStridedSlice S1x2048x3072 ![0, 0, 0] (shapeCast S2x2048x3072 (extf .bf16 v29 bitsLt_fp8e4m3_bf16) shapeCasts_S4096x3072_S2x2048x3072) slices_S2x2048x3072_o0_0_0_S1x2048x3072) shapeCasts_S1x2048x3072_S2048x3072 : FVec Ideal S2048x3072 .bf16) (ix2 κ j)
      = v29 (ix2 (⟨κ.val, by omega⟩ : Fin 4096) j) := by
  pointwise

theorem whi (v29 : Vec Ideal S4096x3072 .fp8e4m3) (κ : Fin 2048) (j : Fin 3072) :
    (shapeCast S2048x3072 (extractStridedSlice S1x2048x3072 ![1, 0, 0] (shapeCast S2x2048x3072 (extf .bf16 v29 bitsLt_fp8e4m3_bf16) shapeCasts_S4096x3072_S2x2048x3072) slices_S2x2048x3072_o1_0_0_S1x2048x3072) shapeCasts_S1x2048x3072_S2048x3072 : FVec Ideal S2048x3072 .bf16) (ix2 κ j)
      = v29 (ix2 (⟨2048 + κ.val, by omega⟩ : Fin 4096) j) := by
  pointwise

theorem firstV (v21 v28 : FVec Ideal S4608x2048 .bf16) (v33 v36 : FVec Ideal S2048x3072 .bf16) (v39 : Vec Ideal S1x3072 .f32) (r : Fin 4608) (j : Fin 3072) :
    (mulf (addf (matmul dot_S4608x2048_S2048x3072_S4608x3072_1_0_0_1_n_n none v21 v33 (constant S4608x3072 .f32 0x00000000#32)) (matmul dot_S4608x2048_S2048x3072_S4608x3072_1_0_0_1_n_n none v28 v36 (constant S4608x3072 .f32 0x00000000#32)))
      (broadcastTo S4608x3072 (shapeCast S1x3072 v39 shapeCasts_S1x3072_S1x3072) broadcasts_S1x3072_S4608x3072) : FVec Ideal S4608x3072 .f32) (ix2 r j)
      = ((∑ κ : Fin 2048, v21 (ix2 r κ) * v33 (ix2 κ j)) + ∑ κ : Fin 2048, v28 (ix2 r κ) * v36 (ix2 κ j)) * v39 (ix2 (0 : Fin 1) j) := by
  pointwise

theorem pay3_apply (v0 : Vec Ideal S6x12288x128 .fp8e4m3) (v3 : Vec Ideal S6x12288 .f32) (v12 : Vec Ideal S32x128 .f32) (v29 : Vec Ideal S4096x3072 .fp8e4m3) (v39 : Vec Ideal S1x3072 .f32) (g : Fin 6) (b : Fin 768) (j : Fin 3072) :
    k0_pay3 (F := Ideal) v0 v3 v12 v29 v39 (ix2 (⟨g.val * 768 + b.val, by omega⟩ : Fin 4608) j)
      = ((∑ κ : Fin 2048, gath v0 v3 v12 g b.val ⟨κ.val, by omega⟩ * v29 (ix2 (⟨κ.val, by omega⟩ : Fin 4096) j))
          + ∑ κ : Fin 2048, gath v0 v3 v12 g b.val ⟨2048 + κ.val, by omega⟩ * v29 (ix2 (⟨2048 + κ.val, by omega⟩ : Fin 4096) j)) * v39 (ix2 (0 : Fin 1) j) := by
  refine (firstV _ _ _ _ v39 _ j).trans ?_
  have hg : (⟨(g.val * 768 + b.val) / 768, by omega⟩ : Fin 6) = g := Fin.ext (by show (g.val * 768 + b.val) / 768 = g.val; omega)
  refine congrArg₂ (fun x y => (x + y) * v39 (ix2 (0 : Fin 1) j)) (Finset.sum_congr rfl fun κ _ => ?_) (Finset.sum_congr rfl fun κ _ => ?_)
  · refine congrArg₂ (· * ·) ((loV (tokV v0 v3) v12 _ κ).trans ?_) (wlo v29 κ j)
    rw [tokV_apply]
    unfold gath
    dsimp only
    rw [hg, show (g.val * 768 + b.val) % 768 * 16 + κ.val / 128 = 16 * b.val + κ.val / 128 by omega]
  · refine congrArg₂ (· * ·) ((hiV (tokV v0 v3) v12 _ κ).trans ?_) (whi v29 κ j)
    rw [tokV_apply]
    unfold gath
    dsimp only
    rw [hg, show (1 + (g.val * 768 + b.val) % 768) * 16 + κ.val / 128 = 16 * b.val + (2048 + κ.val) / 128 by omega]
    have e1 : (⟨(2048 + κ.val) / 128, by omega⟩ : Fin 32) = ⟨16 + κ.val / 128, by omega⟩ := Fin.ext (by show (2048 + κ.val) / 128 = 16 + κ.val / 128; omega)
    have e2 : (⟨(2048 + κ.val) % 128, by omega⟩ : Fin 128) = ⟨κ.val % 128, by omega⟩ := Fin.ext (by show (2048 + κ.val) % 128 = κ.val % 128; omega)
    rw [e1, e2]

/-! ## The results' reshapes -/

theorem pay1_apply (v : FVec Ideal S4608x128 .fp8e4m3) (g : Fin 6) (b : Fin 768) (d : Fin 128) :
    k0_pay1 (F := Ideal) v (ix3 g b d) = v (ix2 (⟨g.val * 768 + b.val, by omega⟩ : Fin 4608) d) := by
  pointwise [k0_pay1]

theorem pay2_apply (v : FVec Ideal S4608x1 .f32) (g : Fin 6) (b : Fin 768) :
    k0_pay2 (F := Ideal) v (ix3 g (0 : Fin 1) b) = v (ix2 (⟨g.val * 768 + b.val, by omega⟩ : Fin 4608) (0 : Fin 1)) := by
  pointwise [k0_pay2]

theorem pay11_apply (v : FVec Ideal S4608x3072 .fp8e4m3) (g : Fin 6) (b : Fin 768) (j : Fin 3072) :
    k0_pay11 (F := Ideal) v (ix3 g b j) = v (ix2 (⟨g.val * 768 + b.val, by omega⟩ : Fin 4608) j) := by
  pointwise [k0_pay11]

theorem pay12_apply (v : FVec Ideal S4608x1 .f32) (g : Fin 6) (b : Fin 768) :
    k0_pay12 (F := Ideal) v (ix3 g (0 : Fin 1) b) = v (ix2 (⟨g.val * 768 + b.val, by omega⟩ : Fin 4608) (0 : Fin 1)) := by
  pointwise [k0_pay12]

end Cert.ReferenceIdeal.Pure

end
-- ==== Proof.ReferenceIdealOut.lean ====
/-
  Hand-written, untrusted. What `ReferenceIdeal`'s body leaves in its four outputs, entry by entry, from its nine operands: the
  rows of RowSpec.lean and Quantiser.lean at the gathered row of the block.
-/
module

public import proofs.«01_k».proof.Proof.ReferenceIdealRows
public import proofs.«01_k».proof.Proof.Gen.ReferenceIdeal.Frame

@[expose] public section

set_option maxRecDepth 16384

noncomputable section

namespace Cert.ReferenceIdeal.Pure

open Cert.ReferenceIdeal Cert.ReferenceIdeal.Gen
open Idealize.ShloMosaic Idealize.ShloMosaic.TcCoe Idealize.SL.Sem

variable (x0 : Vec Ideal S6x12288x128 .fp8e4m3) (x1 : Vec Ideal S6x12288 .f32) (x2 : Vec Ideal S32x128 .f32) (x3 : Vec Ideal S4096x3072 .fp8e4m3)
  (x4 : Vec Ideal S1x3072 .f32) (x5 : Vec Ideal S1x3072 .f32) (x6 : Vec Ideal S3072x128 .fp8e4m3) (x7 : Vec Ideal S1x128 .f32) (x8 : Vec Ideal S1x128 .f32)
  (g : Fin 6) (b : Fin 768)

/-- The body's product, every operand whole. -/
theorem pay13_eq : k0_pay13 (F := Ideal) x0 x1 x2 x3 x4 x5 x6 x7 x8 = k0_pay3 x0 x1 x2 x3 x4 := by
  unfold k0_pay13
  rw [View.ld_unit_zero (by funext a; fin_cases a <;> rfl), View.ld_unit_zero (by funext a; fin_cases a <;> rfl),
    View.ld_unit_zero (by funext a; fin_cases a <;> rfl), View.ld_unit_zero (by funext a; fin_cases a <;> rfl),
    View.ld_unit_zero (by funext a; fin_cases a <;> rfl)]

theorem ld4 (x : Vec Ideal S1x3072 .f32) : View.ld x r0_4 = x := View.ld_unit_zero (by funext a; fin_cases a <;> rfl) _ _
theorem ld5 (x : Vec Ideal S3072x128 .fp8e4m3) : View.ld x r0_5 = x := View.ld_unit_zero (by funext a; fin_cases a <;> rfl) _ _
theorem ld6 (x : Vec Ideal S1x128 .f32) : View.ld x r0_6 = x := View.ld_unit_zero (by funext a; fin_cases a <;> rfl) _ _

/-- The hidden row. -/
theorem hid_apply (j : Fin 3072) : k0_pay4 (F := Ideal) (k0_pay3 x0 x1 x2 x3 x4) x5 (ix2 (⟨g.val * 768 + b.val, by omega⟩ : Fin 4608) j)
    = RowSpec.hid (gath x0 x1 x2 g b.val) (fun κ j => x3 (ix2 κ j)) (fun j => x4 (ix2 (0 : Fin 1) j)) (fun j => x5 (ix2 (0 : Fin 1) j)) j := by
  rw [pay4_apply, pay3_apply]
  rfl

theorem hscale_apply : k0_pay5 (F := Ideal) (k0_pay3 x0 x1 x2 x3 x4) x5 (ix2 (⟨g.val * 768 + b.val, by omega⟩ : Fin 4608) (0 : Fin 1))
    = RowSpec.hscale (gath x0 x1 x2 g b.val) (fun κ j => x3 (ix2 κ j)) (fun j => x4 (ix2 (0 : Fin 1) j)) (fun j => x5 (ix2 (0 : Fin 1) j)) := by
  rw [pay5_apply]
  simp only [hid_apply]
  rfl

theorem hcode_apply (j : Fin 3072) : k0_pay6 (F := Ideal) (k0_pay3 x0 x1 x2 x3 x4) x5 (ix2 (⟨g.val * 768 + b.val, by omega⟩ : Fin 4608) j)
    = RowSpec.hcode (gath x0 x1 x2 g b.val) (fun κ j => x3 (ix2 κ j)) (fun j => x4 (ix2 (0 : Fin 1) j)) (fun j => x5 (ix2 (0 : Fin 1) j)) j := by
  rw [pay6_apply]
  simp only [hid_apply]
  rfl

/-- The second layer's row. -/
theorem acc_apply (d : Fin 128) : k0_pay8 (F := Ideal) (k0_pay7 (k0_pay3 x0 x1 x2 x3 x4) x5 x6 x7) x8 (ix2 (⟨g.val * 768 + b.val, by omega⟩ : Fin 4608) d)
    = RowSpec.acc (gath x0 x1 x2 g b.val) (fun κ j => x3 (ix2 κ j)) (fun j => x4 (ix2 (0 : Fin 1) j)) (fun j => x5 (ix2 (0 : Fin 1) j))
        (fun j d => x6 (ix2 j d)) (fun d => x7 (ix2 (0 : Fin 1) d)) (fun d => x8 (ix2 (0 : Fin 1) d)) d := by
  rw [pay8_apply, pay7_apply, hscale_apply]
  simp only [hcode_apply]
  rfl

theorem out0_9_apply (j : Fin 3072) : out0_9 (F := Ideal) x0 x1 x2 x3 x4 x5 x6 x7 x8 (ix3 g b j)
    = RowSpec.hcode (gath x0 x1 x2 g b.val) (fun κ j => x3 (ix2 κ j)) (fun j => x4 (ix2 (0 : Fin 1) j)) (fun j => x5 (ix2 (0 : Fin 1) j)) j := by
  unfold out0_9
  rw [View.canon_unit_zero (by funext a; fin_cases a <;> rfl) _ _, pay13_eq, ld4, pay11_apply, hcode_apply]

theorem out0_10_apply : out0_10 (F := Ideal) x0 x1 x2 x3 x4 x5 x6 x7 x8 (ix3 g (0 : Fin 1) b)
    = RowSpec.hscale (gath x0 x1 x2 g b.val) (fun κ j => x3 (ix2 κ j)) (fun j => x4 (ix2 (0 : Fin 1) j)) (fun j => x5 (ix2 (0 : Fin 1) j)) := by
  unfold out0_10
  rw [View.canon_unit_zero (by funext a; fin_cases a <;> rfl) _ _, pay13_eq, ld4, pay12_apply, hscale_apply]

theorem pay14_eq : k0_pay14 (F := Ideal) x0 x1 x2 x3 x4 x5 x6 x7 x8 = k0_pay7 (k0_pay3 x0 x1 x2 x3 x4) x5 x6 x7 := by
  unfold k0_pay14
  rw [pay13_eq, ld4, ld5, ld6]

theorem out0_11_apply (d : Fin 128) : out0_11 (F := Ideal) x0 x1 x2 x3 x4 x5 x6 x7 x8 (ix3 g b d)
    = RowSpec.ccode (gath x0 x1 x2 g b.val) (fun κ j => x3 (ix2 κ j)) (fun j => x4 (ix2 (0 : Fin 1) j)) (fun j => x5 (ix2 (0 : Fin 1) j))
        (fun j d => x6 (ix2 j d)) (fun d => x7 (ix2 (0 : Fin 1) d)) (fun d => x8 (ix2 (0 : Fin 1) d)) d := by
  unfold out0_11
  rw [View.canon_unit_zero (by funext a; fin_cases a <;> rfl) _ _, pay14_eq, ld6, pay1_apply, pay10_apply]
  simp only [acc_apply]
  rfl

theorem out0_12_apply : out0_12 (F := Ideal) x0 x1 x2 x3 x4 x5 x6 x7 x8 (ix3 g (0 : Fin 1) b)
    = RowSpec.cscale (gath x0 x1 x2 g b.val) (fun κ j => x3 (ix2 κ j)) (fun j => x4 (ix2 (0 : Fin 1) j)) (fun j => x5 (ix2 (0 : Fin 1) j))
        (fun j d => x6 (ix2 j d)) (fun d => x7 (ix2 (0 : Fin 1) d)) (fun d => x8 (ix2 (0 : Fin 1) d)) := by
  unfold out0_12
  rw [View.canon_unit_zero (by funext a; fin_cases a <;> rfl) _ _, pay14_eq, ld6, pay2_apply, pay9_apply]
  simp only [acc_apply]
  rfl

end Cert.ReferenceIdeal.Pure

end
-- ==== Proof.ReferenceIdealFinal.lean ====
/-
  Hand-written, untrusted. The four result arrays of `ReferenceIdeal` after its run, entry by entry, from the argument arrays:
  the reference is one grid point, every operand and every result one block.
-/
module

public import proofs.«01_k».proof.Proof.ReferenceIdealOut
public import proofs.«01_k».proof.Proof.CompressSpec
public import Idealize.ShloMosaic.Lib.Pipeline.ValueKit

@[expose] public section

set_option maxRecDepth 16384

noncomputable section

namespace Cert.ReferenceIdeal.Final

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- The index maps at the one point. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0, 0] ∧ win0_10.index t = ![0, 0, 0]
    ∧ win0_11.index t = ![0, 0, 0] ∧ win0_12.index t = ![0, 0, 0] :=
  (by decide +kernel : ∀ t : Fin grid0.N, _)

theorem read0 (t : Fin cfg0.N) (g : Fin 6) (n : Fin 12288) (d : Fin 128) : iblk m c 0 t (ix3 g n d) = m ((c : Thread nD τ).loc main_arg0) (ix4 (0 : Fin 1) n g d) := by
  blk_ext! [iblk, V, idx t]
theorem read1 (t : Fin cfg0.N) (g : Fin 6) (n : Fin 12288) : iblk m c 1 t (ix2 g n) = m ((c : Thread nD τ).loc main_arg1) (ix3 (0 : Fin 1) n g) := by
  blk_ext! [iblk, V, idx t]
theorem read2 (t : Fin cfg0.N) (k : Fin 32) (d : Fin 128) : iblk m c 2 t (ix2 k d) = m ((c : Thread nD τ).loc main_arg2) (ix2 k d) := by
  blk_ext! [iblk, V, idx t]
theorem read3 (t : Fin cfg0.N) (k : Fin 4096) (d : Fin 3072) : iblk m c 3 t (ix2 k d) = m ((c : Thread nD τ).loc main_arg3) (ix2 k d) := by
  blk_ext! [iblk, V, idx t]
theorem read4 (t : Fin cfg0.N) (d : Fin 3072) : iblk m c 4 t (ix2 (0 : Fin 1) d) = m ((c : Thread nD τ).loc main_arg4) (ix1 d) := by
  blk_ext! [iblk, V, idx t]
theorem read5 (t : Fin cfg0.N) (d : Fin 3072) : iblk m c 5 t (ix2 (0 : Fin 1) d) = m ((c : Thread nD τ).loc main_arg5) (ix1 d) := by
  blk_ext! [iblk, V, idx t]
theorem read6 (t : Fin cfg0.N) (k : Fin 3072) (d : Fin 128) : iblk m c 6 t (ix2 k d) = m ((c : Thread nD τ).loc main_arg6) (ix2 k d) := by
  blk_ext! [iblk, V, idx t]
theorem read7 (t : Fin cfg0.N) (d : Fin 128) : iblk m c 7 t (ix2 (0 : Fin 1) d) = m ((c : Thread nD τ).loc main_arg7) (ix1 d) := by
  blk_ext! [iblk, V, idx t]
theorem read8 (t : Fin cfg0.N) (d : Fin 128) : iblk m c 8 t (ix2 (0 : Fin 1) d) = m ((c : Thread nD τ).loc main_arg8) (ix1 d) := by
  blk_ext! [iblk, V, idx t]

/-- The argument arrays, read at their coordinates. -/
abbrev A0 : Fin 12288 → Fin 6 → Fin 128 → EReal := fun n g d => m ((c : Thread nD τ).loc main_arg0) (ix4 (0 : Fin 1) n g d)
@[inherit_doc A0] abbrev A1 : Fin 12288 → Fin 6 → EReal := fun n g => m ((c : Thread nD τ).loc main_arg1) (ix3 (0 : Fin 1) n g)
@[inherit_doc A0] abbrev A2 : Fin 32 → Fin 128 → EReal := fun k d => m ((c : Thread nD τ).loc main_arg2) (ix2 k d)
@[inherit_doc A0] abbrev A3 : Fin 4096 → Fin 3072 → EReal := fun κ j => m ((c : Thread nD τ).loc main_arg3) (ix2 κ j)
@[inherit_doc A0] abbrev A4 : Fin 3072 → EReal := fun j => m ((c : Thread nD τ).loc main_arg4) (ix1 j)
@[inherit_doc A0] abbrev A5 : Fin 3072 → EReal := fun j => m ((c : Thread nD τ).loc main_arg5) (ix1 j)
@[inherit_doc A0] abbrev A6 : Fin 3072 → Fin 128 → EReal := fun j d => m ((c : Thread nD τ).loc main_arg6) (ix2 j d)
@[inherit_doc A0] abbrev A7 : Fin 128 → EReal := fun d => m ((c : Thread nD τ).loc main_arg7) (ix1 d)
@[inherit_doc A0] abbrev A8 : Fin 128 → EReal := fun d => m ((c : Thread nD τ).loc main_arg8) (ix1 d)

/-- The gathered row of a block, from the argument arrays. -/
abbrev rowOf (g : Fin 6) (b : ℕ) : Fin 4096 → EReal := RowSpec.row (A0 m c) (A1 m c) (A2 m c) g b

/-- The row which the program gathers is the row of the specification. -/
theorem gath_eq (g : Fin 6) (b : ℕ) (t : Fin cfg0.N) : Pure.gath (iblk m c 0 t) (iblk m c 1 t) (iblk m c 2 t) g b = rowOf m c g b := by
  funext κ
  unfold Pure.gath Pure.tokG rowOf RowSpec.row RowSpec.token
  refine congrArg₂ (· + ·) ?_ (read2 m c t _ _)
  split
  · exact congrArg₂ (· * ·) (read0 m c t g _ _) (read1 m c t g _)
  · rfl

/-- The first weight matrix of the call is the argument. -/
theorem w3 (t : Fin cfg0.N) : (fun (κ : Fin 4096) (j : Fin 3072) => (iblk m c 3 t (ix2 κ j) : EReal)) = A3 m c := by funext κ j; exact read3 m c t κ j
/-- The first column scales. -/
theorem w4 (t : Fin cfg0.N) : (fun (j : Fin 3072) => (iblk m c 4 t (ix2 (0 : Fin 1) j) : EReal)) = A4 m c := by funext j; exact read4 m c t j
/-- The first bias. -/
theorem w5 (t : Fin cfg0.N) : (fun (j : Fin 3072) => (iblk m c 5 t (ix2 (0 : Fin 1) j) : EReal)) = A5 m c := by funext j; exact read5 m c t j
/-- The second weight matrix. -/
theorem w6 (t : Fin cfg0.N) : (fun (j : Fin 3072) (d : Fin 128) => (iblk m c 6 t (ix2 j d) : EReal)) = A6 m c := by funext κ j; exact read6 m c t κ j
/-- The second column scales. -/
theorem w7 (t : Fin cfg0.N) : (fun (j : Fin 128) => (iblk m c 7 t (ix2 (0 : Fin 1) j) : EReal)) = A7 m c := by funext j; exact read7 m c t j
/-- The second bias. -/
theorem w8 (t : Fin cfg0.N) : (fun (j : Fin 128) => (iblk m c 8 t (ix2 (0 : Fin 1) j) : EReal)) = A8 m c := by funext j; exact read8 m c t j

/-- Result array 1, the hidden codes. -/
def fin9 : S6x768x3072.Idx → EReal := fun y => RowSpec.hcode (rowOf m c (y 0) (y 1).val) (A3 m c) (A4 m c) (A5 m c) (y 2)

/-- Result array 2, the hidden scales. -/
def fin10 : S6x1x768.Idx → EReal := fun y => RowSpec.hscale (rowOf m c (y 0) (y 2).val) (A3 m c) (A4 m c) (A5 m c)

/-- Result array 3, the compressed codes. -/
def fin11 : S6x768x128.Idx → EReal := fun y => RowSpec.ccode (rowOf m c (y 0) (y 1).val) (A3 m c) (A4 m c) (A5 m c) (A6 m c) (A7 m c) (A8 m c) (y 2)

/-- Result array 4, the compressed scales. -/
def fin12 : S6x1x768.Idx → EReal := fun y => RowSpec.cscale (rowOf m c (y 0) (y 2).val) (A3 m c) (A4 m c) (A5 m c) (A6 m c) (A7 m c) (A8 m c)

/-- The value of output window 9, element by element. -/
theorem point9 (t : Fin cfg0.N) (g : Fin 6) (b : Fin 768) (j : Fin 3072) : out0_9 (F := Ideal) (iblk m c 0 t) (iblk m c 1 t) (iblk m c 2 t) (iblk m c 3 t) (iblk m c 4 t) (iblk m c 5 t) (iblk m c 6 t) (iblk m c 7 t) (iblk m c 8 t) (ix3 g b j) = fin9 m c (ix3 g b j) := by
  refine (Pure.out0_9_apply (iblk m c 0 t) (iblk m c 1 t) (iblk m c 2 t) (iblk m c 3 t) (iblk m c 4 t) (iblk m c 5 t) (iblk m c 6 t) (iblk m c 7 t) (iblk m c 8 t) g b j).trans ?_
  unfold fin9
  rw [gath_eq, w3 m c t, w4 m c t, w5 m c t]
  rfl

/-- The value of output window 10, element by element. -/
theorem point10 (t : Fin cfg0.N) (g : Fin 6) (b : Fin 768) : out0_10 (F := Ideal) (iblk m c 0 t) (iblk m c 1 t) (iblk m c 2 t) (iblk m c 3 t) (iblk m c 4 t) (iblk m c 5 t) (iblk m c 6 t) (iblk m c 7 t) (iblk m c 8 t) (ix3 g (0 : Fin 1) b) = fin10 m c (ix3 g (0 : Fin 1) b) := by
  refine (Pure.out0_10_apply (iblk m c 0 t) (iblk m c 1 t) (iblk m c 2 t) (iblk m c 3 t) (iblk m c 4 t) (iblk m c 5 t) (iblk m c 6 t) (iblk m c 7 t) (iblk m c 8 t) g b).trans ?_
  unfold fin10
  rw [gath_eq, w3 m c t, w4 m c t, w5 m c t]
  rfl

/-- The value of output window 11, element by element. -/
theorem point11 (t : Fin cfg0.N) (g : Fin 6) (b : Fin 768) (j : Fin 128) : out0_11 (F := Ideal) (iblk m c 0 t) (iblk m c 1 t) (iblk m c 2 t) (iblk m c 3 t) (iblk m c 4 t) (iblk m c 5 t) (iblk m c 6 t) (iblk m c 7 t) (iblk m c 8 t) (ix3 g b j) = fin11 m c (ix3 g b j) := by
  refine (Pure.out0_11_apply (iblk m c 0 t) (iblk m c 1 t) (iblk m c 2 t) (iblk m c 3 t) (iblk m c 4 t) (iblk m c 5 t) (iblk m c 6 t) (iblk m c 7 t) (iblk m c 8 t) g b j).trans ?_
  unfold fin11
  rw [gath_eq, w3 m c t, w4 m c t, w5 m c t, w6 m c t, w7 m c t, w8 m c t]
  rfl

/-- The value of output window 12, element by element. -/
theorem point12 (t : Fin cfg0.N) (g : Fin 6) (b : Fin 768) : out0_12 (F := Ideal) (iblk m c 0 t) (iblk m c 1 t) (iblk m c 2 t) (iblk m c 3 t) (iblk m c 4 t) (iblk m c 5 t) (iblk m c 6 t) (iblk m c 7 t) (iblk m c 8 t) (ix3 g (0 : Fin 1) b) = fin12 m c (ix3 g (0 : Fin 1) b) := by
  refine (Pure.out0_12_apply (iblk m c 0 t) (iblk m c 1 t) (iblk m c 2 t) (iblk m c 3 t) (iblk m c 4 t) (iblk m c 5 t) (iblk m c 6 t) (iblk m c 7 t) (iblk m c 8 t) g b).trans ?_
  unfold fin12
  rw [gath_eq, w3 m c t, w4 m c t, w5 m c t, w6 m c t, w7 m c t, w8 m c t]
  rfl

/-- The final array of output window 9. -/
theorem final9 : (dats m 0 c).arrAt 9 cfg0.N = fin9 m c := by
  refine (dats m 0 c).arrAt_eq_of_after_last 9 t0_0 (by decide +kernel) _ fun j => ?_
  blk_simp
  rw [after0_9]
  idx_vars j
  exact point9 m c t0_0 j0 j1 j2

/-- The final array of output window 10. -/
theorem final10 : (dats m 0 c).arrAt 10 cfg0.N = fin10 m c := by
  refine (dats m 0 c).arrAt_eq_of_after_last 10 t0_0 (by decide +kernel) _ fun j => ?_
  blk_simp
  rw [after0_10]
  idx_vars j
  obtain rfl : j1 = 0 := Subsingleton.elim _ _
  exact point10 m c t0_0 j0 j2

/-- The final array of output window 11. -/
theorem final11 : (dats m 0 c).arrAt 11 cfg0.N = fin11 m c := by
  refine (dats m 0 c).arrAt_eq_of_after_last 11 t0_0 (by decide +kernel) _ fun j => ?_
  blk_simp
  rw [after0_11]
  idx_vars j
  exact point11 m c t0_0 j0 j1 j2

/-- The final array of output window 12. -/
theorem final12 : (dats m 0 c).arrAt 12 cfg0.N = fin12 m c := by
  refine (dats m 0 c).arrAt_eq_of_after_last 12 t0_0 (by decide +kernel) _ fun j => ?_
  blk_simp
  rw [after0_12]
  idx_vars j
  obtain rfl : j1 = 0 := Subsingleton.elim _ _
  exact point12 m c t0_0 j0 j2

/-- Every execution ends with the four results at these arrays and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v8_0) = fin9 m c
      ∧ r.2.mem ((c.tc : Thread nD τ).loc main_v8_1) = fin10 m c
      ∧ r.2.mem ((c.tc : Thread nD τ).loc main_v8_2) = fin11 m c
      ∧ r.2.mem ((c.tc : Thread nD τ).loc main_v8_3) = fin12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 9).trans (final9 m c),
      ((h c).1 10).trans (final10 m c),
      ((h c).1 11).trans (final11 m c),
      ((h c).1 12).trans (final12 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans ((dats m 0 c).arrAt_in 2 rfl _ |>.trans ((A_eq m c 2).trans (V_main_arg2 m c))),
      ((h c).1 3).trans ((dats m 0 c).arrAt_in 3 rfl _ |>.trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans ((dats m 0 c).arrAt_in 6 rfl _ |>.trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.ReferenceIdeal.Final

end
-- ==== Proof.Algebraic.lean ====
/-
  Hand-written, untrusted. At the extended reals, the kernel's compress call and the reference end with equal results: both
  final arrays are the same function of the argument arrays.
-/
module

public import proofs.«01_k».proof.Proof.KernelIdealFinal
public import proofs.«01_k».proof.Proof.ReferenceIdealFinal

@[expose] public section

noncomputable section

namespace Cert.Proof

open Idealize.ShloMosaic Idealize.SL.Sem

local instance : Cert.KernelIdeal.Facts := Cert.KernelIdeal.Gen.facts
local instance : Cert.ReferenceIdeal.Facts := Cert.ReferenceIdeal.Gen.facts

/-- From memories agreeing on the arguments, both programs end with the same four result arrays, equal element by element as
    extended reals, and with their arguments unchanged. -/
theorem algebraic : Cert.algebraic_KernelIdeal_ReferenceIdeal := by
  intro m g m' g' _ hag
  refine ⟨fun c => KernelIdeal.Final.fin9 m c, fun c => KernelIdeal.Final.fin10 m c, fun c => KernelIdeal.Final.fin11 m c,
    fun c => KernelIdeal.Final.fin12 m c, KernelIdeal.Final.run m g, ?_⟩
  refine (θ_run _ _ _).mono (fun r h c => ?_) (ReferenceIdeal.Final.run m' g')
  obtain ⟨h0, h1, h2, h3, h4, h5, h6, h7, h8⟩ := hag c
  have e0 : ReferenceIdeal.Final.A0 m' c = KernelIdeal.Final.A0 m c := by
    funext n g d; exact congrFun h0 (ix4 (0 : Fin 1) n g d)
  have e1 : ReferenceIdeal.Final.A1 m' c = KernelIdeal.Final.A1 m c := by
    funext n g; exact congrFun h1 (ix3 (0 : Fin 1) n g)
  have e2 : ReferenceIdeal.Final.A2 m' c = KernelIdeal.Final.A2 m c := by
    funext k d; exact congrFun h2 (ix2 k d)
  have e3 : ReferenceIdeal.Final.A3 m' c = KernelIdeal.Final.A3 m c := by
    funext κ j; exact congrFun h3 (ix2 κ j)
  have e4 : ReferenceIdeal.Final.A4 m' c = KernelIdeal.Final.A4 m c := by
    funext j; exact congrFun h4 (ix1 j)
  have e5 : ReferenceIdeal.Final.A5 m' c = KernelIdeal.Final.A5 m c := by
    funext j; exact congrFun h5 (ix1 j)
  have e6 : ReferenceIdeal.Final.A6 m' c = KernelIdeal.Final.A6 m c := by
    funext j d; exact congrFun h6 (ix2 j d)
  have e7 : ReferenceIdeal.Final.A7 m' c = KernelIdeal.Final.A7 m c := by
    funext d; exact congrFun h7 (ix1 d)
  have e8 : ReferenceIdeal.Final.A8 m' c = KernelIdeal.Final.A8 m c := by
    funext d; exact congrFun h8 (ix1 d)
  have f9 : (ReferenceIdeal.Final.fin9 m' c : _) = KernelIdeal.Final.fin9 m c := by
    unfold ReferenceIdeal.Final.fin9 KernelIdeal.Final.fin9 ReferenceIdeal.Final.rowOf KernelIdeal.Final.rowOf
    rw [e0, e1, e2, e3, e4, e5]
  have f10 : (ReferenceIdeal.Final.fin10 m' c : _) = KernelIdeal.Final.fin10 m c := by
    unfold ReferenceIdeal.Final.fin10 KernelIdeal.Final.fin10 ReferenceIdeal.Final.rowOf KernelIdeal.Final.rowOf
    rw [e0, e1, e2, e3, e4, e5]
  have f11 : (ReferenceIdeal.Final.fin11 m' c : _) = KernelIdeal.Final.fin11 m c := by
    unfold ReferenceIdeal.Final.fin11 KernelIdeal.Final.fin11 ReferenceIdeal.Final.rowOf KernelIdeal.Final.rowOf
    rw [e0, e1, e2, e3, e4, e5, e6, e7, e8]
  have f12 : (ReferenceIdeal.Final.fin12 m' c : _) = KernelIdeal.Final.fin12 m c := by
    unfold ReferenceIdeal.Final.fin12 KernelIdeal.Final.fin12 ReferenceIdeal.Final.rowOf KernelIdeal.Final.rowOf
    rw [e0, e1, e2, e3, e4, e5, e6, e7, e8]
  obtain ⟨r0, r1, r2, r3, hr⟩ := h c
  exact ⟨r0.trans f9, r1.trans f10, r2.trans f11, r3.trans f12, hr⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Attend
public import proofs.«01_k».proof.Proof.Gen.Attend.Skeleton
public import proofs.«01_k».proof.Proof.Gen.Attend.Loops
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Loops
public import proofs.«01_k».proof.Proof.Gen.AttendIdeal.Launch
public import proofs.«01_k».proof.Proof.Gen.AttendIdeal.Points
public import proofs.«01_k».proof.Proof.Gen.AttendIdeal.Frame
public import proofs.«01_k».proof.Proof.Claims
public import proofs.«01_k».proof.Proof.AttendClaims
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attend.Gen.facts, Cert.AttendIdeal.Gen.facts,
  frame_p, frame_pi, frame_ri, frame_attend, frame_attend_ideal, preserves, algebraic, preserves_attend⟩

end Cert.Proof

end
